-- ==== Defs.lean ====
def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11))
      ∧ r.2.sem = fun _ => 0)

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v15)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v15) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v28) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)) →
    ∃ (v0 : (c : Dev Cert.Kernel7Ideal.nD) → Buf (Elt Ideal) ((c.tc : Thread Cert.Kernel7Ideal.nD Cert.Kernel7Ideal.τ).loc Cert.Kernel7Ideal.main_v27_0)) (v1 : (c : Dev Cert.Kernel7Ideal.nD) → Buf (Elt Ideal) ((c.tc : Thread Cert.Kernel7Ideal.nD Cert.Kernel7Ideal.τ).loc Cert.Kernel7Ideal.main_v27_1)) (v2 : (c : Dev Cert.Kernel7Ideal.nD) → Buf (Elt Ideal) ((c.tc : Thread Cert.Kernel7Ideal.nD Cert.Kernel7Ideal.τ).loc Cert.Kernel7Ideal.main_v27_2)) (v3 : (c : Dev Cert.Kernel7Ideal.nD) → Buf (Elt Ideal) ((c.tc : Thread Cert.Kernel7Ideal.nD Cert.Kernel7Ideal.τ).loc Cert.Kernel7Ideal.main_v27_3)) (v4 : (c : Dev Cert.Kernel7Ideal.nD) → Buf (Elt Ideal) ((c.tc : Thread Cert.Kernel7Ideal.nD Cert.Kernel7Ideal.τ).loc Cert.Kernel7Ideal.main_v27_4)) (v5 : (c : Dev Cert.Kernel7Ideal.nD) → Buf (Elt Ideal) ((c.tc : Thread Cert.Kernel7Ideal.nD Cert.Kernel7Ideal.τ).loc Cert.Kernel7Ideal.main_v27_5)) (v6 : (c : Dev Cert.Kernel7Ideal.nD) → Buf (Elt Ideal) ((c.tc : Thread Cert.Kernel7Ideal.nD Cert.Kernel7Ideal.τ).loc Cert.Kernel7Ideal.main_v27_6)) (v7 : (c : Dev Cert.Kernel7Ideal.nD) → Buf (Elt Ideal) ((c.tc : Thread Cert.Kernel7Ideal.nD Cert.Kernel7Ideal.τ).loc Cert.Kernel7Ideal.main_v27_7)) (v8 : (c : Dev Cert.Kernel7Ideal.nD) → Buf (Elt Ideal) ((c.tc : Thread Cert.Kernel7Ideal.nD Cert.Kernel7Ideal.τ).loc Cert.Kernel7Ideal.main_v27_8)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v27_0) = v0 c
          ∧ r.2.mem ((c.tc : Thread Cert.Kernel7Ideal.nD Cert.Kernel7Ideal.τ).loc Cert.Kernel7Ideal.main_v27_1) = v1 c
          ∧ r.2.mem ((c.tc : Thread Cert.Kernel7Ideal.nD Cert.Kernel7Ideal.τ).loc Cert.Kernel7Ideal.main_v27_2) = v2 c
          ∧ r.2.mem ((c.tc : Thread Cert.Kernel7Ideal.nD Cert.Kernel7Ideal.τ).loc Cert.Kernel7Ideal.main_v27_3) = v3 c
          ∧ r.2.mem ((c.tc : Thread Cert.Kernel7Ideal.nD Cert.Kernel7Ideal.τ).loc Cert.Kernel7Ideal.main_v27_4) = v4 c
          ∧ r.2.mem ((c.tc : Thread Cert.Kernel7Ideal.nD Cert.Kernel7Ideal.τ).loc Cert.Kernel7Ideal.main_v27_5) = v5 c
          ∧ r.2.mem ((c.tc : Thread Cert.Kernel7Ideal.nD Cert.Kernel7Ideal.τ).loc Cert.Kernel7Ideal.main_v27_6) = v6 c
          ∧ r.2.mem ((c.tc : Thread Cert.Kernel7Ideal.nD Cert.Kernel7Ideal.τ).loc Cert.Kernel7Ideal.main_v27_7) = v7 c
          ∧ r.2.mem ((c.tc : Thread Cert.Kernel7Ideal.nD Cert.Kernel7Ideal.τ).loc Cert.Kernel7Ideal.main_v27_8) = v8 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v38) = v0 c
          ∧ r.2.mem ((c.tc : Thread Cert.Reference7Ideal.nD Cert.Reference7Ideal.τ).loc Cert.Reference7Ideal.main_v40) = v1 c
          ∧ r.2.mem ((c.tc : Thread Cert.Reference7Ideal.nD Cert.Reference7Ideal.τ).loc Cert.Reference7Ideal.main_v45) = v2 c
          ∧ r.2.mem ((c.tc : Thread Cert.Reference7Ideal.nD Cert.Reference7Ideal.τ).loc Cert.Reference7Ideal.main_v47) = v3 c
          ∧ r.2.mem ((c.tc : Thread Cert.Reference7Ideal.nD Cert.Reference7Ideal.τ).loc Cert.Reference7Ideal.main_v50) = v4 c
          ∧ r.2.mem ((c.tc : Thread Cert.Reference7Ideal.nD Cert.Reference7Ideal.τ).loc Cert.Reference7Ideal.main_v52) = v5 c
          ∧ r.2.mem ((c.tc : Thread Cert.Reference7Ideal.nD Cert.Reference7Ideal.τ).loc Cert.Reference7Ideal.main_v54) = v6 c
          ∧ r.2.mem ((c.tc : Thread Cert.Reference7Ideal.nD Cert.Reference7Ideal.τ).loc Cert.Reference7Ideal.main_v56) = v7 c
          ∧ r.2.mem ((c.tc : Thread Cert.Reference7Ideal.nD Cert.Reference7Ideal.τ).loc Cert.Reference7Ideal.main_v59) = v8 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11))

def Claim : Prop :=
  ∃ (hKernel3 : Cert.Kernel3.Facts) (hKernel3Ideal : Cert.Kernel3Ideal.Facts) (hReference3Ideal : Cert.Reference3Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel3 (hKernel3 := hKernel3)
    ∧ quiescent_Kernel3Ideal (hKernel3Ideal := hKernel3Ideal)
    ∧ quiescent_Reference3Ideal (hReference3Ideal := hReference3Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel3_Kernel3Ideal
    ∧ algebraic_Kernel3Ideal_Reference3Ideal (hKernel3Ideal := hKernel3Ideal) (hReference3Ideal := hReference3Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel3.lean ====
abbrev S2x8192x2048 : Shape := ⟨3, ![2, 8192, 2048]⟩
abbrev S1x2048x10272 : Shape := ⟨3, ![1, 2048, 10272]⟩
abbrev S16384x2048 : Shape := ⟨2, ![16384, 2048]⟩
abbrev S2048x10272 : Shape := ⟨2, ![2048, 10272]⟩
abbrev S10272x2048 : Shape := ⟨2, ![10272, 2048]⟩
abbrev S1024x2048 : Shape := ⟨2, ![1024, 2048]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S2x8192x2048, .f32⟩
  | .hbm, ⟨1, _⟩ => ⟨S1x2048x10272, .f32⟩
  | .hbm, ⟨2, _⟩ => ⟨S16384x2048, .f32⟩
  | .hbm, ⟨3, _⟩ => ⟨S16384x2048, .bf16⟩
  | .hbm, ⟨4, _⟩ => ⟨S2048x10272, .f32⟩
  | .hbm, ⟨5, _⟩ => ⟨S10272x2048, .f32⟩
  | .hbm, ⟨6, _⟩ => ⟨S10272x2048, .bf16⟩
  | .hbm, ⟨7, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def k0_mult1 (i : grid0.Coords) : BitVec 32 :=
  let c0_i32 : BitVec 32 := 0#32
  let arg1 : BitVec 32 := BitVec.ofNat 32 (i 1).val
  let c1024_i32 : BitVec 32 := 1024#32
  let v0 : BitVec 32 := Scalar.muli arg1 c1024_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S2x8192x2048 : Shape := ⟨3, ![2, 8192, 2048]⟩
abbrev S1x2048x10272 : Shape := ⟨3, ![1, 2048, 10272]⟩
abbrev S2048x10272 : Shape := ⟨2, ![2048, 10272]⟩
abbrev S2x8192x10272 : Shape := ⟨3, ![2, 8192, 10272]⟩
abbrev S_ : Shape := ⟨0, ![]⟩
abbrev S16384x2048 : Shape := ⟨2, ![16384, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S1x2048x10272, .f32⟩
  | .hbm, ⟨2, _⟩ => ⟨S2048x10272, .f32⟩
  | .hbm, ⟨3, _⟩ => ⟨S2x8192x10272, .f32⟩
  | .hbm, ⟨4, _⟩ => ⟨S2x8192x2048, .f32⟩
  | .hbm, ⟨5, _⟩ => ⟨S2x8192x2048, .f32⟩
  | .hbm, ⟨6, _⟩ => ⟨S2x8192x2048, .f32⟩
  | .hbm, ⟨7, _⟩ => ⟨S_, .f32⟩
  | .hbm, ⟨8, _⟩ => ⟨S2x8192x2048, .f32⟩
  | .hbm, ⟨9, _⟩ => ⟨S2x8192x2048, .f32⟩
  | .hbm, ⟨10, _⟩ => ⟨S_, .f32⟩
  | .hbm, ⟨11, _⟩ => ⟨S2x8192x2048, .f32⟩
  | .hbm, ⟨12, _⟩ => ⟨S2x8192x2048, .f32⟩
  | .hbm, ⟨13, _⟩ => ⟨S2x8192x2048, .f32⟩
  | .hbm, ⟨14, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩

abbrev nD : Nat := 1
abbrev τ : Topo := Topo.v7x

variable {F : FTy → Type} [FloatOps F]
-- ==== Kernel5.lean ====
abbrev S2x8192x2048 : Shape := ⟨3, ![2, 8192, 2048]⟩
abbrev S1x2048x10272 : Shape := ⟨3, ![1, 2048, 10272]⟩
abbrev S16384x2048 : Shape := ⟨2, ![16384, 2048]⟩
abbrev S2048x10272 : Shape := ⟨2, ![2048, 10272]⟩
abbrev S10272x2048 : Shape := ⟨2, ![10272, 2048]⟩
abbrev S16384x4096 : Shape := ⟨2, ![16384, 4096]⟩
abbrev S1024x2048 : Shape := ⟨2, ![1024, 2048]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S2x8192x2048, .f32⟩
  | .hbm, ⟨1, _⟩ => ⟨S1x2048x10272, .f32⟩
  | .hbm, ⟨2, _⟩ => ⟨S16384x2048, .f32⟩
  | .hbm, ⟨3, _⟩ => ⟨S16384x2048, .bf16⟩
  | .hbm, ⟨4, _⟩ => ⟨S2048x10272, .f32⟩
  | .hbm, ⟨5, _⟩ => ⟨S10272x2048, .f32⟩
  | .hbm, ⟨6, _⟩ => ⟨S10272x2048, .bf16⟩
  | .hbm, ⟨7, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let c6176_i32 : BitVec 32 := 6176#32
  let arg1 : BitVec 32 := BitVec.ofNat 32 (i 1).val
  let c1024_i32 : BitVec 32 := 1024#32
  let v0 : BitVec 32 := Scalar.muli arg1 c1024_i32
  let v1 : BitVec 32 := Scalar.addi c6176_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c6176_i32 : BitVec 32 := 6176#32
  let v1 : BitVec 32 := Scalar.addi c6176_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S2x8192x2048 : Shape := ⟨3, ![2, 8192, 2048]⟩
abbrev S1x2048x10272 : Shape := ⟨3, ![1, 2048, 10272]⟩
abbrev S2048x10272 : Shape := ⟨2, ![2048, 10272]⟩
abbrev S2x8192x10272 : Shape := ⟨3, ![2, 8192, 10272]⟩
abbrev S2x8192x4096 : Shape := ⟨3, ![2, 8192, 4096]⟩
abbrev S_ : Shape := ⟨0, ![]⟩
abbrev S16384x4096 : Shape := ⟨2, ![16384, 4096]⟩

abbrev nBuf : Space → Nat
  | .hbm => 15
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S1x2048x10272, .f32⟩
  | .hbm, ⟨2, _⟩ => ⟨S2048x10272, .f32⟩
  | .hbm, ⟨3, _⟩ => ⟨S2x8192x10272, .f32⟩
  | .hbm, ⟨4, _⟩ => ⟨S2x8192x4096, .f32⟩
  | .hbm, ⟨5, _⟩ => ⟨S2x8192x4096, .f32⟩
  | .hbm, ⟨6, _⟩ => ⟨S2x8192x4096, .f32⟩
  | .hbm, ⟨7, _⟩ => ⟨S_, .f32⟩
  | .hbm, ⟨8, _⟩ => ⟨S2x8192x4096, .f32⟩
  | .hbm, ⟨9, _⟩ => ⟨S2x8192x4096, .f32⟩
  | .hbm, ⟨10, _⟩ => ⟨S_, .f32⟩
  | .hbm, ⟨11, _⟩ => ⟨S2x8192x4096, .f32⟩
  | .hbm, ⟨12, _⟩ => ⟨S2x8192x4096, .f32⟩
  | .hbm, ⟨13, _⟩ => ⟨S16384x4096, .f32⟩
  | .hbm, ⟨14, _⟩ => ⟨S16384x4096, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel6.lean ====
abbrev S2x8192x2048 : Shape := ⟨3, ![2, 8192, 2048]⟩
abbrev S1x2048x11008 : Shape := ⟨3, ![1, 2048, 11008]⟩
abbrev S1x5504x2048 : Shape := ⟨3, ![1, 5504, 2048]⟩
abbrev S2x18432 : Shape := ⟨2, ![2, 18432]⟩
abbrev S2048 : Shape := ⟨1, ![2048]⟩
abbrev S16384x2048 : Shape := ⟨2, ![16384, 2048]⟩
abbrev S2048x11008 : Shape := ⟨2, ![2048, 11008]⟩
abbrev S2048x5504 : Shape := ⟨2, ![2048, 5504]⟩
abbrev S_ : Shape := ⟨0, ![]⟩
abbrev S2048x5632 : Shape := ⟨2, ![2048, 5632]⟩
abbrev S5504x2048 : Shape := ⟨2, ![5504, 2048]⟩
abbrev S5632x2048 : Shape := ⟨2, ![5632, 2048]⟩
abbrev S2x9x2048 : Shape := ⟨3, ![2, 9, 2048]⟩
abbrev S1x2048 : Shape := ⟨2, ![1, 2048]⟩
abbrev S1024x2048 : Shape := ⟨2, ![1024, 2048]⟩
abbrev S128x2048 : Shape := ⟨2, ![128, 2048]⟩
abbrev S2048x512 : Shape := ⟨2, ![2048, 512]⟩
abbrev S512x2048 : Shape := ⟨2, ![512, 2048]⟩
abbrev S1x9x2048 : Shape := ⟨3, ![1, 9, 2048]⟩
abbrev S2x1024x2048 : Shape := ⟨3, ![2, 1024, 2048]⟩
abbrev S512x512 : Shape := ⟨2, ![512, 512]⟩
abbrev S1x512x2048 : Shape := ⟨3, ![1, 512, 2048]⟩
abbrev S1x128x2048 : Shape := ⟨3, ![1, 128, 2048]⟩
abbrev S1x1x2048 : Shape := ⟨3, ![1, 1, 2048]⟩
abbrev S128 : Shape := ⟨1, ![128]⟩
abbrev S128x1 : Shape := ⟨2, ![128, 1]⟩

abbrev nBuf : Space → Nat
  | .hbm => 28
  | .vmem => 16
  | .smem => 0
  | _ => 0

abbrev bufTy : (tb : Table) → Fin (tcTables nBuf tb) → BufTy
  | .hbm, ⟨0, _⟩ => ⟨S2x8192x2048, .f32⟩
  | .hbm, ⟨1, _⟩ => ⟨S2x8192x2048, .f32⟩
  | .hbm, ⟨2, _⟩ => ⟨S1x2048x11008, .f32⟩
  | .hbm, ⟨3, _⟩ => ⟨S1x5504x2048, .f32⟩
  | .hbm, ⟨4, _⟩ => ⟨S2x18432, .f32⟩
  | .hbm, ⟨5, _⟩ => ⟨S2048, .f32⟩
  | .hbm, ⟨6, _⟩ => ⟨S16384x2048, .f32⟩
  | .hbm, ⟨7, _⟩ => ⟨S16384x2048, .bf16⟩
  | .hbm, ⟨8, _⟩ => ⟨S16384x2048, .f32⟩
  | .hbm, ⟨9, _⟩ => ⟨S2048x11008, .f32⟩
  | .hbm, ⟨10, _⟩ => ⟨S2048x5504, .f32⟩
  | .hbm, ⟨11, _⟩ => ⟨S_, .i32⟩
  | .hbm, ⟨12, _⟩ => ⟨S_, .f32⟩
  | .hbm, ⟨13, _⟩ => ⟨S2048x5632, .f32⟩
  | .hbm, ⟨14, _⟩ => ⟨S2048x5632, .bf16⟩
  | .hbm, ⟨15, _⟩ => ⟨S2048x5504, .f32⟩
  | .hbm, ⟨16, _⟩ => ⟨S_, .i32⟩
  | .hbm, ⟨17, _⟩ => ⟨S_, .f32⟩
  | .hbm, ⟨18, _⟩ => ⟨S2048x5632, .f32⟩
  | .hbm, ⟨19, _⟩ => ⟨S2048x5632, .bf16⟩
  | .hbm, ⟨20, _⟩ => ⟨S5504x2048, .f32⟩
  | .hbm, ⟨21, _⟩ => ⟨S_, .i32⟩
  | .hbm, ⟨22, _⟩ => ⟨S_, .f32⟩
  | .hbm, ⟨23, _⟩ => ⟨S5632x2048, .f32⟩
  | .hbm, ⟨24, _⟩ => ⟨S5632x2048, .bf16⟩
  | .hbm, ⟨25, _⟩ => ⟨S2x9x2048, .f32⟩
  | .hbm, ⟨26, _⟩ => ⟨S1x2048, .f32⟩
  | .hbm, ⟨27, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S128x2048, .f32⟩
  | .local _ .vmem, ⟨3, _⟩ => ⟨S128x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S1x9x2048, .f32⟩
  | .local _ .vmem, ⟨11, _⟩ => ⟨S1x9x2048, .f32⟩
  | .local _ .vmem, ⟨12, _⟩ => ⟨S1x2048, .f32⟩
  | .local _ .vmem, ⟨13, _⟩ => ⟨S128x2048, .f32⟩
  | .local _ .vmem, ⟨14, _⟩ => ⟨S128x2048, .f32⟩
  | .local _ .vmem, ⟨15, _⟩ => ⟨S2x1024x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_call2_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![17, 11], ![false, false]⟩

def k0_cond2 (i : grid0.Coords) : BitVec 1 :=
  let arg0 : BitVec 32 := BitVec.ofNat 32 (i 0).val
  let c0_i32_6 : BitVec 32 := 0#32
  let v16 : BitVec 1 := Scalar.cmpi .eq arg0 c0_i32_6
  let arg1 : BitVec 32 := BitVec.ofNat 32 (i 1).val
  let c8_i32 : BitVec 32 := 8#32
  let v15 : BitVec 1 := Scalar.cmpi .slt arg1 c8_i32
  let v20 : BitVec 1 := Scalar.andi v16 v15
  let v21 : BitVec 32 := Scalar.extui v20
  let c0_i32_8 : BitVec 32 := 0#32
  let v22 : BitVec 1 := Scalar.cmpi .ne v21 c0_i32_8
  v22

def k0_off1 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v54 : Index := Scalar.indexCast v9
  let c0_23 : Index := 0#32
  let c0_24 : Index := 0#32
  ![v54.toNat, 0, 0]
def k0_off2 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v86 : Index := Scalar.indexCast v9
  let c512_42 : Index := 512#32
  let c0_43 : Index := 0#32
  ![v86.toNat, 512, 0]
def k0_cond3 (i : grid0.Coords) : BitVec 1 :=
  let arg0 : BitVec 32 := BitVec.ofNat 32 (i 0).val
  let c0_i32_7 : BitVec 32 := 0#32
  let v17 : BitVec 1 := Scalar.cmpi .sgt arg0 c0_i32_7
  let c16_i32 : BitVec 32 := 16#32
  let v18 : BitVec 1 := Scalar.cmpi .slt arg0 c16_i32
  let v19 : BitVec 1 := Scalar.andi v17 v18
  let arg1 : BitVec 32 := BitVec.ofNat 32 (i 1).val
  let c8_i32 : BitVec 32 := 8#32
  let v15 : BitVec 1 := Scalar.cmpi .slt arg1 c8_i32
  let v23 : BitVec 1 := Scalar.andi v19 v15
  let v24 : BitVec 32 := Scalar.extui v23
  let c0_i32_9 : BitVec 32 := 0#32
  let v25 : BitVec 1 := Scalar.cmpi .ne v24 c0_i32_9
  v25

def k0_mult1 (i : grid0.Coords) : BitVec 32 :=
  let arg1 : BitVec 32 := BitVec.ofNat 32 (i 1).val
  let c7_i32 : BitVec 32 := 7#32
  let v35 : BitVec 32 := Scalar.minsi arg1 c7_i32
  let c128_i32 : BitVec 32 := 128#32
  let v36 : BitVec 32 := Scalar.muli v35 c128_i32
  v36
def k0_off3 (i : grid0.Coords) : Fin 3 → Nat :=
  let c1_i32_13 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v38 : BitVec 32 := Scalar.subi c1_i32_13 v9
  let v39 : Index := Scalar.indexCast v38
  let arg1 : BitVec 32 := BitVec.ofNat 32 (i 1).val
  let c7_i32 : BitVec 32 := 7#32
  let v35 : BitVec 32 := Scalar.minsi arg1 c7_i32
  let c128_i32 : BitVec 32 := 128#32
  let v36 : BitVec 32 := Scalar.muli v35 c128_i32
  let v37 : BitVec 32 := v36
  let v40 : Index := Scalar.indexCast v37
  let c0 : Index := 0#32
  ![v39.toNat, v40.toNat, 0]
def k0_off4 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v86 : Index := Scalar.indexCast v9
  let c0_37 : Index := 0#32
  let c0_38 : Index := 0#32
  ![v86.toNat, 0, 0]
def k0_off5 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v118 : Index := Scalar.indexCast v9
  let c512_56 : Index := 512#32
  let c0_57 : Index := 0#32
  ![v118.toNat, 512, 0]
def k0_cond4 (i : grid0.Coords) : BitVec 1 :=
  let arg0 : BitVec 32 := BitVec.ofNat 32 (i 0).val
  let c0_i32_6 : BitVec 32 := 0#32
  let v16 : BitVec 1 := Scalar.cmpi .eq arg0 c0_i32_6
  let c0_i32_7 : BitVec 32 := 0#32
  let v17 : BitVec 1 := Scalar.cmpi .sgt arg0 c0_i32_7
  let c16_i32 : BitVec 32 := 16#32
  let v18 : BitVec 1 := Scalar.cmpi .slt arg0 c16_i32
  let v19 : BitVec 1 := Scalar.andi v17 v18
  let v26 : BitVec 1 := Scalar.ori v16 v19
  let arg1 : BitVec 32 := BitVec.ofNat 32 (i 1).val
  let c8_i32 : BitVec 32 := 8#32
  let v15 : BitVec 1 := Scalar.cmpi .slt arg1 c8_i32
  let v_true : BitVec 1 := 1#1
  let v27 : BitVec 1 := Scalar.xori v15 v_true
  let v28 : BitVec 1 := Scalar.andi v26 v27
  let v29 : BitVec 32 := Scalar.extui v28
  let c0_i32_10 : BitVec 32 := 0#32
  let v30 : BitVec 1 := Scalar.cmpi .ne v29 c0_i32_10
  v30

def k0_off6 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v54 : Index := Scalar.indexCast v9
  let c0_23 : Index := 0#32
  let c0_24 : Index := 0#32
  ![v54.toNat, 0, 0]
def k0_off7 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v86 : Index := Scalar.indexCast v9
  let c512_42 : Index := 512#32
  let c0_43 : Index := 0#32
  ![v86.toNat, 512, 0]
def k0_cond5 (i : grid0.Coords) : BitVec 1 :=
  let arg0 : BitVec 32 := BitVec.ofNat 32 (i 0).val
  let c16_i32_11 : BitVec 32 := 16#32
  let v31 : BitVec 1 := Scalar.cmpi .eq arg0 c16_i32_11
  let arg1 : BitVec 32 := BitVec.ofNat 32 (i 1).val
  let c8_i32 : BitVec 32 := 8#32
  let v15 : BitVec 1 := Scalar.cmpi .slt arg1 c8_i32
  let v32 : BitVec 1 := Scalar.andi v31 v15
  let v33 : BitVec 32 := Scalar.extui v32
  let c0_i32_12 : BitVec 32 := 0#32
  let v34 : BitVec 1 := Scalar.cmpi .ne v33 c0_i32_12
  v34

def k0_mult2 (i : grid0.Coords) : BitVec 32 :=
  let arg1 : BitVec 32 := BitVec.ofNat 32 (i 1).val
  let c7_i32 : BitVec 32 := 7#32
  let v35 : BitVec 32 := Scalar.minsi arg1 c7_i32
  let c128_i32 : BitVec 32 := 128#32
  let v36 : BitVec 32 := Scalar.muli v35 c128_i32
  v36
def k0_off8 (i : grid0.Coords) : Fin 3 → Nat :=
  let c1_i32_13 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v38 : BitVec 32 := Scalar.subi c1_i32_13 v9
  let v39 : Index := Scalar.indexCast v38
  let arg1 : BitVec 32 := BitVec.ofNat 32 (i 1).val
  let c7_i32 : BitVec 32 := 7#32
  let v35 : BitVec 32 := Scalar.minsi arg1 c7_i32
  let c128_i32 : BitVec 32 := 128#32
  let v36 : BitVec 32 := Scalar.muli v35 c128_i32
  let v37 : BitVec 32 := v36
  let v40 : Index := Scalar.indexCast v37
  let c0 : Index := 0#32
  ![v39.toNat, v40.toNat, 0]
def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c8_i32 : BitVec 32 := 8#32
  let v2 : BitVec 32 := Scalar.muli v1 c8_i32
  let c7_i32 : BitVec 32 := 7#32
  let v3 : BitVec 32 := Scalar.minsi arg1 c7_i32
  let v4 : BitVec 32 := Scalar.addi v2 v3
  let c0_i32_0 : BitVec 32 := 0#32
  let v5 : BitVec 32 := Scalar.select v0 c0_i32_0 v4
  let c0_i32_1 : BitVec 32 := 0#32
  let c0_i32_2 : BitVec 32 := 0#32
  ![v5.toNat, c0_i32_1.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg0 c16_i32
  let c10_i32 : BitVec 32 := 10#32
  let v1 : BitVec 32 := Scalar.select v0 c10_i32 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg0 c16_i32
  let c10_i32 : BitVec 32 := 10#32
  let v1 : BitVec 32 := Scalar.select v0 c10_i32 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg0 c16_i32
  let c10_i32 : BitVec 32 := 10#32
  let v1 : BitVec 32 := Scalar.select v0 c10_i32 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c8_i32 : BitVec 32 := 8#32
  let v2 : BitVec 32 := Scalar.muli v1 c8_i32
  let c7_i32 : BitVec 32 := 7#32
  let v3 : BitVec 32 := Scalar.minsi arg1 c7_i32
  let v4 : BitVec 32 := Scalar.addi v2 v3
  let c0_i32_0 : BitVec 32 := 0#32
  let v5 : BitVec 32 := Scalar.select v0 c0_i32_0 v4
  let c0_i32_1 : BitVec 32 := 0#32
  let c0_i32_2 : BitVec 32 := 0#32
  ![v5.toNat, c0_i32_1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x9x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference6Ideal.lean ====
abbrev S2x8192x2048 : Shape := ⟨3, ![2, 8192, 2048]⟩
abbrev S1x2048x11008 : Shape := ⟨3, ![1, 2048, 11008]⟩
abbrev S1x5504x2048 : Shape := ⟨3, ![1, 5504, 2048]⟩
abbrev S2x18432 : Shape := ⟨2, ![2, 18432]⟩
abbrev S2048 : Shape := ⟨1, ![2048]⟩
abbrev S2x2048 : Shape := ⟨2, ![2, 2048]⟩
abbrev S2x1x2048 : Shape := ⟨3, ![2, 1, 2048]⟩
abbrev S2048x11008 : Shape := ⟨2, ![2048, 11008]⟩
abbrev S2x8192x11008 : Shape := ⟨3, ![2, 8192, 11008]⟩
abbrev S2x8192x5504 : Shape := ⟨3, ![2, 8192, 5504]⟩
abbrev S_ : Shape := ⟨0, ![]⟩
abbrev S5504x2048 : Shape := ⟨2, ![5504, 2048]⟩
abbrev S2x8192 : Shape := ⟨2, ![2, 8192]⟩
abbrev S2x8192x1 : Shape := ⟨3, ![2, 8192, 1]⟩
abbrev S1x1x2048 : Shape := ⟨3, ![1, 1, 2048]⟩
abbrev S16384x2048 : Shape := ⟨2, ![16384, 2048]⟩

abbrev nBuf : Space → Nat
  | .hbm => 47
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x8192x2048, .f32⟩
  | .hbm, ⟨2, _⟩ => ⟨S1x2048x11008, .f32⟩
  | .hbm, ⟨3, _⟩ => ⟨S1x5504x2048, .f32⟩
  | .hbm, ⟨4, _⟩ => ⟨S2x18432, .f32⟩
  | .hbm, ⟨5, _⟩ => ⟨S2048, .f32⟩
  | .hbm, ⟨6, _⟩ => ⟨S2x2048, .f32⟩
  | .hbm, ⟨7, _⟩ => ⟨S2x1x2048, .f32⟩
  | .hbm, ⟨8, _⟩ => ⟨S2048x11008, .f32⟩
  | .hbm, ⟨9, _⟩ => ⟨S2x8192x11008, .f32⟩
  | .hbm, ⟨10, _⟩ => ⟨S2x8192x5504, .f32⟩
  | .hbm, ⟨11, _⟩ => ⟨S2x8192x5504, .f32⟩
  | .hbm, ⟨12, _⟩ => ⟨S_, .f32⟩
  | .hbm, ⟨13, _⟩ => ⟨S2x1x2048, .f32⟩
  | .hbm, ⟨14, _⟩ => ⟨S2x1x2048, .f32⟩
  | .hbm, ⟨15, _⟩ => ⟨S2x8192x5504, .f32⟩
  | .hbm, ⟨16, _⟩ => ⟨S2x8192x5504, .f32⟩
  | .hbm, ⟨17, _⟩ => ⟨S_, .f32⟩
  | .hbm, ⟨18, _⟩ => ⟨S2x8192x5504, .f32⟩
  | .hbm, ⟨19, _⟩ => ⟨S2x8192x5504, .f32⟩
  | .hbm, ⟨20, _⟩ => ⟨S_, .f32⟩
  | .hbm, ⟨21, _⟩ => ⟨S2x8192x5504, .f32⟩
  | .hbm, ⟨22, _⟩ => ⟨S2x8192x5504, .f32⟩
  | .hbm, ⟨23, _⟩ => ⟨S2x8192x5504, .f32⟩
  | .hbm, ⟨24, _⟩ => ⟨S2x8192x5504, .f32⟩
  | .hbm, ⟨25, _⟩ => ⟨S5504x2048, .f32⟩
  | .hbm, ⟨26, _⟩ => ⟨S2x8192x2048, .f32⟩
  | .hbm, ⟨27, _⟩ => ⟨S2x8192x2048, .f32⟩
  | .hbm, ⟨28, _⟩ => ⟨S2x8192x2048, .f32⟩
  | .hbm, ⟨29, _⟩ => ⟨S2x8192x2048, .f32⟩
  | .hbm, ⟨30, _⟩ => ⟨S2x8192x2048, .f32⟩
  | .hbm, ⟨31, _⟩ => ⟨S_, .f32⟩
  | .hbm, ⟨32, _⟩ => ⟨S2x8192, .f32⟩
  | .hbm, ⟨33, _⟩ => ⟨S2x8192x1, .f32⟩
  | .hbm, ⟨34, _⟩ => ⟨S_, .f32⟩
  | .hbm, ⟨35, _⟩ => ⟨S2x8192x1, .f32⟩
  | .hbm, ⟨36, _⟩ => ⟨S2x8192x1, .f32⟩
  | .hbm, ⟨37, _⟩ => ⟨S_, .f32⟩
  | .hbm, ⟨38, _⟩ => ⟨S2x8192x1, .f32⟩
  | .hbm, ⟨39, _⟩ => ⟨S2x8192x1, .f32⟩
  | .hbm, ⟨40, _⟩ => ⟨S2x8192x1, .f32⟩
  | .hbm, ⟨41, _⟩ => ⟨S2x8192x2048, .f32⟩
  | .hbm, ⟨42, _⟩ => ⟨S2x8192x2048, .f32⟩
  | .hbm, ⟨43, _⟩ => ⟨S1x1x2048, .f32⟩
  | .hbm, ⟨44, _⟩ => ⟨S2x8192x2048, .f32⟩
  | .hbm, ⟨45, _⟩ => ⟨S2x8192x2048, .f32⟩
  | .hbm, ⟨46, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]
-- ==== Kernel7.lean ====
abbrev S2x8192x2048 : Shape := ⟨3, ![2, 8192, 2048]⟩
abbrev S1x2048x11008 : Shape := ⟨3, ![1, 2048, 11008]⟩
abbrev S1x5504x2048 : Shape := ⟨3, ![1, 5504, 2048]⟩
abbrev S2x18432 : Shape := ⟨2, ![2, 18432]⟩
abbrev S1x2048 : Shape := ⟨2, ![1, 2048]⟩
abbrev S1x2048x2048 : Shape := ⟨3, ![1, 2048, 2048]⟩
abbrev S1x1024x4096 : Shape := ⟨3, ![1, 1024, 4096]⟩
abbrev S1x2048x10272 : Shape := ⟨3, ![1, 2048, 10272]⟩
abbrev S16384x2048 : Shape := ⟨2, ![16384, 2048]⟩
abbrev S2048x11008 : Shape := ⟨2, ![2048, 11008]⟩
abbrev S2048x5504 : Shape := ⟨2, ![2048, 5504]⟩
abbrev S_ : Shape := ⟨0, ![]⟩
abbrev S2048x5632 : Shape := ⟨2, ![2048, 5632]⟩
abbrev S5504x2048 : Shape := ⟨2, ![5504, 2048]⟩
abbrev S5632x2048 : Shape := ⟨2, ![5632, 2048]⟩
abbrev S2x9x2048 : Shape := ⟨3, ![2, 9, 2048]⟩
abbrev S2048x2048 : Shape := ⟨2, ![2048, 2048]⟩
abbrev S1024x4096 : Shape := ⟨2, ![1024, 4096]⟩
abbrev S2048x10272 : Shape := ⟨2, ![2048, 10272]⟩
abbrev S10272x2048 : Shape := ⟨2, ![10272, 2048]⟩
abbrev S2048 : Shape := ⟨1, ![2048]⟩
abbrev S1024x2048 : Shape := ⟨2, ![1024, 2048]⟩
abbrev S128x2048 : Shape := ⟨2, ![128, 2048]⟩
abbrev S2048x512 : Shape := ⟨2, ![2048, 512]⟩
abbrev S512x2048 : Shape := ⟨2, ![512, 2048]⟩
abbrev S1x9x2048 : Shape := ⟨3, ![1, 9, 2048]⟩
abbrev S16x11008 : Shape := ⟨2, ![16, 11008]⟩
abbrev S64x2048 : Shape := ⟨2, ![64, 2048]⟩
abbrev S16x2048 : Shape := ⟨2, ![16, 2048]⟩
abbrev S16x4096 : Shape := ⟨2, ![16, 4096]⟩
abbrev S96x2048 : Shape := ⟨2, ![96, 2048]⟩
abbrev S16x5632 : Shape := ⟨2, ![16, 5632]⟩
abbrev S2x1024x2048 : Shape := ⟨3, ![2, 1024, 2048]⟩
abbrev S16x5504 : Shape := ⟨2, ![16, 5504]⟩
abbrev S16x128 : Shape := ⟨2, ![16, 128]⟩
abbrev S64x1 : Shape := ⟨2, ![64, 1]⟩
abbrev S512x512 : Shape := ⟨2, ![512, 512]⟩
abbrev S1x512x2048 : Shape := ⟨3, ![1, 512, 2048]⟩
abbrev S1x128x2048 : Shape := ⟨3, ![1, 128, 2048]⟩
abbrev S1x1x2048 : Shape := ⟨3, ![1, 1, 2048]⟩
abbrev S128 : Shape := ⟨1, ![128]⟩
abbrev S128x1 : Shape := ⟨2, ![128, 1]⟩

abbrev nBuf : Space → Nat
  | .hbm => 54
  | .vmem => 44
  | .smem => 0
  | _ => 0

abbrev bufTy : (tb : Table) → Fin (tcTables nBuf tb) → BufTy
  | .hbm, ⟨0, _⟩ => ⟨S2x8192x2048, .f32⟩
  | .hbm, ⟨1, _⟩ => ⟨S2x8192x2048, .f32⟩
  | .hbm, ⟨2, _⟩ => ⟨S1x2048x11008, .f32⟩
  | .hbm, ⟨3, _⟩ => ⟨S1x5504x2048, .f32⟩
  | .hbm, ⟨4, _⟩ => ⟨S2x18432, .f32⟩
  | .hbm, ⟨5, _⟩ => ⟨S1x2048, .f32⟩
  | .hbm, ⟨6, _⟩ => ⟨S1x2048x11008, .f32⟩
  | .hbm, ⟨7, _⟩ => ⟨S1x5504x2048, .f32⟩
  | .hbm, ⟨8, _⟩ => ⟨S1x2048x2048, .f32⟩
  | .hbm, ⟨9, _⟩ => ⟨S1x2048x2048, .f32⟩
  | .hbm, ⟨10, _⟩ => ⟨S1x1024x4096, .f32⟩
  | .hbm, ⟨11, _⟩ => ⟨S1x2048x10272, .f32⟩
  | .hbm, ⟨12, _⟩ => ⟨S16384x2048, .f32⟩
  | .hbm, ⟨13, _⟩ => ⟨S16384x2048, .bf16⟩
  | .hbm, ⟨14, _⟩ => ⟨S16384x2048, .f32⟩
  | .hbm, ⟨15, _⟩ => ⟨S2048x11008, .f32⟩
  | .hbm, ⟨16, _⟩ => ⟨S2048x5504, .f32⟩
  | .hbm, ⟨17, _⟩ => ⟨S_, .i32⟩
  | .hbm, ⟨18, _⟩ => ⟨S_, .f32⟩
  | .hbm, ⟨19, _⟩ => ⟨S2048x5632, .f32⟩
  | .hbm, ⟨20, _⟩ => ⟨S2048x5632, .bf16⟩
  | .hbm, ⟨21, _⟩ => ⟨S2048x11008, .f32⟩
  | .hbm, ⟨22, _⟩ => ⟨S2048x5504, .f32⟩
  | .hbm, ⟨23, _⟩ => ⟨S_, .i32⟩
  | .hbm, ⟨24, _⟩ => ⟨S_, .f32⟩
  | .hbm, ⟨25, _⟩ => ⟨S2048x5632, .f32⟩
  | .hbm, ⟨26, _⟩ => ⟨S2048x5632, .bf16⟩
  | .hbm, ⟨27, _⟩ => ⟨S5504x2048, .f32⟩
  | .hbm, ⟨28, _⟩ => ⟨S_, .i32⟩
  | .hbm, ⟨29, _⟩ => ⟨S_, .f32⟩
  | .hbm, ⟨30, _⟩ => ⟨S5632x2048, .f32⟩
  | .hbm, ⟨31, _⟩ => ⟨S5632x2048, .bf16⟩
  | .hbm, ⟨32, _⟩ => ⟨S2x9x2048, .f32⟩
  | .hbm, ⟨33, _⟩ => ⟨S2048x11008, .f32⟩
  | .hbm, ⟨34, _⟩ => ⟨S5504x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S1024x4096, .f32⟩
  | .hbm, ⟨40, _⟩ => ⟨S1024x4096, .f32⟩
  | .hbm, ⟨41, _⟩ => ⟨S2048x10272, .f32⟩
  | .hbm, ⟨42, _⟩ => ⟨S10272x2048, .f32⟩
  | .hbm, ⟨43, _⟩ => ⟨S2048, .f32⟩
  | .hbm, ⟨44, _⟩ => ⟨S1x2048, .f32⟩
  | .hbm, ⟨45, _⟩ => ⟨S16384x2048, .f32⟩
  | .hbm, ⟨46, _⟩ => ⟨S16384x2048, .bf16⟩
  | .hbm, ⟨47, _⟩ => ⟨S2048x5632, .bf16⟩
  | .hbm, ⟨48, _⟩ => ⟨S2048x5632, .bf16⟩
  | .hbm, ⟨49, _⟩ => ⟨S5632x2048, .bf16⟩
  | .hbm, ⟨50, _⟩ => ⟨S2048x2048, .bf16⟩
  | .hbm, ⟨51, _⟩ => ⟨S2048x2048, .bf16⟩
  | .hbm, ⟨52, _⟩ => ⟨S1024x4096, .bf16⟩
  | .hbm, ⟨53, _⟩ => ⟨S10272x2048, .bf16⟩
  | .local _ .vmem, ⟨0, _⟩ => ⟨S1024x2048, .bf16⟩
  | .local _ .vmem, ⟨1, _⟩ => ⟨S1024x2048, .bf16⟩
  | .local _ .vmem, ⟨2, _⟩ => ⟨S128x2048, .f32⟩
  | .local _ .vmem, ⟨3, _⟩ => ⟨S128x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S1x9x2048, .f32⟩
  | .local _ .vmem, ⟨11, _⟩ => ⟨S1x9x2048, .f32⟩
  | .local _ .vmem, ⟨12, _⟩ => ⟨S1x2048, .f32⟩
  | .local _ .vmem, ⟨13, _⟩ => ⟨S16x11008, .f32⟩
  | .local _ .vmem, ⟨14, _⟩ => ⟨S16x11008, .f32⟩
  | .local _ .vmem, ⟨15, _⟩ => ⟨S64x2048, .f32⟩
  | .local _ .vmem, ⟨16, _⟩ => ⟨S64x2048, .f32⟩
  | .local _ .vmem, ⟨17, _⟩ => ⟨S16x2048, .f32⟩
  | .local _ .vmem, ⟨18, _⟩ => ⟨S16x2048, .f32⟩
  | .local _ .vmem, ⟨19, _⟩ => ⟨S16x2048, .f32⟩
  | .local _ .vmem, ⟨20, _⟩ => ⟨S16x2048, .f32⟩
  | .local _ .vmem, ⟨21, _⟩ => ⟨S16x4096, .f32⟩
  | .local _ .vmem, ⟨22, _⟩ => ⟨S16x4096, .f32⟩
  | .local _ .vmem, ⟨23, _⟩ => ⟨S96x2048, .f32⟩
  | .local _ .vmem, ⟨24, _⟩ => ⟨S96x2048, .f32⟩
  | .local _ .vmem, ⟨25, _⟩ => ⟨S128x2048, .f32⟩
  | .local _ .vmem, ⟨26, _⟩ => ⟨S128x2048, .f32⟩
  | .local _ .vmem, ⟨27, _⟩ => ⟨S128x2048, .bf16⟩
  | .local _ .vmem, ⟨28, _⟩ => ⟨S128x2048, .bf16⟩
  | .local _ .vmem, ⟨29, _⟩ => ⟨S16x5632, .bf16⟩
  | .local _ .vmem, ⟨30, _⟩ => ⟨S16x5632, .bf16⟩
  | .local _ .vmem, ⟨31, _⟩ => ⟨S16x5632, .bf16⟩
  | .local _ .vmem, ⟨32, _⟩ => ⟨S16x5632, .bf16⟩
  | .local _ .vmem, ⟨33, _⟩ => ⟨S64x2048, .bf16⟩
  | .local _ .vmem, ⟨34, _⟩ => ⟨S64x2048, .bf16⟩
  | .local _ .vmem, ⟨35, _⟩ => ⟨S16x2048, .bf16⟩
  | .local _ .vmem, ⟨36, _⟩ => ⟨S16x2048, .bf16⟩
  | .local _ .vmem, ⟨37, _⟩ => ⟨S16x2048, .bf16⟩
  | .local _ .vmem, ⟨38, _⟩ => ⟨S16x2048, .bf16⟩
  | .local _ .vmem, ⟨39, _⟩ => ⟨S16x4096, .bf16⟩
  | .local _ .vmem, ⟨40, _⟩ => ⟨S16x4096, .bf16⟩
  | .local _ .vmem, ⟨41, _⟩ => ⟨S96x2048, .bf16⟩
  | .local _ .vmem, ⟨42, _⟩ => ⟨S96x2048, .bf16⟩
  | .local _ .vmem, ⟨43, _⟩ => ⟨S2x1024x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c_0 : Ref sig .tc := ⟨.hbm, 23, rfl⟩
abbrev main_call1_v0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_1 : Ref sig .tc := ⟨.hbm, 28, rfl⟩
abbrev main_call2_v0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27_0 : Ref sig .tc := ⟨.hbm, 45, rfl⟩
abbrev main_v27_1 : Ref sig .tc := ⟨.hbm, 46, rfl⟩
abbrev main_v27_2 : Ref sig .tc := ⟨.hbm, 47, rfl⟩
abbrev main_v27_3 : Ref sig .tc := ⟨.hbm, 48, rfl⟩
abbrev main_v27_4 : Ref sig .tc := ⟨.hbm, 49, rfl⟩
abbrev main_v27_5 : Ref sig .tc := ⟨.hbm, 50, rfl⟩
abbrev main_v27_6 : Ref sig .tc := ⟨.hbm, 51, rfl⟩
abbrev main_v27_7 : Ref sig .tc := ⟨.hbm, 52, rfl⟩
abbrev main_v27_8 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_stg20_0 : Ref sig .tc := ⟨.vmem, 39, rfl⟩
abbrev cc0_stg20_1 : Ref sig .tc := ⟨.vmem, 40, rfl⟩
abbrev cc0_stg21_0 : Ref sig .tc := ⟨.vmem, 41, rfl⟩
abbrev cc0_stg21_1 : Ref sig .tc := ⟨.vmem, 42, rfl⟩
abbrev cc0_scratch0 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39
abbrev cc0_sem20_1 : DmaSem sig := 40
abbrev cc0_sem21_0 : DmaSem sig := 41
abbrev cc0_sem21_1 : DmaSem sig := 42

abbrev nD : Nat := 1
abbrev τ : Topo := Topo.v7x

variable {F : FTy → Type} [FloatOps F]

abbrev grid0 : Pipeline.Grid := ⟨2, ![17, 11], ![false, false]⟩

def k0_cond2 (i : grid0.Coords) : BitVec 1 :=
  let arg0 : BitVec 32 := BitVec.ofNat 32 (i 0).val
  let c0_i32_6 : BitVec 32 := 0#32
  let v16 : BitVec 1 := Scalar.cmpi .eq arg0 c0_i32_6
  let arg1 : BitVec 32 := BitVec.ofNat 32 (i 1).val
  let c8_i32 : BitVec 32 := 8#32
  let v15 : BitVec 1 := Scalar.cmpi .slt arg1 c8_i32
  let v20 : BitVec 1 := Scalar.andi v16 v15
  let v21 : BitVec 32 := Scalar.extui v20
  let c0_i32_8 : BitVec 32 := 0#32
  let v22 : BitVec 1 := Scalar.cmpi .ne v21 c0_i32_8
  v22

def k0_off1 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : Index := Scalar.indexCast v9
  let c0_58 : Index := 0#32
  let c0_59 : Index := 0#32
  ![v100.toNat, 0, 0]
def k0_off2 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v132 : Index := Scalar.indexCast v9
  let c512_77 : Index := 512#32
  let c0_78 : Index := 0#32
  ![v132.toNat, 512, 0]
def k0_cond3 (i : grid0.Coords) : BitVec 1 :=
  let arg0 : BitVec 32 := BitVec.ofNat 32 (i 0).val
  let c0_i32_7 : BitVec 32 := 0#32
  let v17 : BitVec 1 := Scalar.cmpi .sgt arg0 c0_i32_7
  let c16_i32 : BitVec 32 := 16#32
  let v18 : BitVec 1 := Scalar.cmpi .slt arg0 c16_i32
  let v19 : BitVec 1 := Scalar.andi v17 v18
  let arg1 : BitVec 32 := BitVec.ofNat 32 (i 1).val
  let c8_i32 : BitVec 32 := 8#32
  let v15 : BitVec 1 := Scalar.cmpi .slt arg1 c8_i32
  let v23 : BitVec 1 := Scalar.andi v19 v15
  let v24 : BitVec 32 := Scalar.extui v23
  let c0_i32_9 : BitVec 32 := 0#32
  let v25 : BitVec 1 := Scalar.cmpi .ne v24 c0_i32_9
  v25

def k0_mult1 (i : grid0.Coords) : BitVec 32 :=
  let arg1 : BitVec 32 := BitVec.ofNat 32 (i 1).val
  let c7_i32 : BitVec 32 := 7#32
  let v35 : BitVec 32 := Scalar.minsi arg1 c7_i32
  let c128_i32 : BitVec 32 := 128#32
  let v36 : BitVec 32 := Scalar.muli v35 c128_i32
  v36
def k0_off3 (i : grid0.Coords) : Fin 3 → Nat :=
  let c1_i32_13 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v38 : BitVec 32 := Scalar.subi c1_i32_13 v9
  let v39 : Index := Scalar.indexCast v38
  let arg1 : BitVec 32 := BitVec.ofNat 32 (i 1).val
  let c7_i32 : BitVec 32 := 7#32
  let v35 : BitVec 32 := Scalar.minsi arg1 c7_i32
  let c128_i32 : BitVec 32 := 128#32
  let v36 : BitVec 32 := Scalar.muli v35 c128_i32
  let v37 : BitVec 32 := v36
  let v40 : Index := Scalar.indexCast v37
  let c0 : Index := 0#32
  ![v39.toNat, v40.toNat, 0]
def k0_off4 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v144 : Index := Scalar.indexCast v9
  let c0_80 : Index := 0#32
  let c0_81 : Index := 0#32
  ![v144.toNat, 0, 0]
def k0_off5 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v176 : Index := Scalar.indexCast v9
  let c512_99 : Index := 512#32
  let c0_100 : Index := 0#32
  ![v176.toNat, 512, 0]
def k0_cond4 (i : grid0.Coords) : BitVec 1 :=
  let arg0 : BitVec 32 := BitVec.ofNat 32 (i 0).val
  let c0_i32_6 : BitVec 32 := 0#32
  let v16 : BitVec 1 := Scalar.cmpi .eq arg0 c0_i32_6
  let c0_i32_7 : BitVec 32 := 0#32
  let v17 : BitVec 1 := Scalar.cmpi .sgt arg0 c0_i32_7
  let c16_i32 : BitVec 32 := 16#32
  let v18 : BitVec 1 := Scalar.cmpi .slt arg0 c16_i32
  let v19 : BitVec 1 := Scalar.andi v17 v18
  let v26 : BitVec 1 := Scalar.ori v16 v19
  let arg1 : BitVec 32 := BitVec.ofNat 32 (i 1).val
  let c8_i32 : BitVec 32 := 8#32
  let v15 : BitVec 1 := Scalar.cmpi .slt arg1 c8_i32
  let v_true : BitVec 1 := 1#1
  let v27 : BitVec 1 := Scalar.xori v15 v_true
  let v28 : BitVec 1 := Scalar.andi v26 v27
  let v29 : BitVec 32 := Scalar.extui v28
  let c0_i32_10 : BitVec 32 := 0#32
  let v30 : BitVec 1 := Scalar.cmpi .ne v29 c0_i32_10
  v30

def k0_off6 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v54 : Index := Scalar.indexCast v9
  let c0_23 : Index := 0#32
  let c0_24 : Index := 0#32
  ![v54.toNat, 0, 0]
def k0_off7 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v86 : Index := Scalar.indexCast v9
  let c512_42 : Index := 512#32
  let c0_43 : Index := 0#32
  ![v86.toNat, 512, 0]
def k0_cond5 (i : grid0.Coords) : BitVec 1 :=
  let arg0 : BitVec 32 := BitVec.ofNat 32 (i 0).val
  let c16_i32_11 : BitVec 32 := 16#32
  let v31 : BitVec 1 := Scalar.cmpi .eq arg0 c16_i32_11
  let arg1 : BitVec 32 := BitVec.ofNat 32 (i 1).val
  let c8_i32 : BitVec 32 := 8#32
  let v15 : BitVec 1 := Scalar.cmpi .slt arg1 c8_i32
  let v32 : BitVec 1 := Scalar.andi v31 v15
  let v33 : BitVec 32 := Scalar.extui v32
  let c0_i32_12 : BitVec 32 := 0#32
  let v34 : BitVec 1 := Scalar.cmpi .ne v33 c0_i32_12
  v34

def k0_mult2 (i : grid0.Coords) : BitVec 32 :=
  let arg1 : BitVec 32 := BitVec.ofNat 32 (i 1).val
  let c7_i32 : BitVec 32 := 7#32
  let v35 : BitVec 32 := Scalar.minsi arg1 c7_i32
  let c128_i32 : BitVec 32 := 128#32
  let v36 : BitVec 32 := Scalar.muli v35 c128_i32
  v36
def k0_off8 (i : grid0.Coords) : Fin 3 → Nat :=
  let c1_i32_13 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v38 : BitVec 32 := Scalar.subi c1_i32_13 v9
  let v39 : Index := Scalar.indexCast v38
  let arg1 : BitVec 32 := BitVec.ofNat 32 (i 1).val
  let c7_i32 : BitVec 32 := 7#32
  let v35 : BitVec 32 := Scalar.minsi arg1 c7_i32
  let c128_i32 : BitVec 32 := 128#32
  let v36 : BitVec 32 := Scalar.muli v35 c128_i32
  let v37 : BitVec 32 := v36
  let v40 : Index := Scalar.indexCast v37
  let c0 : Index := 0#32
  ![v39.toNat, v40.toNat, 0]
def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c8_i32 : BitVec 32 := 8#32
  let v2 : BitVec 32 := Scalar.muli v1 c8_i32
  let c7_i32 : BitVec 32 := 7#32
  let v3 : BitVec 32 := Scalar.minsi arg1 c7_i32
  let v4 : BitVec 32 := Scalar.addi v2 v3
  let c0_i32_0 : BitVec 32 := 0#32
  let v5 : BitVec 32 := Scalar.select v0 c0_i32_0 v4
  let c0_i32_1 : BitVec 32 := 0#32
  let c0_i32_2 : BitVec 32 := 0#32
  ![v5.toNat, c0_i32_1.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg0 c16_i32
  let c10_i32 : BitVec 32 := 10#32
  let v1 : BitVec 32 := Scalar.select v0 c10_i32 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg0 c16_i32
  let c10_i32 : BitVec 32 := 10#32
  let v1 : BitVec 32 := Scalar.select v0 c10_i32 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg0 c16_i32
  let c10_i32 : BitVec 32 := 10#32
  let v1 : BitVec 32 := Scalar.select v0 c10_i32 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg0 c16_i32
  let c8_i32 : BitVec 32 := 8#32
  let v1 : BitVec 32 := Scalar.muli arg0 c8_i32
  let c7_i32 : BitVec 32 := 7#32
  let v2 : BitVec 32 := Scalar.minsi arg1 c7_i32
  let v3 : BitVec 32 := Scalar.addi v1 v2
  let c127_i32 : BitVec 32 := 127#32
  let v4 : BitVec 32 := Scalar.select v0 c127_i32 v3
  let c127_i32_0 : BitVec 32 := 127#32
  let v5 : BitVec 32 := Scalar.minsi v4 c127_i32_0
  let c127_i32_1 : BitVec 32 := 127#32
  let v6 : BitVec 32 := Scalar.minsi v5 c127_i32_1
  let c0_i32 : BitVec 32 := 0#32
  let c0_i32_2 : BitVec 32 := 0#32
  ![v6.toNat, c0_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg0 c16_i32
  let c8_i32 : BitVec 32 := 8#32
  let v1 : BitVec 32 := Scalar.muli arg0 c8_i32
  let c7_i32 : BitVec 32 := 7#32
  let v2 : BitVec 32 := Scalar.minsi arg1 c7_i32
  let v3 : BitVec 32 := Scalar.addi v1 v2
  let c127_i32 : BitVec 32 := 127#32
  let v4 : BitVec 32 := Scalar.select v0 c127_i32 v3
  let c87_i32 : BitVec 32 := 87#32
  let v5 : BitVec 32 := Scalar.minsi v4 c87_i32
  let c85_i32 : BitVec 32 := 85#32
  let v6 : BitVec 32 := Scalar.minsi v5 c85_i32
  let c0_i32 : BitVec 32 := 0#32
  let c0_i32_0 : BitVec 32 := 0#32
  ![v6.toNat, c0_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg0 c16_i32
  let c8_i32 : BitVec 32 := 8#32
  let v1 : BitVec 32 := Scalar.muli arg0 c8_i32
  let c7_i32 : BitVec 32 := 7#32
  let v2 : BitVec 32 := Scalar.minsi arg1 c7_i32
  let v3 : BitVec 32 := Scalar.addi v1 v2
  let c127_i32 : BitVec 32 := 127#32
  let v4 : BitVec 32 := Scalar.select v0 c127_i32 v3
  let c127_i32_0 : BitVec 32 := 127#32
  let v5 : BitVec 32 := Scalar.minsi v4 c127_i32_0
  let c127_i32_1 : BitVec 32 := 127#32
  let v6 : BitVec 32 := Scalar.minsi v5 c127_i32_1
  let c0_i32 : BitVec 32 := 0#32
  let c0_i32_2 : BitVec 32 := 0#32
  ![v6.toNat, c0_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg0 c16_i32
  let c8_i32 : BitVec 32 := 8#32
  let v1 : BitVec 32 := Scalar.muli arg0 c8_i32
  let c7_i32 : BitVec 32 := 7#32
  let v2 : BitVec 32 := Scalar.minsi arg1 c7_i32
  let v3 : BitVec 32 := Scalar.addi v1 v2
  let c127_i32 : BitVec 32 := 127#32
  let v4 : BitVec 32 := Scalar.select v0 c127_i32 v3
  let c127_i32_0 : BitVec 32 := 127#32
  let v5 : BitVec 32 := Scalar.minsi v4 c127_i32_0
  let c127_i32_1 : BitVec 32 := 127#32
  let v6 : BitVec 32 := Scalar.minsi v5 c127_i32_1
  let c0_i32 : BitVec 32 := 0#32
  let c0_i32_2 : BitVec 32 := 0#32
  ![v6.toNat, c0_i32.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg0 c16_i32
  let c8_i32 : BitVec 32 := 8#32
  let v1 : BitVec 32 := Scalar.muli arg0 c8_i32
  let c7_i32 : BitVec 32 := 7#32
  let v2 : BitVec 32 := Scalar.minsi arg1 c7_i32
  let v3 : BitVec 32 := Scalar.addi v1 v2
  let c127_i32 : BitVec 32 := 127#32
  let v4 : BitVec 32 := Scalar.select v0 c127_i32 v3
  let c63_i32 : BitVec 32 := 63#32
  let v5 : BitVec 32 := Scalar.minsi v4 c63_i32
  let c63_i32_0 : BitVec 32 := 63#32
  let v6 : BitVec 32 := Scalar.minsi v5 c63_i32_0
  let c0_i32 : BitVec 32 := 0#32
  let c0_i32_1 : BitVec 32 := 0#32
  ![v6.toNat, c0_i32.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg0 c16_i32
  let c8_i32 : BitVec 32 := 8#32
  let v1 : BitVec 32 := Scalar.muli arg0 c8_i32
  let c7_i32 : BitVec 32 := 7#32
  let v2 : BitVec 32 := Scalar.minsi arg1 c7_i32
  let v3 : BitVec 32 := Scalar.addi v1 v2
  let c127_i32 : BitVec 32 := 127#32
  let v4 : BitVec 32 := Scalar.select v0 c127_i32 v3
  let c106_i32 : BitVec 32 := 106#32
  let v5 : BitVec 32 := Scalar.minsi v4 c106_i32
  let c106_i32_0 : BitVec 32 := 106#32
  let v6 : BitVec 32 := Scalar.minsi v5 c106_i32_0
  let c0_i32 : BitVec 32 := 0#32
  let c0_i32_1 : BitVec 32 := 0#32
  ![v6.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c8_i32 : BitVec 32 := 8#32
  let v2 : BitVec 32 := Scalar.muli v1 c8_i32
  let c7_i32 : BitVec 32 := 7#32
  let v3 : BitVec 32 := Scalar.minsi arg1 c7_i32
  let v4 : BitVec 32 := Scalar.addi v2 v3
  let c0_i32_0 : BitVec 32 := 0#32
  let v5 : BitVec 32 := Scalar.select v0 c0_i32_0 v4
  let c0_i32_1 : BitVec 32 := 0#32
  let c0_i32_2 : BitVec 32 := 0#32
  ![v5.toNat, c0_i32_1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c8_i32 : BitVec 32 := 8#32
  let v2 : BitVec 32 := Scalar.muli v1 c8_i32
  let c7_i32 : BitVec 32 := 7#32
  let v3 : BitVec 32 := Scalar.minsi arg1 c7_i32
  let v4 : BitVec 32 := Scalar.addi v2 v3
  let c0_i32_0 : BitVec 32 := 0#32
  let v5 : BitVec 32 := Scalar.select v0 c0_i32_0 v4
  let c0_i32_1 : BitVec 32 := 0#32
  let c0_i32_2 : BitVec 32 := 0#32
  ![v5.toNat, c0_i32_1.toNat]

def cc0_transform_15 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg0 c16_i32
  let c8_i32 : BitVec 32 := 8#32
  let v1 : BitVec 32 := Scalar.muli arg0 c8_i32
  let c7_i32 : BitVec 32 := 7#32
  let v2 : BitVec 32 := Scalar.minsi arg1 c7_i32
  let v3 : BitVec 32 := Scalar.addi v1 v2
  let c127_i32 : BitVec 32 := 127#32
  let v4 : BitVec 32 := Scalar.select v0 c127_i32 v3
  let c127_i32_0 : BitVec 32 := 127#32
  let v5 : BitVec 32 := Scalar.minsi v4 c127_i32_0
  let c0_i32 : BitVec 32 := 0#32
  let c0_i32_1 : BitVec 32 := 0#32
  ![v5.toNat, c0_i32.toNat]

def cc0_transform_16 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg0 c16_i32
  let c8_i32 : BitVec 32 := 8#32
  let v1 : BitVec 32 := Scalar.muli arg0 c8_i32
  let c7_i32 : BitVec 32 := 7#32
  let v2 : BitVec 32 := Scalar.minsi arg1 c7_i32
  let v3 : BitVec 32 := Scalar.addi v1 v2
  let c127_i32 : BitVec 32 := 127#32
  let v4 : BitVec 32 := Scalar.select v0 c127_i32 v3
  let c127_i32_0 : BitVec 32 := 127#32
  let v5 : BitVec 32 := Scalar.minsi v4 c127_i32_0
  let c0_i32 : BitVec 32 := 0#32
  let c0_i32_1 : BitVec 32 := 0#32
  ![v5.toNat, c0_i32.toNat]

def cc0_transform_17 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg0 c16_i32
  let c8_i32 : BitVec 32 := 8#32
  let v1 : BitVec 32 := Scalar.muli arg0 c8_i32
  let c7_i32 : BitVec 32 := 7#32
  let v2 : BitVec 32 := Scalar.minsi arg1 c7_i32
  let v3 : BitVec 32 := Scalar.addi v1 v2
  let c127_i32 : BitVec 32 := 127#32
  let v4 : BitVec 32 := Scalar.select v0 c127_i32 v3
  let c87_i32 : BitVec 32 := 87#32
  let v5 : BitVec 32 := Scalar.minsi v4 c87_i32
  let c0_i32 : BitVec 32 := 0#32
  let c0_i32_0 : BitVec 32 := 0#32
  ![v5.toNat, c0_i32.toNat]

def cc0_transform_18 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg0 c16_i32
  let c8_i32 : BitVec 32 := 8#32
  let v1 : BitVec 32 := Scalar.muli arg0 c8_i32
  let c7_i32 : BitVec 32 := 7#32
  let v2 : BitVec 32 := Scalar.minsi arg1 c7_i32
  let v3 : BitVec 32 := Scalar.addi v1 v2
  let c127_i32 : BitVec 32 := 127#32
  let v4 : BitVec 32 := Scalar.select v0 c127_i32 v3
  let c127_i32_0 : BitVec 32 := 127#32
  let v5 : BitVec 32 := Scalar.minsi v4 c127_i32_0
  let c0_i32 : BitVec 32 := 0#32
  let c0_i32_1 : BitVec 32 := 0#32
  ![v5.toNat, c0_i32.toNat]

def cc0_transform_19 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg0 c16_i32
  let c8_i32 : BitVec 32 := 8#32
  let v1 : BitVec 32 := Scalar.muli arg0 c8_i32
  let c7_i32 : BitVec 32 := 7#32
  let v2 : BitVec 32 := Scalar.minsi arg1 c7_i32
  let v3 : BitVec 32 := Scalar.addi v1 v2
  let c127_i32 : BitVec 32 := 127#32
  let v4 : BitVec 32 := Scalar.select v0 c127_i32 v3
  let c127_i32_0 : BitVec 32 := 127#32
  let v5 : BitVec 32 := Scalar.minsi v4 c127_i32_0
  let c0_i32 : BitVec 32 := 0#32
  let c0_i32_1 : BitVec 32 := 0#32
  ![v5.toNat, c0_i32.toNat]

def cc0_transform_20 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg0 c16_i32
  let c8_i32 : BitVec 32 := 8#32
  let v1 : BitVec 32 := Scalar.muli arg0 c8_i32
  let c7_i32 : BitVec 32 := 7#32
  let v2 : BitVec 32 := Scalar.minsi arg1 c7_i32
  let v3 : BitVec 32 := Scalar.addi v1 v2
  let c127_i32 : BitVec 32 := 127#32
  let v4 : BitVec 32 := Scalar.select v0 c127_i32 v3
  let c63_i32 : BitVec 32 := 63#32
  let v5 : BitVec 32 := Scalar.minsi v4 c63_i32
  let c0_i32 : BitVec 32 := 0#32
  let c0_i32_0 : BitVec 32 := 0#32
  ![v5.toNat, c0_i32.toNat]

def cc0_transform_21 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg0 c16_i32
  let c8_i32 : BitVec 32 := 8#32
  let v1 : BitVec 32 := Scalar.muli arg0 c8_i32
  let c7_i32 : BitVec 32 := 7#32
  let v2 : BitVec 32 := Scalar.minsi arg1 c7_i32
  let v3 : BitVec 32 := Scalar.addi v1 v2
  let c127_i32 : BitVec 32 := 127#32
  let v4 : BitVec 32 := Scalar.select v0 c127_i32 v3
  let c106_i32 : BitVec 32 := 106#32
  let v5 : BitVec 32 := Scalar.minsi v4 c106_i32
  let c0_i32 : BitVec 32 := 0#32
  let c0_i32_0 : BitVec 32 := 0#32
  ![v5.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x9x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S16x11008 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S16x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S16x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S96x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S16x5632 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S16x5632 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S64x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S16x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S16x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S16x4096 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S96x2048 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== Reference7Ideal.lean ====
abbrev S2x8192x2048 : Shape := ⟨3, ![2, 8192, 2048]⟩
abbrev S1x2048x11008 : Shape := ⟨3, ![1, 2048, 11008]⟩
abbrev S1x5504x2048 : Shape := ⟨3, ![1, 5504, 2048]⟩
abbrev S2x18432 : Shape := ⟨2, ![2, 18432]⟩
abbrev S1x2048 : Shape := ⟨2, ![1, 2048]⟩
abbrev S1x2048x2048 : Shape := ⟨3, ![1, 2048, 2048]⟩
abbrev S1x1024x4096 : Shape := ⟨3, ![1, 1024, 4096]⟩
abbrev S1x2048x10272 : Shape := ⟨3, ![1, 2048, 10272]⟩
abbrev S2x6144 : Shape := ⟨2, ![2, 6144]⟩
abbrev S2x1x6144 : Shape := ⟨3, ![2, 1, 6144]⟩
abbrev S2x1x2048 : Shape := ⟨3, ![2, 1, 2048]⟩
abbrev S2048x11008 : Shape := ⟨2, ![2048, 11008]⟩
abbrev S2x8192x11008 : Shape := ⟨3, ![2, 8192, 11008]⟩
abbrev S2x8192x5504 : Shape := ⟨3, ![2, 8192, 5504]⟩
abbrev S_ : Shape := ⟨0, ![]⟩
abbrev S5504x2048 : Shape := ⟨2, ![5504, 2048]⟩
abbrev S2x8192 : Shape := ⟨2, ![2, 8192]⟩
abbrev S2x8192x1 : Shape := ⟨3, ![2, 8192, 1]⟩
abbrev S2048 : Shape := ⟨1, ![2048]⟩
abbrev S1x1x2048 : Shape := ⟨3, ![1, 1, 2048]⟩
abbrev S16384x2048 : Shape := ⟨2, ![16384, 2048]⟩
abbrev S2048x5504 : Shape := ⟨2, ![2048, 5504]⟩
abbrev S2048x5632 : Shape := ⟨2, ![2048, 5632]⟩
abbrev S5632x2048 : Shape := ⟨2, ![5632, 2048]⟩
abbrev S2048x2048 : Shape := ⟨2, ![2048, 2048]⟩
abbrev S1024x4096 : Shape := ⟨2, ![1024, 4096]⟩
abbrev S2048x10272 : Shape := ⟨2, ![2048, 10272]⟩
abbrev S10272x2048 : Shape := ⟨2, ![10272, 2048]⟩

abbrev nBuf : Space → Nat
  | .hbm => 91
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x8192x2048, .f32⟩
  | .hbm, ⟨2, _⟩ => ⟨S1x2048x11008, .f32⟩
  | .hbm, ⟨3, _⟩ => ⟨S1x5504x2048, .f32⟩
  | .hbm, ⟨4, _⟩ => ⟨S2x18432, .f32⟩
  | .hbm, ⟨5, _⟩ => ⟨S1x2048, .f32⟩
  | .hbm, ⟨6, _⟩ => ⟨S1x2048x11008, .f32⟩
  | .hbm, ⟨7, _⟩ => ⟨S1x5504x2048, .f32⟩
  | .hbm, ⟨8, _⟩ => ⟨S1x2048x2048, .f32⟩
  | .hbm, ⟨9, _⟩ => ⟨S1x2048x2048, .f32⟩
  | .hbm, ⟨10, _⟩ => ⟨S1x1024x4096, .f32⟩
  | .hbm, ⟨11, _⟩ => ⟨S1x2048x10272, .f32⟩
  | .hbm, ⟨12, _⟩ => ⟨S2x6144, .f32⟩
  | .hbm, ⟨13, _⟩ => ⟨S2x1x6144, .f32⟩
  | .hbm, ⟨14, _⟩ => ⟨S2x1x2048, .f32⟩
  | .hbm, ⟨15, _⟩ => ⟨S2x1x2048, .f32⟩
  | .hbm, ⟨16, _⟩ => ⟨S2x1x2048, .f32⟩
  | .hbm, ⟨17, _⟩ => ⟨S2048x11008, .f32⟩
  | .hbm, ⟨18, _⟩ => ⟨S2x8192x11008, .f32⟩
  | .hbm, ⟨19, _⟩ => ⟨S2x8192x5504, .f32⟩
  | .hbm, ⟨20, _⟩ => ⟨S2x8192x5504, .f32⟩
  | .hbm, ⟨21, _⟩ => ⟨S_, .f32⟩
  | .hbm, ⟨22, _⟩ => ⟨S2x1x2048, .f32⟩
  | .hbm, ⟨23, _⟩ => ⟨S2x1x2048, .f32⟩
  | .hbm, ⟨24, _⟩ => ⟨S2x8192x5504, .f32⟩
  | .hbm, ⟨25, _⟩ => ⟨S2x8192x5504, .f32⟩
  | .hbm, ⟨26, _⟩ => ⟨S_, .f32⟩
  | .hbm, ⟨27, _⟩ => ⟨S2x8192x5504, .f32⟩
  | .hbm, ⟨28, _⟩ => ⟨S2x8192x5504, .f32⟩
  | .hbm, ⟨29, _⟩ => ⟨S_, .f32⟩
  | .hbm, ⟨30, _⟩ => ⟨S2x8192x5504, .f32⟩
  | .hbm, ⟨31, _⟩ => ⟨S2x8192x5504, .f32⟩
  | .hbm, ⟨32, _⟩ => ⟨S2x8192x5504, .f32⟩
  | .hbm, ⟨33, _⟩ => ⟨S2x8192x5504, .f32⟩
  | .hbm, ⟨34, _⟩ => ⟨S5504x2048, .f32⟩
  | .hbm, ⟨35, _⟩ => ⟨S2x8192x2048, .f32⟩
  | .hbm, ⟨36, _⟩ => ⟨S2x8192x2048, .f32⟩
  | .hbm, ⟨37, _⟩ => ⟨S2x8192x2048, .f32⟩
  | .hbm, ⟨38, _⟩ => ⟨S2x8192x2048, .f32⟩
  | .hbm, ⟨39, _⟩ => ⟨S2x8192x2048, .f32⟩
  | .hbm, ⟨40, _⟩ => ⟨S_, .f32⟩
  | .hbm, ⟨41, _⟩ => ⟨S2x8192, .f32⟩
  | .hbm, ⟨42, _⟩ => ⟨S2x8192x1, .f32⟩
  | .hbm, ⟨43, _⟩ => ⟨S_, .f32⟩
  | .hbm, ⟨44, _⟩ => ⟨S2x8192x1, .f32⟩
  | .hbm, ⟨45, _⟩ => ⟨S2x8192x1, .f32⟩
  | .hbm, ⟨46, _⟩ => ⟨S_, .f32⟩
  | .hbm, ⟨47, _⟩ => ⟨S2x8192x1, .f32⟩
  | .hbm, ⟨48, _⟩ => ⟨S2x8192x1, .f32⟩
  | .hbm, ⟨49, _⟩ => ⟨S2x8192x1, .f32⟩
  | .hbm, ⟨50, _⟩ => ⟨S2x8192x2048, .f32⟩
  | .hbm, ⟨51, _⟩ => ⟨S2x8192x2048, .f32⟩
  | .hbm, ⟨52, _⟩ => ⟨S2048, .f32⟩
  | .hbm, ⟨53, _⟩ => ⟨S1x1x2048, .f32⟩
  | .hbm, ⟨54, _⟩ => ⟨S2x8192x2048, .f32⟩
  | .hbm, ⟨55, _⟩ => ⟨S2x8192x2048, .f32⟩
  | .hbm, ⟨56, _⟩ => ⟨S_, .f32⟩
  | .hbm, ⟨57, _⟩ => ⟨S2x1x2048, .f32⟩
  | .hbm, ⟨58, _⟩ => ⟨S2x1x2048, .f32⟩
  | .hbm, ⟨59, _⟩ => ⟨S2x8192x2048, .f32⟩
  | .hbm, ⟨60, _⟩ => ⟨S2x8192x2048, .f32⟩
  | .hbm, ⟨61, _⟩ => ⟨S2x8192x2048, .f32⟩
  | .hbm, ⟨62, _⟩ => ⟨S2x8192x2048, .f32⟩
  | .hbm, ⟨63, _⟩ => ⟨S16384x2048, .f32⟩
  | .hbm, ⟨64, _⟩ => ⟨S16384x2048, .f32⟩
  | .hbm, ⟨65, _⟩ => ⟨S16384x2048, .bf16⟩
  | .hbm, ⟨66, _⟩ => ⟨S2048x11008, .f32⟩
  | .hbm, ⟨67, _⟩ => ⟨S2048x5504, .f32⟩
  | .hbm, ⟨68, _⟩ => ⟨S2048x5504, .f32⟩
  | .hbm, ⟨69, _⟩ => ⟨S_, .i32⟩
  | .hbm, ⟨70, _⟩ => ⟨S_, .f32⟩
  | .hbm, ⟨71, _⟩ => ⟨S2048x5632, .f32⟩
  | .hbm, ⟨72, _⟩ => ⟨S2048x5632, .bf16⟩
  | .hbm, ⟨73, _⟩ => ⟨S_, .i32⟩
  | .hbm, ⟨74, _⟩ => ⟨S_, .f32⟩
  | .hbm, ⟨75, _⟩ => ⟨S2048x5632, .f32⟩
  | .hbm, ⟨76, _⟩ => ⟨S2048x5632, .bf16⟩
  | .hbm, ⟨77, _⟩ => ⟨S5504x2048, .f32⟩
  | .hbm, ⟨78, _⟩ => ⟨S_, .i32⟩
  | .hbm, ⟨79, _⟩ => ⟨S_, .f32⟩
  | .hbm, ⟨80, _⟩ => ⟨S5632x2048, .f32⟩
  | .hbm, ⟨81, _⟩ => ⟨S5632x2048, .bf16⟩
  | .hbm, ⟨82, _⟩ => ⟨S2048x2048, .f32⟩
  | .hbm, ⟨83, _⟩ => ⟨S2048x2048, .bf16⟩
  | .hbm, ⟨84, _⟩ => ⟨S2048x2048, .f32⟩
  | .hbm, ⟨85, _⟩ => ⟨S2048x2048, .bf16⟩
  | .hbm, ⟨86, _⟩ => ⟨S1024x4096, .f32⟩
  | .hbm, ⟨87, _⟩ => ⟨S1024x4096, .bf16⟩
  | .hbm, ⟨88, _⟩ => ⟨S2048x10272, .f32⟩
  | .hbm, ⟨89, _⟩ => ⟨S10272x2048, .f32⟩
  | .hbm, ⟨90, _⟩ => ⟨S10272x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_0 : Ref sig .tc := ⟨.hbm, 40, rfl⟩
abbrev main_v19 : Ref sig .tc := ⟨.hbm, 41, rfl⟩
abbrev main_v20 : Ref sig .tc := ⟨.hbm, 42, rfl⟩
abbrev main_cst_1 : Ref sig .tc := ⟨.hbm, 43, rfl⟩
abbrev main_v21 : Ref sig .tc := ⟨.hbm, 44, rfl⟩
abbrev main_v22 : Ref sig .tc := ⟨.hbm, 45, rfl⟩
abbrev main_cst_2 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_3 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c : Ref sig .tc := ⟨.hbm, 69, rfl⟩
abbrev main_call1_v0 : Ref sig .tc := ⟨.hbm, 70, rfl⟩
abbrev main_v44 : Ref sig .tc := ⟨.hbm, 71, rfl⟩
abbrev main_v45 : Ref sig .tc := ⟨.hbm, 72, rfl⟩
abbrev main_c_4 : Ref sig .tc := ⟨.hbm, 73, rfl⟩
abbrev main_call2_v0 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_c_5 : Ref sig .tc := ⟨.hbm, 78, rfl⟩
abbrev main_call3_v0 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩

abbrev nD : Nat := 1
abbrev τ : Topo := Topo.v7x

variable {F : FTy → Type} [FloatOps F]
-- ==== Proof.Sigmoid.lean ====
/- The logistic function as the kernels compute it and as the references compute it, and the constants of both. -/
module

public import Idealize.ShloMosaic.Lib.ValueIdx
public import Idealize.ShloMosaic.PureOps.Ideal.Laws

@[expose] public section

noncomputable section

namespace Cert.Spec

open Idealize.ShloMosaic

/-- The bit pattern of 0.5 reads as one half. -/
theorem half_bits : Ideal.ofBits .f32 0x3F000000#32 = ((1 / 2 : ℝ) : EReal) := by
  simp [Ideal.ofBits, Ideal.ieee, -EReal.coe_mul]; norm_num

/-- The bit pattern of 1.0 reads as one. -/
theorem one_bits : Ideal.ofBits .f32 0x3F800000#32 = (1 : EReal) := by
  rw [show (1 : EReal) = ((1 : ℝ) : EReal) by simp]
  simp [Ideal.ofBits, Ideal.ieee, -EReal.coe_mul, -EReal.coe_one]; norm_num

/-- The bit pattern of +0.0 reads as zero. -/
theorem zero_bits : Ideal.ofBits .f32 0x00000000#32 = (0 : EReal) := by
  simp [Ideal.ofBits, Ideal.ieee, -EReal.coe_mul]

/-- On the reals, 0.5·tanh(0.5·x) + 0.5 is 1 / (1 + e^(-x)). -/
theorem real_logistic (x : ℝ) : 1 / 2 * Real.tanh (1 / 2 * x) + 1 / 2 = 1 / (1 + Real.exp (-x)) := by
  rw [Real.tanh_eq_sinh_div_cosh, Real.sinh_eq, Real.cosh_eq]
  have h1 : Real.exp (-(1 / 2 * x)) = (Real.exp (1 / 2 * x))⁻¹ := Real.exp_neg _
  have h2 : Real.exp (-x) = (Real.exp (1 / 2 * x) * Real.exp (1 / 2 * x))⁻¹ := by
    rw [← Real.exp_add, ← Real.exp_neg]; congr 1; ring
  rw [h1, h2]
  have hp : 0 < Real.exp (1 / 2 * x) := Real.exp_pos _
  generalize Real.exp (1 / 2 * x) = e at hp
  have : e * e + 1 ≠ 0 := by positivity
  field_simp
  ring

/-- The kernels' logistic, 0.5·tanh(0.5·v) + 0.5, is the logistic function on every extended real. -/
theorem half_tanh (v : EReal) :
    Ideal.ofBits .f32 0x3F000000#32 * Ideal.tanh (Ideal.ofBits .f32 0x3F000000#32 * v) + Ideal.ofBits .f32 0x3F000000#32
      = Ideal.logistic v := by
  rw [half_bits]
  induction v with
  | bot =>
    rw [EReal.coe_mul_bot_of_pos (by norm_num), Ideal.tanh_bot, Ideal.logistic_bot]
    rw [show (-1 : EReal) = ((-1 : ℝ) : EReal) by simp, ← EReal.coe_mul, ← EReal.coe_add]; norm_num
  | coe x =>
    rw [← EReal.coe_mul, Ideal.tanh_coe, ← EReal.coe_mul, ← EReal.coe_add, Ideal.logistic_coe, real_logistic, one_div]
  | top =>
    rw [EReal.coe_mul_top_of_pos (by norm_num), Ideal.tanh_top, Ideal.logistic_top]
    rw [show (1 : EReal) = ((1 : ℝ) : EReal) by simp, ← EReal.coe_mul, ← EReal.coe_add]; norm_num

/-- The references' logistic, 1 / (1 + e^(-v)), is the logistic function. -/
theorem div_exp (v : EReal) :
    Ideal.div (Ideal.ofBits .f32 0x3F800000#32) (Ideal.ofBits .f32 0x3F800000#32 + Ideal.exp (-v)) = Ideal.logistic v := by
  rw [one_bits]; rfl

end Cert.Spec

end
-- ==== Proof.Product.lean ====
/- The input projection, h times w_in, entry by entry: what every kernel and reference of this problem reads of it. -/
module

public import Idealize.ShloMosaic.Lib.ValueIdx
public import Idealize.ShloMosaic.Lib.Pipeline.Value
public import Idealize.ShloMosaic.Lib.MatmulPlain
public import Idealize.ShloMosaic.PureOps.Ideal.Laws

@[expose] public section

noncomputable section

namespace Cert.Spec

open Idealize.ShloMosaic Idealize.ShloMosaic.ValueIdx

/-- The index of the hidden states at row `r` of the two sequences laid one after the other, and column `k`. -/
abbrev hidx (r : Fin 16384) (k : Fin 2048) : (⟨3, ![2, 8192, 2048]⟩ : Shape).Idx :=
  ix3 ⟨r.val / 8192, by omega⟩ ⟨r.val % 8192, by omega⟩ k

/-- Entry (`r`, `c`) of the hidden states times the input weights, the two sequences laid one after the other. -/
def proj (h : (⟨3, ![2, 8192, 2048]⟩ : Shape).Idx → EReal) (w : (⟨3, ![1, 2048, 10272]⟩ : Shape).Idx → EReal)
    (r : Fin 16384) (c : Fin 10272) : EReal :=
  ∑ k : Fin 2048, h (hidx r k) * w (ix3 0 k c)

/-- Two indices with the same two coordinates are equal. -/
theorem ext2 {n0 n1 : Nat} {x y : (⟨2, ![n0, n1]⟩ : Shape).Idx} (h0 : (x 0).val = (y 0).val) (h1 : (x 1).val = (y 1).val) : x = y :=
  Shape.idx_ext₂ h0 h1

/-- Two indices with the same three coordinates are equal. -/
theorem ext3 {n0 n1 n2 : Nat} {x y : (⟨3, ![n0, n1, n2]⟩ : Shape).Idx} (h0 : (x 0).val = (y 0).val) (h1 : (x 1).val = (y 1).val)
    (h2 : (x 2).val = (y 2).val) : x = y := by
  funext a
  match a with
  | ⟨0, _⟩ => exact Fin.ext h0
  | ⟨1, _⟩ => exact Fin.ext h1
  | ⟨2, _⟩ => exact Fin.ext h2

end Cert.Spec

end
-- ==== Proof.Proj3.lean ====
/- The gate branch zs = silu(h · w_in[:, :2048]): what the kernel's run and the reference's run leave. -/
module

public import proofs.«01_k».proof.Defs
public import proofs.«01_k».proof.Proof.Sigmoid
public import proofs.«01_k».proof.Proof.Product
public import proofs.«01_k».proof.Proof.Gen.Kernel3Ideal.Value
public import proofs.«01_k».proof.Proof.Gen.Reference3Ideal.Read
public import proofs.«01_k».proof.Proof.Gen.Reference3Ideal.Run
public import Idealize.ShloMosaic.Lib.StableHlo.Run
public import Idealize.ShloMosaic.Lib.Pipeline.Value
public import Idealize.ShloMosaic.Lib.Quiescent

@[expose] public section

noncomputable section

namespace Cert.Kernel3Ideal.Hand

open Cert.Kernel3Ideal Cert.Kernel3Ideal.Gen Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (c : Dev nD)

/-- The hidden states as launched. -/
abbrev h : (⟨3, ![2, 8192, 2048]⟩ : Shape).Idx → EReal := m ((c : Thread nD τ).loc main_arg0)
/-- The input weights as launched. -/
abbrev w : (⟨3, ![1, 2048, 10272]⟩ : Shape).Idx → EReal := m ((c : Thread nD τ).loc main_arg1)

/-- The first operand the kernel is called with: the hidden states, the sequences laid one after the other. -/
theorem V_h (r : Fin 16384) (k : Fin 2048) : V m c main_v1 (ix2 r k) = h m c (Spec.hidx r k) := by
  have e : (V m c main_v1 : S16384x2048.Idx → EReal)
      = truncf (F := Ideal) .bf16 (shapeCast S16384x2048 (h m c) shapeCasts_S2x8192x2048_S16384x2048 : FVec Ideal S16384x2048 .f32) bitsLt_bf16_f32 := by
    unfold_abbrev_sides
    after_results
    rfl
  rw [e, truncf_apply]
  refine shapeCast_apply _ _ _ _ ?_
  rw [Shape.rowMajor_val_three, Shape.rowMajor_val_two]
  show ((r.val / 8192) * 8192 + r.val % 8192) * 2048 + k.val = r.val * 2048 + k.val
  omega

/-- The second operand the kernel is called with: the input weights, transposed. -/
theorem V_w (k : Fin 2048) (j : Fin 10272) : V m c main_v4 (ix2 j k) = w m c (ix3 0 k j) := by
  have e : (V m c main_v4 : S10272x2048.Idx → EReal)
      = truncf (F := Ideal) .bf16 (transpose S10272x2048 [1, 0] (shapeCast S2048x10272 (w m c) shapeCasts_S1x2048x10272_S2048x10272)
          transposes_S2048x10272_S10272x2048_1_0 : FVec Ideal S10272x2048 .f32) bitsLt_bf16_f32 := by
    unfold_abbrev_sides
    after_results
    rfl
  rw [e, truncf_apply, transpose_apply _ _ _ _ (ix2 k j) (by intro a; match a with | ⟨0, _⟩ => rfl | ⟨1, _⟩ => rfl)]
  refine shapeCast_apply _ _ _ _ ?_
  rw [Shape.rowMajor_val_three, Shape.rowMajor_val_two]
  show (0 * 2048 + k.val) * 10272 + j.val = k.val * 10272 + j.val
  omega

/-- Entry (`p`, `q`) of the block the body stores, from its two input blocks: silu of their product. -/
theorem pay_apply (x0 x1 : FVec Ideal S1024x2048 .bf16) (p q : Fin 1024) :
    k0_pay1 (F := Ideal) x0 x1 (ix2 p q)
      = (∑ k : Fin 2048, x0 (ix2 p k) * x1 (ix2 q k)) * Ideal.logistic (∑ k : Fin 2048, x0 (ix2 p k) * x1 (ix2 q k)) := by
  have e : matmul (F := Ideal) dot_S1024x2048_S1024x2048_S1024x1024_1_1_0_0_n_n none x0 x1 (constant S1024x1024 .f32 0x00000000#32) (ix2 p q)
      = ∑ k : Fin 2048, x0 (ix2 p k) * x1 (ix2 q k) := by
    refine (Ideal.matmul_transposedRhs_apply none x0 x1 _ p q).trans ?_
    rw [constant_apply, Spec.zero_bits, zero_add]
  unfold k0_pay1
  rw [shapeCast_self, shapeCast_self, ← Spec.half_tanh, ← e]
  rfl

/-- Where each window's block begins, in blocks for the first and the last, in rows for the weights' window. -/
theorem index_facts : ∀ t : Fin cfg0.N, win0_0.index t 0 = t.val / 2 ∧ win0_0.index t 1 = 0
    ∧ win0_1.index t 0 = 1024 * (t.val % 2) ∧ win0_1.index t 1 = 0
    ∧ win0_2.index t 0 = t.val / 2 ∧ win0_2.index t 1 = t.val % 2 :=
  (by decide +kernel : ∀ t : Fin grid0.N, win0_0.index t 0 = t.val / 2 ∧ win0_0.index t 1 = 0
    ∧ win0_1.index t 0 = 1024 * (t.val % 2) ∧ win0_1.index t 1 = 0
    ∧ win0_2.index t 0 = t.val / 2 ∧ win0_2.index t 1 = t.val % 2)

/-- There are 32 grid points. -/
theorem lt32 (t : Fin cfg0.N) : t.val < 32 := lt_of_lt_of_eq t.isLt N_0

/-- Block `t` of the hidden states. -/
abbrev b0 (t : Fin cfg0.N) : FVec Ideal S1024x2048 .bf16 := iblk m c 0 t
/-- Block `t` of the transposed weights. -/
abbrev b1 (t : Fin cfg0.N) : FVec Ideal S1024x2048 .bf16 := iblk m c 1 t

/-- Block `t` of the hidden states is 1024 whole rows. -/
theorem b0_apply (t : Fin cfg0.N) (p : Fin 1024) (k : Fin 2048) :
    b0 m c t (ix2 p k) = h m c (Spec.hidx ⟨1024 * (t.val / 2) + p.val, by have := lt32 t; omega⟩ k) := by
  rw [← V_h]
  show V m c main_v1 ((win0_0.rect t).emb (ix2 p k)) = _
  congr 1
  obtain ⟨h0, h1, -⟩ := index_facts t
  refine Spec.ext2 ?_ ?_
  · rw [Pipeline.Window.rect_emb_val_off, h0]
    show t.val / 2 * 1024 + p.val = 1024 * (t.val / 2) + p.val
    omega
  · rw [Pipeline.Window.rect_emb_val_off, h1]
    show 0 * 2048 + k.val = k.val
    omega

/-- Block `t` of the transposed weights is 1024 whole rows, beginning at the row the index map gives. -/
theorem b1_apply (t : Fin cfg0.N) (q : Fin 1024) (k : Fin 2048) :
    b1 m c t (ix2 q k) = w m c (ix3 0 k ⟨1024 * (t.val % 2) + q.val, by omega⟩) := by
  rw [← V_w]
  show V m c main_v4 ((win0_1.rect t).emb (ix2 q k)) = _
  congr 1
  obtain ⟨-, -, h0, h1, -⟩ := index_facts t
  refine Spec.ext2 ?_ ?_
  · rw [Pipeline.Window.rect_emb_val_off, h0]
  · rw [Pipeline.Window.rect_emb_val_off, h1]
    show 0 + k.val = k.val
    omega

/-- The result: silu of the first 2048 columns of the input projection. -/
def G (i : S16384x2048.Idx) : EReal :=
  Spec.proj (h m c) (w m c) (i 0) ⟨(i 1).val, by have : (i 1).val < 2048 := (i 1).isLt; omega⟩
    * Ideal.logistic (Spec.proj (h m c) (w m c) (i 0) ⟨(i 1).val, by have : (i 1).val < 2048 := (i 1).isLt; omega⟩)

/-- The result at an index, by the values of its coordinates. -/
theorem G_eq (i : S16384x2048.Idx) (r : Fin 16384) (j : Fin 10272) (h0 : (i 0).val = r.val) (h1 : (i 1).val = j.val) :
    G m c i = Spec.proj (h m c) (w m c) r j * Ideal.logistic (Spec.proj (h m c) (w m c) r j) := by
  obtain rfl : i 0 = r := Fin.ext h0
  have hj : j = ⟨(i 1).val, by have : (i 1).val < 2048 := (i 1).isLt; omega⟩ := Fin.ext h1.symm
  rw [hj]
  rfl

/-- What grid point `t` writes back is block `t` of the result. -/
theorem flushed_eq (t : Fin cfg0.N) :
    (dats m 0 c).flushed 2 t = ((cfg0.win 2).blk t).view.read (Elt Ideal) (G m c) := by
  rw [Value.flushed2]
  show out0_2 (iblk m c 0 t) (iblk m c 1 t) = fun y => G m c ((win0_2.rect t).emb y)
  funext y
  unfold out0_2
  rw [View.canon_unit_zero (by decide), View.ld_unit_zero (S := S1024x2048) (by decide), View.ld_unit_zero (S := S1024x2048) (by decide)]
  obtain ⟨p, q, rfl⟩ : ∃ p q, y = ix2 p q := ⟨y 0, y 1, eq_ix2 y⟩
  obtain ⟨-, -, -, -, h0, h1⟩ := index_facts t
  have e0 : ((win0_2.rect t).emb (ix2 p q) 0).val = 1024 * (t.val / 2) + p.val := by
    rw [Pipeline.Window.rect_emb_val_off, h0]
    show t.val / 2 * 1024 + p.val = 1024 * (t.val / 2) + p.val
    omega
  have e1 : ((win0_2.rect t).emb (ix2 p q) 1).val = 1024 * (t.val % 2) + q.val := by
    rw [Pipeline.Window.rect_emb_val_off, h1]
    show t.val % 2 * 1024 + q.val = 1024 * (t.val % 2) + q.val
    omega
  refine (pay_apply (b0 m c t) (b1 m c t) p q).trans ?_
  have e : (∑ k : Fin 2048, b0 m c t (ix2 p k) * b1 m c t (ix2 q k))
      = Spec.proj (h m c) (w m c) ⟨1024 * (t.val / 2) + p.val, by have := lt32 t; omega⟩ ⟨1024 * (t.val % 2) + q.val, by omega⟩ := by
    unfold Spec.proj
    refine Finset.sum_congr rfl fun k _ => ?_
    rw [b0_apply, b1_apply]
  rw [e]
  refine (G_eq m c _ _ _ ?_ ?_).symm
  · exact e0
  · exact e1

/-- The blocks cover the result. -/
theorem cover (i : S16384x2048.Idx) : ∃ t : Fin cfg0.N, (cfg0.win 2).flush t = true ∧ i ∈ ((cfg0.win 2).blk t).view.set := by
  have hi0 : (i 0).val < 16384 := (i 0).isLt
  have hi1 : (i 1).val < 2048 := (i 1).isLt
  let t : Fin cfg0.N := ⟨(i 0).val / 1024 * 2 + (i 1).val / 1024, by have : cfg0.N = 32 := N_0; omega⟩
  have ht : t.val = (i 0).val / 1024 * 2 + (i 1).val / 1024 := rfl
  refine ⟨t, flush0_2 t, ?_⟩
  show i ∈ ((View.whole main_v5).slice (win0_2.rect t)).set
  rw [View.set_slice_whole, Rect.mem_set_unit]
  obtain ⟨-, -, -, -, h0, h1⟩ := index_facts t
  intro a
  match a with
  | ⟨0, _⟩ =>
    show win0_2.index t 0 * 1024 ≤ (i 0).val ∧ (i 0).val < win0_2.index t 0 * 1024 + 1024
    rw [h0]; omega
  | ⟨1, _⟩ =>
    show win0_2.index t 1 * 1024 ≤ (i 1).val ∧ (i 1).val < win0_2.index t 1 * 1024 + 1024
    rw [h1]; omega

/-- After the run the kernel's result is silu of the first 2048 columns of the input projection. -/
theorem final : (dats m 0 c).arrAt 2 cfg0.N = G m c :=
  (dats m 0 c).arrAt_eq_of_cover 2 (G m c) (fun t _ => flushed_eq m c t) cover

end Cert.Kernel3Ideal.Hand

namespace Cert.Reference3Ideal.Hand

open Cert.Reference3Ideal Idealize.ShloMosaic Idealize.ShloMosaic.ValueIdx

/-- The reference's product at an index is the input projection there. -/
theorem v1_eq (x0 : (⟨3, ![2, 8192, 2048]⟩ : Shape).Idx → EReal) (x1 : (⟨3, ![1, 2048, 10272]⟩ : Shape).Idx → EReal)
    (i : S2x8192x10272.Idx) (r : Fin 16384) (j : Fin 10272) (h0 : (i 0).val * 8192 + (i 1).val = r.val) (h1 : (i 2).val = j.val) :
    Read.val_main_v1 (F := Ideal) x0 x1 i = Spec.proj x0 x1 r j := by
  have hi : (i 1).val < 8192 := (i 1).isLt
  rw [Read.val_main_v1_apply]
  unfold Spec.proj
  refine Finset.sum_congr rfl fun k _ => ?_
  rw [Read.val_main_v0_apply]
  congr 2
  · refine Spec.ext3 ?_ ?_ ?_
    · show (i 0).val = r.val / 8192
      omega
    · show (i 1).val = r.val % 8192
      omega
    · rfl
  · refine Spec.ext3 ?_ ?_ ?_
    · show _ = 0
      exact Nat.lt_one_iff.mp (Fin.isLt _)
    · show (k.val * 10272 + (i 2).val) / 10272 % 2048 = k.val
      have := k.isLt; have := j.isLt
      omega
    · show (k.val * 10272 + (i 2).val) % 10272 = j.val
      have := j.isLt
      omega

/-- The reference's result at an index. -/
theorem v4_eq (x0 : (⟨3, ![2, 8192, 2048]⟩ : Shape).Idx → EReal) (x1 : (⟨3, ![1, 2048, 10272]⟩ : Shape).Idx → EReal)
    (i : S16384x2048.Idx) (r : Fin 16384) (j : Fin 10272) (h0 : (i 0).val = r.val) (h1 : (i 1).val = j.val) :
    Read.val_main_v4 (F := Ideal) x0 x1 i = Spec.proj x0 x1 r j * Ideal.logistic (Spec.proj x0 x1 r j) := by
  have hi : (i 1).val < 2048 := (i 1).isLt
  have e : Read.val_main_v2 (F := Ideal) x0 x1 (Read.idx_main_v4 i) = Spec.proj x0 x1 r j := by
    rw [Read.val_main_v2_apply]
    refine v1_eq x0 x1 _ r j ?_ ?_
    · show ((i 0).val * 2048 + (i 1).val) / 16777216 * 8192 + ((i 0).val * 2048 + (i 1).val) / 2048 % 8192 = r.val
      omega
    · show ((i 0).val * 2048 + (i 1).val) % 2048 = j.val
      omega
  rw [Read.val_main_v4_apply, Read.val_main_v3_apply, Read.val_main_call0_v5_apply, Read.val_main_call0_v4_apply, Read.val_main_call0_v3_apply,
    Read.val_main_call0_v2_apply, Read.val_main_call0_v1_apply, Read.val_main_call0_v0_apply, e, ← Spec.div_exp]
  rfl

end Cert.Reference3Ideal.Hand

namespace Cert.Proof

open Idealize.ShloMosaic Idealize.SL.Sem

/-- The reference's run ends, leaves its arguments alone and every counter at zero. -/
theorem frame_Reference3Ideal : Cert.quiescent_Reference3Ideal := fun m ρ _ =>
  (θ_run Cert.Reference3Ideal.defs _ _).mono (fun r h => ⟨fun c => (h c).2, sem_eq_zero_of_no_sems rfl r.2⟩) (Cert.Reference3Ideal.Value.run (F := Ideal) m ρ)

/-- The kernel and the reference leave the same zs: silu of the first 2048 columns of the input projection. -/
theorem algebraic_3 : Cert.algebraic_Kernel3Ideal_Reference3Ideal := fun m g m' g' _ hargs =>
  ⟨fun c => Cert.Kernel3Ideal.Hand.G m c,
    (θ_run Cert.Kernel3Ideal.defs _ _).mono
      (fun _ h c => ⟨(h c).1.trans (Cert.Kernel3Ideal.Hand.final m c), (h c).2⟩) (Cert.Kernel3Ideal.Value.run_blocks (F := Ideal) m g),
    (θ_run Cert.Reference3Ideal.defs _ _).mono
      (fun _ h c => ⟨by
        refine (h c).1.trans ?_
        rw [Cert.Reference3Ideal.Read.val_main_v4_eq]
        funext i
        have hi : (i 1).val < 2048 := (i 1).isLt
        show _ = Cert.Kernel3Ideal.Hand.G m c i
        rw [Cert.Kernel3Ideal.Hand.G_eq m c i (i 0) ⟨(i 1).val, by omega⟩ rfl rfl, Cert.Reference3Ideal.Hand.v4_eq _ _ i (i 0) ⟨(i 1).val, by omega⟩ rfl rfl,
          (hargs c).1, (hargs c).2], (h c).2⟩) (Cert.Reference3Ideal.Value.run (F := Ideal) m' g')⟩

end Cert.Proof

end
-- ==== Proof.Proj5.lean ====
/- The gates = sigmoid(h · w_in[:, 6176:]): what the kernel's run and the reference's run leave. -/
module

public import proofs.«01_k».proof.Defs
public import proofs.«01_k».proof.Proof.Sigmoid
public import proofs.«01_k».proof.Proof.Product
public import proofs.«01_k».proof.Proof.Gen.Kernel5Ideal.Value
public import proofs.«01_k».proof.Proof.Gen.Reference5Ideal.Read
public import proofs.«01_k».proof.Proof.Gen.Reference5Ideal.Run
public import Idealize.ShloMosaic.Lib.StableHlo.Run
public import Idealize.ShloMosaic.Lib.Pipeline.Value
public import Idealize.ShloMosaic.Lib.Quiescent

@[expose] public section

noncomputable section

namespace Cert.Kernel5Ideal.Hand

open Cert.Kernel5Ideal Cert.Kernel5Ideal.Gen Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (c : Dev nD)

/-- The hidden states as launched. -/
abbrev h : (⟨3, ![2, 8192, 2048]⟩ : Shape).Idx → EReal := m ((c : Thread nD τ).loc main_arg0)
/-- The input weights as launched. -/
abbrev w : (⟨3, ![1, 2048, 10272]⟩ : Shape).Idx → EReal := m ((c : Thread nD τ).loc main_arg1)

/-- The first operand the kernel is called with: the hidden states, the sequences laid one after the other. -/
theorem V_h (r : Fin 16384) (k : Fin 2048) : V m c main_v1 (ix2 r k) = h m c (Spec.hidx r k) := by
  have e : (V m c main_v1 : S16384x2048.Idx → EReal)
      = truncf (F := Ideal) .bf16 (shapeCast S16384x2048 (h m c) shapeCasts_S2x8192x2048_S16384x2048 : FVec Ideal S16384x2048 .f32) bitsLt_bf16_f32 := by
    unfold_abbrev_sides
    after_results
    rfl
  rw [e, truncf_apply]
  refine shapeCast_apply _ _ _ _ ?_
  rw [Shape.rowMajor_val_three, Shape.rowMajor_val_two]
  show ((r.val / 8192) * 8192 + r.val % 8192) * 2048 + k.val = r.val * 2048 + k.val
  omega

/-- The second operand the kernel is called with: the input weights, transposed. -/
theorem V_w (k : Fin 2048) (j : Fin 10272) : V m c main_v4 (ix2 j k) = w m c (ix3 0 k j) := by
  have e : (V m c main_v4 : S10272x2048.Idx → EReal)
      = truncf (F := Ideal) .bf16 (transpose S10272x2048 [1, 0] (shapeCast S2048x10272 (w m c) shapeCasts_S1x2048x10272_S2048x10272)
          transposes_S2048x10272_S10272x2048_1_0 : FVec Ideal S10272x2048 .f32) bitsLt_bf16_f32 := by
    unfold_abbrev_sides
    after_results
    rfl
  rw [e, truncf_apply, transpose_apply _ _ _ _ (ix2 k j) (by intro a; match a with | ⟨0, _⟩ => rfl | ⟨1, _⟩ => rfl)]
  refine shapeCast_apply _ _ _ _ ?_
  rw [Shape.rowMajor_val_three, Shape.rowMajor_val_two]
  show (0 * 2048 + k.val) * 10272 + j.val = k.val * 10272 + j.val
  omega

/-- Entry (`p`, `q`) of the block the body stores, from its two input blocks: the logistic function of their product. -/
theorem pay_apply (x0 x1 : FVec Ideal S1024x2048 .bf16) (p q : Fin 1024) :
    k0_pay1 (F := Ideal) x0 x1 (ix2 p q)
      = Ideal.logistic (∑ k : Fin 2048, x0 (ix2 p k) * x1 (ix2 q k)) := by
  have e : matmul (F := Ideal) dot_S1024x2048_S1024x2048_S1024x1024_1_1_0_0_n_n none x0 x1 (constant S1024x1024 .f32 0x00000000#32) (ix2 p q)
      = ∑ k : Fin 2048, x0 (ix2 p k) * x1 (ix2 q k) := by
    refine (Ideal.matmul_transposedRhs_apply none x0 x1 _ p q).trans ?_
    rw [constant_apply, Spec.zero_bits, zero_add]
  unfold k0_pay1
  rw [shapeCast_self, shapeCast_self, ← Spec.half_tanh, ← e]
  rfl

/-- Where each window's block begins, in blocks for the first and the last, in rows for the weights' window. -/
theorem index_facts : ∀ t : Fin cfg0.N, win0_0.index t 0 = t.val / 4 ∧ win0_0.index t 1 = 0
    ∧ win0_1.index t 0 = 6176 + 1024 * (t.val % 4) ∧ win0_1.index t 1 = 0
    ∧ win0_2.index t 0 = t.val / 4 ∧ win0_2.index t 1 = t.val % 4 :=
  (by decide +kernel : ∀ t : Fin grid0.N, win0_0.index t 0 = t.val / 4 ∧ win0_0.index t 1 = 0
    ∧ win0_1.index t 0 = 6176 + 1024 * (t.val % 4) ∧ win0_1.index t 1 = 0
    ∧ win0_2.index t 0 = t.val / 4 ∧ win0_2.index t 1 = t.val % 4)

/-- There are 64 grid points. -/
theorem lt64 (t : Fin cfg0.N) : t.val < 64 := lt_of_lt_of_eq t.isLt N_0

/-- Block `t` of the hidden states. -/
abbrev b0 (t : Fin cfg0.N) : FVec Ideal S1024x2048 .bf16 := iblk m c 0 t
/-- Block `t` of the transposed weights. -/
abbrev b1 (t : Fin cfg0.N) : FVec Ideal S1024x2048 .bf16 := iblk m c 1 t

/-- Block `t` of the hidden states is 1024 whole rows. -/
theorem b0_apply (t : Fin cfg0.N) (p : Fin 1024) (k : Fin 2048) :
    b0 m c t (ix2 p k) = h m c (Spec.hidx ⟨1024 * (t.val / 4) + p.val, by have := lt64 t; omega⟩ k) := by
  rw [← V_h]
  show V m c main_v1 ((win0_0.rect t).emb (ix2 p k)) = _
  congr 1
  obtain ⟨h0, h1, -⟩ := index_facts t
  refine Spec.ext2 ?_ ?_
  · rw [Pipeline.Window.rect_emb_val_off, h0]
    show t.val / 4 * 1024 + p.val = 1024 * (t.val / 4) + p.val
    omega
  · rw [Pipeline.Window.rect_emb_val_off, h1]
    show 0 * 2048 + k.val = k.val
    omega

/-- Block `t` of the transposed weights is 1024 whole rows, beginning at the row the index map gives. -/
theorem b1_apply (t : Fin cfg0.N) (q : Fin 1024) (k : Fin 2048) :
    b1 m c t (ix2 q k) = w m c (ix3 0 k ⟨6176 + 1024 * (t.val % 4) + q.val, by omega⟩) := by
  rw [← V_w]
  show V m c main_v4 ((win0_1.rect t).emb (ix2 q k)) = _
  congr 1
  obtain ⟨-, -, h0, h1, -⟩ := index_facts t
  refine Spec.ext2 ?_ ?_
  · rw [Pipeline.Window.rect_emb_val_off, h0]
  · rw [Pipeline.Window.rect_emb_val_off, h1]
    show 0 + k.val = k.val
    omega

/-- The result: the logistic function of the last 4096 columns of the input projection. -/
def G (i : S16384x4096.Idx) : EReal :=
  Ideal.logistic (Spec.proj (h m c) (w m c) (i 0) ⟨6176 + (i 1).val, by have : (i 1).val < 4096 := (i 1).isLt; omega⟩)

/-- The result at an index, by the values of its coordinates. -/
theorem G_eq (i : S16384x4096.Idx) (r : Fin 16384) (j : Fin 10272) (h0 : (i 0).val = r.val) (h1 : 6176 + (i 1).val = j.val) :
    G m c i = Ideal.logistic (Spec.proj (h m c) (w m c) r j) := by
  obtain rfl : i 0 = r := Fin.ext h0
  have hj : j = ⟨6176 + (i 1).val, by have : (i 1).val < 4096 := (i 1).isLt; omega⟩ := Fin.ext h1.symm
  rw [hj]
  rfl

/-- What grid point `t` writes back is block `t` of the result. -/
theorem flushed_eq (t : Fin cfg0.N) :
    (dats m 0 c).flushed 2 t = ((cfg0.win 2).blk t).view.read (Elt Ideal) (G m c) := by
  rw [Value.flushed2]
  show out0_2 (iblk m c 0 t) (iblk m c 1 t) = fun y => G m c ((win0_2.rect t).emb y)
  funext y
  unfold out0_2
  rw [View.canon_unit_zero (by decide), View.ld_unit_zero (S := S1024x2048) (by decide), View.ld_unit_zero (S := S1024x2048) (by decide)]
  obtain ⟨p, q, rfl⟩ : ∃ p q, y = ix2 p q := ⟨y 0, y 1, eq_ix2 y⟩
  obtain ⟨-, -, -, -, h0, h1⟩ := index_facts t
  have e0 : ((win0_2.rect t).emb (ix2 p q) 0).val = 1024 * (t.val / 4) + p.val := by
    rw [Pipeline.Window.rect_emb_val_off, h0]
    show t.val / 4 * 1024 + p.val = 1024 * (t.val / 4) + p.val
    omega
  have e1 : ((win0_2.rect t).emb (ix2 p q) 1).val = 1024 * (t.val % 4) + q.val := by
    rw [Pipeline.Window.rect_emb_val_off, h1]
    show t.val % 4 * 1024 + q.val = 1024 * (t.val % 4) + q.val
    omega
  refine (pay_apply (b0 m c t) (b1 m c t) p q).trans ?_
  have e : (∑ k : Fin 2048, b0 m c t (ix2 p k) * b1 m c t (ix2 q k))
      = Spec.proj (h m c) (w m c) ⟨1024 * (t.val / 4) + p.val, by have := lt64 t; omega⟩ ⟨6176 + 1024 * (t.val % 4) + q.val, by omega⟩ := by
    unfold Spec.proj
    refine Finset.sum_congr rfl fun k _ => ?_
    rw [b0_apply, b1_apply]
  rw [e]
  refine (G_eq m c _ _ _ ?_ ?_).symm
  · exact e0
  · rw [e1]
    show 6176 + (1024 * (t.val % 4) + q.val) = 6176 + 1024 * (t.val % 4) + q.val
    omega

/-- The blocks cover the result. -/
theorem cover (i : S16384x4096.Idx) : ∃ t : Fin cfg0.N, (cfg0.win 2).flush t = true ∧ i ∈ ((cfg0.win 2).blk t).view.set := by
  have hi0 : (i 0).val < 16384 := (i 0).isLt
  have hi1 : (i 1).val < 4096 := (i 1).isLt
  let t : Fin cfg0.N := ⟨(i 0).val / 1024 * 4 + (i 1).val / 1024, by have : cfg0.N = 64 := N_0; omega⟩
  have ht : t.val = (i 0).val / 1024 * 4 + (i 1).val / 1024 := rfl
  refine ⟨t, flush0_2 t, ?_⟩
  show i ∈ ((View.whole main_v5).slice (win0_2.rect t)).set
  rw [View.set_slice_whole, Rect.mem_set_unit]
  obtain ⟨-, -, -, -, h0, h1⟩ := index_facts t
  intro a
  match a with
  | ⟨0, _⟩ =>
    show win0_2.index t 0 * 1024 ≤ (i 0).val ∧ (i 0).val < win0_2.index t 0 * 1024 + 1024
    rw [h0]; omega
  | ⟨1, _⟩ =>
    show win0_2.index t 1 * 1024 ≤ (i 1).val ∧ (i 1).val < win0_2.index t 1 * 1024 + 1024
    rw [h1]; omega

/-- After the run the kernel's result is the logistic function of the last 4096 columns of the input projection. -/
theorem final : (dats m 0 c).arrAt 2 cfg0.N = G m c :=
  (dats m 0 c).arrAt_eq_of_cover 2 (G m c) (fun t _ => flushed_eq m c t) cover

end Cert.Kernel5Ideal.Hand

namespace Cert.Reference5Ideal.Hand

open Cert.Reference5Ideal Idealize.ShloMosaic Idealize.ShloMosaic.ValueIdx

/-- The reference's product at an index is the input projection there. -/
theorem v1_eq (x0 : (⟨3, ![2, 8192, 2048]⟩ : Shape).Idx → EReal) (x1 : (⟨3, ![1, 2048, 10272]⟩ : Shape).Idx → EReal)
    (i : S2x8192x10272.Idx) (r : Fin 16384) (j : Fin 10272) (h0 : (i 0).val * 8192 + (i 1).val = r.val) (h1 : (i 2).val = j.val) :
    Read.val_main_v1 (F := Ideal) x0 x1 i = Spec.proj x0 x1 r j := by
  have hi : (i 1).val < 8192 := (i 1).isLt
  rw [Read.val_main_v1_apply]
  unfold Spec.proj
  refine Finset.sum_congr rfl fun k _ => ?_
  rw [Read.val_main_v0_apply]
  congr 2
  · refine Spec.ext3 ?_ ?_ ?_
    · show (i 0).val = r.val / 8192
      omega
    · show (i 1).val = r.val % 8192
      omega
    · rfl
  · refine Spec.ext3 ?_ ?_ ?_
    · show _ = 0
      exact Nat.lt_one_iff.mp (Fin.isLt _)
    · show (k.val * 10272 + (i 2).val) / 10272 % 2048 = k.val
      have := k.isLt; have := j.isLt
      omega
    · show (k.val * 10272 + (i 2).val) % 10272 = j.val
      have := j.isLt
      omega

/-- The reference's result at an index. -/
theorem v10_eq (x0 : (⟨3, ![2, 8192, 2048]⟩ : Shape).Idx → EReal) (x1 : (⟨3, ![1, 2048, 10272]⟩ : Shape).Idx → EReal)
    (i : S16384x4096.Idx) (r : Fin 16384) (j : Fin 10272) (h0 : (i 0).val = r.val) (h1 : 6176 + (i 1).val = j.val) :
    Read.val_main_v10 (F := Ideal) x0 x1 i = Ideal.logistic (Spec.proj x0 x1 r j) := by
  have hi : (i 1).val < 4096 := (i 1).isLt
  have e : Read.val_main_v2 (F := Ideal) x0 x1 (Read.idx_main_v9 i) = Spec.proj x0 x1 r j := by
    rw [Read.val_main_v2_apply]
    refine v1_eq x0 x1 _ r j ?_ ?_
    · show ((i 0).val * 4096 + (i 1).val) / 33554432 * 8192 + ((i 0).val * 4096 + (i 1).val) / 4096 % 8192 = r.val
      omega
    · show 6176 + ((i 0).val * 4096 + (i 1).val) % 4096 = j.val
      omega
  rw [Read.val_main_v10_apply, Read.val_main_v9_apply, Read.val_main_v8_apply, Read.val_main_v7_apply, Read.val_main_v6_apply,
    Read.val_main_v5_apply, Read.val_main_v4_apply, Read.val_main_v3_apply, e, ← Spec.div_exp]
  rfl

end Cert.Reference5Ideal.Hand

namespace Cert.Proof

open Idealize.ShloMosaic Idealize.SL.Sem

/-- The reference's run ends, leaves its arguments alone and every counter at zero. -/
theorem frame_Reference5Ideal : Cert.quiescent_Reference5Ideal := fun m ρ _ =>
  (θ_run Cert.Reference5Ideal.defs _ _).mono (fun r h => ⟨fun c => (h c).2, sem_eq_zero_of_no_sems rfl r.2⟩) (Cert.Reference5Ideal.Value.run (F := Ideal) m ρ)

/-- The kernel and the reference leave the same gates: the logistic function of the last 4096 columns of the input projection. -/
theorem algebraic_5 : Cert.algebraic_Kernel5Ideal_Reference5Ideal := fun m g m' g' _ hargs =>
  ⟨fun c => Cert.Kernel5Ideal.Hand.G m c,
    (θ_run Cert.Kernel5Ideal.defs _ _).mono
      (fun _ h c => ⟨(h c).1.trans (Cert.Kernel5Ideal.Hand.final m c), (h c).2⟩) (Cert.Kernel5Ideal.Value.run_blocks (F := Ideal) m g),
    (θ_run Cert.Reference5Ideal.defs _ _).mono
      (fun _ h c => ⟨by
        refine (h c).1.trans ?_
        rw [Cert.Reference5Ideal.Read.val_main_v10_eq]
        funext i
        have hi : (i 1).val < 4096 := (i 1).isLt
        show _ = Cert.Kernel5Ideal.Hand.G m c i
        rw [Cert.Kernel5Ideal.Hand.G_eq m c i (i 0) ⟨6176 + (i 1).val, by omega⟩ rfl rfl, Cert.Reference5Ideal.Hand.v10_eq _ _ i (i 0) ⟨6176 + (i 1).val, by omega⟩ rfl rfl,
          (hargs c).1, (hargs c).2], (h c).2⟩) (Cert.Reference5Ideal.Value.run (F := Ideal) m' g')⟩

end Cert.Proof

end
-- ==== Proof.FfnBody.lean ====
module

public import proofs.«01_k».proof.Proof.Gen.Kernel6Ideal.Frame
public import proofs.«01_k».proof.Proof.Gen.Kernel6Ideal.Skeleton
public import Idealize.ShloMosaic.Lib.Pipeline.ValueKit

@[expose] public section

set_option maxRecDepth 16384

noncomputable section

namespace Cert.Kernel6Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel6Ideal.Gen

variable {F : FTy → Type} [FloatOps F]

local notation "𝕄" => MT nD τ sig Unit (Elt F) ℕ (UR sig nD τ) ℕ

/-! ## The accesses of the body -/

/-- All of the accumulator. -/
abbrev rAll : Rect S2x1024x2048 := Rect.unit (s := S2x1024x2048) ![0, 0, 0] S2x1024x2048.size inb_S2x1024x2048_S2x1024x2048_0_0_0

theorem inbHalf (s : Fin 2) (r : ℕ) (hr : r ≤ 512) : ∀ a, (![s.val, r, 0] : Fin 3 → ℕ) a + S1x512x2048.size a ≤ S2x1024x2048.size a
  | 0 => show s.val + 1 ≤ 2 by omega
  | 1 => show r + 512 ≤ 1024 by omega
  | 2 => le_refl 2048

theorem inbChunk (s : Fin 2) (q : Fin 8) : ∀ a, (![s.val, 128 * q.val, 0] : Fin 3 → ℕ) a + S1x128x2048.size a ≤ S2x1024x2048.size a
  | 0 => show s.val + 1 ≤ 2 by omega
  | 1 => show 128 * q.val + 128 ≤ 1024 by omega
  | 2 => le_refl 2048

/-- Rows 0 to 511, and rows 512 to 1023, of slot `s` of the accumulator. -/
abbrev rLo (s : Fin 2) : Rect S2x1024x2048 := Rect.unit (s := S2x1024x2048) ![s.val, 0, 0] S1x512x2048.size (inbHalf s 0 (by omega))
abbrev rHi (s : Fin 2) : Rect S2x1024x2048 := Rect.unit (s := S2x1024x2048) ![s.val, 512, 0] S1x512x2048.size (inbHalf s 512 (by omega))
/-- Rows `128 q` to `128 q + 127` of slot `s`. -/
abbrev rChunk (s : Fin 2) (q : Fin 8) : Rect S2x1024x2048 := Rect.unit (s := S2x1024x2048) ![s.val, 128 * q.val, 0] S1x128x2048.size (inbChunk s q)

abbrev rA : Rect S1024x2048 := Rect.unit (s := S1024x2048) ![0, 0] S512x2048.size inb_S1024x2048_S512x2048_0_0
abbrev rB : Rect S1024x2048 := Rect.unit (s := S1024x2048) ![512, 0] S512x2048.size inb_S1024x2048_S512x2048_512_0
abbrev rW : Rect S2048x512 := Rect.unit (s := S2048x512) ![0, 0] S2048x512.size inb_S2048x512_S2048x512_0_0
abbrev rO : Rect S512x2048 := Rect.unit (s := S512x2048) ![0, 0] S512x2048.size inb_S512x2048_S512x2048_0_0
abbrev rX : Rect S128x2048 := Rect.unit (s := S128x2048) ![0, 0] S128x2048.size inb_S128x2048_S128x2048_0_0
abbrev rG : Rect S1x9x2048 := Rect.unit (s := S1x9x2048) ![0, 8, 0] S1x1x2048.size inb_S1x9x2048_S1x1x2048_0_8_0
abbrev rN : Rect S1x2048 := Rect.unit (s := S1x2048) ![0, 0] S1x2048.size inb_S1x2048_S1x2048_0_0

/-! ## What a point does -/

/-- The accumulator after one point's products into slot `s`: each half of the slot at its sum with the product of the
    half of the rows `x0` with the hidden block `x2`, `x3`, `x4` (`k0_pay2`; at the first hidden block, `a1 = 0`, the sum
    begins at zero), the other slot as it was. -/
def mm (a1 : BitVec 32) (s : Fin 2) (x0 : Vec F S1024x2048 .bf16) (x2 x3 : Vec F S2048x512 .bf16) (x4 : Vec F S512x2048 .bf16)
    (X : Vec F S2x1024x2048 .f32) : Vec F S2x1024x2048 .f32 :=
  View.canon [⟨rHi s, k0_pay2 a1 (View.ld x0 rB) (View.ld x2 rW) (View.ld x3 rW) (View.ld X (rHi s)) (View.ld x4 rO)⟩,
    ⟨rLo s, k0_pay2 a1 (View.ld x0 rA) (View.ld x2 rW) (View.ld x3 rW) (View.ld X (rLo s)) (View.ld x4 rO)⟩, ⟨rAll, X⟩]

/-- The block of the result a point writes: from chunk `q` of the finished slot `s`, the rows `x1`, the gains `x5` and the
    norm's weights `x6` (`k0_pay1`). -/
def ep (s : Fin 2) (q : Fin 8) (x1 : Vec F S128x2048 .f32) (x5 : Vec F S1x9x2048 .f32) (x6 : Vec F S1x2048 .f32)
    (X : Vec F S2x1024x2048 .f32) : Vec F S128x2048 .f32 :=
  View.canon [⟨rX, k0_pay1 (View.ld X (rChunk s q)) (View.ld x1 rX) (View.ld x5 rG) (View.ld x6 rN)⟩]

theorem cover_out (p : Vec F S128x2048 .f32) (y : S128x2048.Idx) :
    ∃ pc ∈ ([⟨rX, p⟩] : List (View.Piece (Elt F) S128x2048 .f32)), y ∈ pc.1.set :=
  View.cover_of_tiled [⟨rX, p⟩] S128x2048.size (by rfl) y

/-- A buffer's contents after writes over `g` are the written pieces over what it held. -/
theorem read_writes_over {κ : Kind} {sp : Space} (v : View sig κ sp S2x1024x2048 .f32) (g : v.ty.Contents (Elt F)) :
    ∀ L : List (View.Piece (Elt F) S2x1024x2048 .f32),
      v.read (Elt F) (v.writes (Elt F) g L) = View.canon (L ++ [⟨rAll, v.read (Elt F) g⟩])
  | [] => (View.canon_unit_zero (by decide) _ _).symm
  | p :: L => by
    funext y
    by_cases hy : y ∈ p.1.set
    · obtain ⟨r, w⟩ := p
      obtain ⟨x, rfl⟩ : ∃ x, r.emb x = y := r.exists_idx_of_mem hy
      rw [View.read_writes_cons_emb]
      exact (View.canon_cons_emb r w _ x).symm
    · rw [View.read_writes_cons_miss _ _ _ _ _ hy]
      exact (congrFun (read_writes_over v g L) y).trans (View.canon_cons_of_not_mem p _ hy).symm

theorem cover_all (p : Vec F S2x1024x2048 .f32) (y : S2x1024x2048.Idx) :
    ∃ pc ∈ ([⟨rAll, p⟩] : List (View.Piece (Elt F) S2x1024x2048 .f32)), y ∈ pc.1.set :=
  View.cover_of_tiled [⟨rAll, p⟩] S2x1024x2048.size (by rfl) y

/-- A write to all of a buffer leaves what it wrote. -/
theorem read_zeroed {κ : Kind} {sp : Space} (v : View sig κ sp S2x1024x2048 .f32) (g : v.ty.Contents (Elt F)) (p : Vec F S2x1024x2048 .f32) :
    v.read (Elt F) (v.writes (Elt F) g [⟨rAll, p⟩]) = p :=
  (View.read_writes_eq_canon _ _ _ (cover_all p)).trans (View.canon_unit_zero (by decide) _ _)

/-- A load at offsets equal to `off'`. -/
theorem readAt_off {κ : Kind} {sp : Space} (v : View sig κ sp S2x1024x2048 .f32) (g : v.ty.Contents (Elt F)) {size : Fin 3 → ℕ} {off off' : Fin 3 → ℕ} (h : off = off')
    (inb : ∀ a, off a + size a ≤ S2x1024x2048.size a) (inb' : ∀ a, off' a + size a ≤ S2x1024x2048.size a) :
    v.readAt (Elt F) (Rect.unit (s := S2x1024x2048) off size inb).toLoadRect g = View.ld (v.read (Elt F) g) (Rect.unit (s := S2x1024x2048) off' size inb') := by
  subst h; rfl

/-- The word of the first branch's condition: grid coordinates both zero. -/
abbrev w1 (i : grid0.Coords) : BitVec 1 := Scalar.cmpi .ne (Scalar.extui (Scalar.andi (Scalar.cmpi .eq (BitVec.ofNat 32 (i 0).val) 0#32) (Scalar.cmpi .eq (BitVec.ofNat 32 (i 1).val) 0#32)) : BitVec 32) 0#32

set_option sl_exec.closedPieces true in
set_option maxHeartbeats 4000000 in
/-- A point of the first row tile before the ninth hidden block: products only, the accumulator set to zero before them at the first. -/
theorem caseA (c : Dev nD) (E : Set ℕ) (i : grid0.Coords) (h2 : k0_cond2 i = 1#1) (h3 : ¬ k0_cond3 i = 1#1) (h4 : ¬ k0_cond4 i = 1#1) (h5 : ¬ k0_cond5 i = 1#1)
    (s s' : Fin 2) (q : Fin 8) (ho1 : k0_off1 i = ![s.val, 0, 0]) (ho2 : k0_off2 i = ![s.val, 512, 0])
    (arg2 : Memref sig .tc .vmem S1024x2048 .bf16) (harg2 : arg2.IsWhole) (arg3 : Memref sig .tc .vmem S128x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x9x2048 .f32) (harg7 : arg7.IsWhole) (arg8 : Memref sig .tc .vmem S1x2048 .f32) (harg8 : arg8.IsWhole) (arg9 : Memref sig .tc .vmem S128x2048 .f32) (harg9 : arg9.IsWhole)
    (x0 : Vec F S1024x2048 .bf16) (x2 : Vec F S2048x512 .bf16) (x3 : Vec F S2048x512 .bf16) (x4 : Vec F S512x2048 .bf16) (X : Vec F S2x1024x2048 .f32) (K : PUnit → sProp 𝕄) :
    iprop(owns (c : Thread nD τ) arg2 fullShare x0 ∗ owns (c : Thread nD τ) arg4 fullShare x2 ∗ owns (c : Thread nD τ) arg5 fullShare x3 ∗ owns (c : Thread nD τ) arg6 fullShare x4 ∗ owns (c : Thread nD τ) (Memref.whole cc0_scratch0) fullShare X
        ∗ (iprop(owns (c : Thread nD τ) arg2 fullShare x0 ∗ owns (c : Thread nD τ) arg4 fullShare x2 ∗ owns (c : Thread nD τ) arg5 fullShare x3 ∗ owns (c : Thread nD τ) arg6 fullShare x4 ∗ owns (c : Thread nD τ) (Memref.whole cc0_scratch0) fullShare (mm (BitVec.ofNat 32 (i 1).val) s x0 x2 x3 x4 (if w1 i = 1#1 then k0_pay13 else X))) -∗ K ⟨⟩))
      ⊢ wp frame (wpE (defs₀ (F := F)) Variants.none c none) E (cc0_ffn i arg2 harg2 arg3 harg3 arg4 harg4 arg5 harg5 arg6 harg6 arg7 harg7 arg8 harg8 arg9 harg9 (Memref.whole cc0_scratch0) (Memref.isWhole_whole _)) K := by
  simp only [cc0_ffn_eq_skeleton]; unfold cc0_ffn_skel
  letI : ClosedOff (k0_off1 i) := ⟨![s.val, 0, 0], ho1⟩
  letI : ClosedOff (k0_off2 i) := ⟨![s.val, 512, 0], ho2⟩
  unfold owns
  iintro ⟨⟨%f0, %hf0, H0⟩, ⟨%f2, %hf2, H2⟩, ⟨%f3, %hf3, H3⟩, ⟨%f4, %hf4, H4⟩, ⟨%fs, %hfs, HS⟩, Hk⟩
  subst hf0 hf2 hf3 hf4 hfs
  sl_exec
  sl_step
  iapply Hk
  isplitl [H0]
  · iexists f0; isplitr; · ipureintro; rfl
    iexact H0
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HS
  ipureintro
  have hg : (Memref.whole cc0_scratch0).view.read (Elt F) (if hc : w1 i = 1#1 then (Memref.whole cc0_scratch0).view.writes (Elt F) fs [⟨rAll, k0_pay13⟩] else fs)
      = if w1 i = 1#1 then k0_pay13 else (Memref.whole cc0_scratch0).view.read (Elt F) fs := by
    by_cases hc : w1 i = 1#1
    · rw [dif_pos hc, if_pos hc]; exact read_zeroed _ _ _
    · rw [dif_neg hc, if_neg hc]
  rw [← hg]
  rw [read_writes_over]
  have e1 := readAt_off (F := F) (Memref.whole cc0_scratch0).view (if hc : w1 i = 1#1 then (Memref.whole cc0_scratch0).view.writes (Elt F) fs [⟨rAll, k0_pay13⟩] else fs) ho1 (by rw [ho1]; exact inbHalf s 0 (by omega)) (inbHalf s 0 (by omega))
  have e2 := readAt_off (F := F) (Memref.whole cc0_scratch0).view (if hc : w1 i = 1#1 then (Memref.whole cc0_scratch0).view.writes (Elt F) fs [⟨rAll, k0_pay13⟩] else fs) ho2 (by rw [ho2]; exact inbHalf s 512 (by omega)) (inbHalf s 512 (by omega))
  unfold mm
  rw [← e1, ← e2]
  rfl

set_option sl_exec.closedPieces true in
set_option maxHeartbeats 4000000 in
/-- A point of a row tile from its ninth hidden block on: products only. -/
theorem caseD (c : Dev nD) (E : Set ℕ) (i : grid0.Coords) (h1 : ¬ w1 i = 1#1) (h2 : ¬ k0_cond2 i = 1#1) (h3 : ¬ k0_cond3 i = 1#1) (h4 : k0_cond4 i = 1#1) (h5 : ¬ k0_cond5 i = 1#1)
    (s s' : Fin 2) (q : Fin 8) (ho6 : k0_off6 i = ![s.val, 0, 0]) (ho7 : k0_off7 i = ![s.val, 512, 0])
    (arg2 : Memref sig .tc .vmem S1024x2048 .bf16) (harg2 : arg2.IsWhole) (arg3 : Memref sig .tc .vmem S128x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x9x2048 .f32) (harg7 : arg7.IsWhole) (arg8 : Memref sig .tc .vmem S1x2048 .f32) (harg8 : arg8.IsWhole) (arg9 : Memref sig .tc .vmem S128x2048 .f32) (harg9 : arg9.IsWhole)
    (x0 : Vec F S1024x2048 .bf16) (x2 : Vec F S2048x512 .bf16) (x3 : Vec F S2048x512 .bf16) (x4 : Vec F S512x2048 .bf16) (X : Vec F S2x1024x2048 .f32) (K : PUnit → sProp 𝕄) :
    iprop(owns (c : Thread nD τ) arg2 fullShare x0 ∗ owns (c : Thread nD τ) arg4 fullShare x2 ∗ owns (c : Thread nD τ) arg5 fullShare x3 ∗ owns (c : Thread nD τ) arg6 fullShare x4 ∗ owns (c : Thread nD τ) (Memref.whole cc0_scratch0) fullShare X
        ∗ (iprop(owns (c : Thread nD τ) arg2 fullShare x0 ∗ owns (c : Thread nD τ) arg4 fullShare x2 ∗ owns (c : Thread nD τ) arg5 fullShare x3 ∗ owns (c : Thread nD τ) arg6 fullShare x4 ∗ owns (c : Thread nD τ) (Memref.whole cc0_scratch0) fullShare (mm (BitVec.ofNat 32 (i 1).val) s x0 x2 x3 x4 X)) -∗ K ⟨⟩))
      ⊢ wp frame (wpE (defs₀ (F := F)) Variants.none c none) E (cc0_ffn i arg2 harg2 arg3 harg3 arg4 harg4 arg5 harg5 arg6 harg6 arg7 harg7 arg8 harg8 arg9 harg9 (Memref.whole cc0_scratch0) (Memref.isWhole_whole _)) K := by
  simp only [cc0_ffn_eq_skeleton]; unfold cc0_ffn_skel
  letI : ClosedOff (k0_off6 i) := ⟨![s.val, 0, 0], ho6⟩
  letI : ClosedOff (k0_off7 i) := ⟨![s.val, 512, 0], ho7⟩
  unfold owns
  iintro ⟨⟨%f0, %hf0, H0⟩, ⟨%f2, %hf2, H2⟩, ⟨%f3, %hf3, H3⟩, ⟨%f4, %hf4, H4⟩, ⟨%fs, %hfs, HS⟩, Hk⟩
  subst hf0 hf2 hf3 hf4 hfs
  sl_exec
  sl_step
  iapply Hk
  isplitl [H0]
  · iexists f0; isplitr; · ipureintro; rfl
    iexact H0
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HS
  ipureintro
  rw [read_writes_over]
  have e1 := readAt_off (F := F) (Memref.whole cc0_scratch0).view fs ho6 (by rw [ho6]; exact inbHalf s 0 (by omega)) (inbHalf s 0 (by omega))
  have e2 := readAt_off (F := F) (Memref.whole cc0_scratch0).view fs ho7 (by rw [ho7]; exact inbHalf s 512 (by omega)) (inbHalf s 512 (by omega))
  unfold mm
  rw [← e1, ← e2]
  rfl

set_option sl_exec.closedPieces true in
set_option maxHeartbeats 4000000 in
/-- A point of a later row tile before its ninth hidden block: a block of the tile before is finished, then the products. -/
theorem caseC (c : Dev nD) (E : Set ℕ) (i : grid0.Coords) (h1 : ¬ w1 i = 1#1) (h2 : ¬ k0_cond2 i = 1#1) (h3 : k0_cond3 i = 1#1) (h4 : ¬ k0_cond4 i = 1#1) (h5 : ¬ k0_cond5 i = 1#1)
    (s s' : Fin 2) (q : Fin 8) (ho3 : k0_off3 i = ![s'.val, 128 * q.val, 0]) (ho4 : k0_off4 i = ![s.val, 0, 0]) (ho5 : k0_off5 i = ![s.val, 512, 0])
    (arg2 : Memref sig .tc .vmem S1024x2048 .bf16) (harg2 : arg2.IsWhole) (arg3 : Memref sig .tc .vmem S128x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x9x2048 .f32) (harg7 : arg7.IsWhole) (arg8 : Memref sig .tc .vmem S1x2048 .f32) (harg8 : arg8.IsWhole) (arg9 : Memref sig .tc .vmem S128x2048 .f32) (harg9 : arg9.IsWhole)
    (x0 : Vec F S1024x2048 .bf16) (x1 : Vec F S128x2048 .f32) (x2 : Vec F S2048x512 .bf16) (x3 : Vec F S2048x512 .bf16) (x4 : Vec F S512x2048 .bf16) (x5 : Vec F S1x9x2048 .f32) (x6 : Vec F S1x2048 .f32) (X : Vec F S2x1024x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) (Memref.whole cc0_scratch0) fullShare X
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (ep s' q x1 x5 x6 X) ∗ owns (c : Thread nD τ) (Memref.whole cc0_scratch0) fullShare (mm (BitVec.ofNat 32 (i 1).val) s x0 x2 x3 x4 X)) -∗ K ⟨⟩))
      ⊢ wp frame (wpE (defs₀ (F := F)) Variants.none c none) E (cc0_ffn i arg2 harg2 arg3 harg3 arg4 harg4 arg5 harg5 arg6 harg6 arg7 harg7 arg8 harg8 arg9 harg9 (Memref.whole cc0_scratch0) (Memref.isWhole_whole _)) K := by
  simp only [cc0_ffn_eq_skeleton]; unfold cc0_ffn_skel
  letI : ClosedOff (k0_off3 i) := ⟨![s'.val, 128 * q.val, 0], ho3⟩
  letI : ClosedOff (k0_off4 i) := ⟨![s.val, 0, 0], ho4⟩
  letI : ClosedOff (k0_off5 i) := ⟨![s.val, 512, 0], ho5⟩
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%fs, %hfs, HS⟩, Hk⟩
  subst hf0 hf1 hf2 hf3 hf4 hf5 hf6 hfs
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H9]
  · iexists _; isplitr
    swap; · iexact H9
    ipureintro
    rw [View.read_writes_eq_canon _ _ _ (cover_out _)]
    have e1 := readAt_off (F := F) (Memref.whole cc0_scratch0).view fs ho3 (by rw [ho3]; exact inbChunk s' q) (inbChunk s' q)
    unfold ep
    rw [← e1]
    rfl
  iexists _; isplitr
  swap; · iexact HS
  ipureintro
  rw [read_writes_over]
  have e1 := readAt_off (F := F) (Memref.whole cc0_scratch0).view fs ho4 (by rw [ho4]; exact inbHalf s 0 (by omega)) (inbHalf s 0 (by omega))
  have e2 := readAt_off (F := F) (Memref.whole cc0_scratch0).view fs ho5 (by rw [ho5]; exact inbHalf s 512 (by omega)) (inbHalf s 512 (by omega))
  unfold mm
  rw [← e1, ← e2]
  rfl

set_option sl_exec.closedPieces true in
set_option maxHeartbeats 4000000 in
/-- A point after the last row tile, before its ninth: a block of the last tile is finished. -/
theorem caseE (c : Dev nD) (E : Set ℕ) (i : grid0.Coords) (h1 : ¬ w1 i = 1#1) (h2 : ¬ k0_cond2 i = 1#1) (h3 : ¬ k0_cond3 i = 1#1) (h4 : ¬ k0_cond4 i = 1#1) (h5 : k0_cond5 i = 1#1)
    (s s' : Fin 2) (q : Fin 8) (ho8 : k0_off8 i = ![s'.val, 128 * q.val, 0])
    (arg2 : Memref sig .tc .vmem S1024x2048 .bf16) (harg2 : arg2.IsWhole) (arg3 : Memref sig .tc .vmem S128x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x9x2048 .f32) (harg7 : arg7.IsWhole) (arg8 : Memref sig .tc .vmem S1x2048 .f32) (harg8 : arg8.IsWhole) (arg9 : Memref sig .tc .vmem S128x2048 .f32) (harg9 : arg9.IsWhole)
    (x1 : Vec F S128x2048 .f32) (x5 : Vec F S1x9x2048 .f32) (x6 : Vec F S1x2048 .f32) (X : Vec F S2x1024x2048 .f32) (K : PUnit → sProp 𝕄) :
    iprop(owns (c : Thread nD τ) arg3 fullShare x1 ∗ owns (c : Thread nD τ) arg7 fullShare x5 ∗ owns (c : Thread nD τ) arg8 fullShare x6 ∗ (∃ d, owns (c : Thread nD τ) arg9 fullShare d) ∗ owns (c : Thread nD τ) (Memref.whole cc0_scratch0) fullShare X
        ∗ (iprop(owns (c : Thread nD τ) arg3 fullShare x1 ∗ owns (c : Thread nD τ) arg7 fullShare x5 ∗ owns (c : Thread nD τ) arg8 fullShare x6 ∗ owns (c : Thread nD τ) arg9 fullShare (ep s' q x1 x5 x6 X) ∗ owns (c : Thread nD τ) (Memref.whole cc0_scratch0) fullShare X) -∗ K ⟨⟩))
      ⊢ wp frame (wpE (defs₀ (F := F)) Variants.none c none) E (cc0_ffn i arg2 harg2 arg3 harg3 arg4 harg4 arg5 harg5 arg6 harg6 arg7 harg7 arg8 harg8 arg9 harg9 (Memref.whole cc0_scratch0) (Memref.isWhole_whole _)) K := by
  simp only [cc0_ffn_eq_skeleton]; unfold cc0_ffn_skel
  letI : ClosedOff (k0_off8 i) := ⟨![s'.val, 128 * q.val, 0], ho8⟩
  unfold owns
  iintro ⟨⟨%f1, %hf1, H1⟩, ⟨%f5, %hf5, H5⟩, ⟨%f6, %hf6, H6⟩, ⟨%d9, %f9, -, H9⟩, ⟨%fs, %hfs, HS⟩, Hk⟩
  subst hf1 hf5 hf6 hfs
  sl_exec
  sl_step
  iapply Hk
  isplitl [H1]
  · iexists f1; isplitr; · ipureintro; rfl
    iexact H1
  isplitl [H5]
  · iexists f5; isplitr; · ipureintro; rfl
    iexact H5
  isplitl [H6]
  · iexists f6; isplitr; · ipureintro; rfl
    iexact H6
  isplitl [H9]
  · iexists _; isplitr
    swap; · iexact H9
    ipureintro
    rw [View.read_writes_eq_canon _ _ _ (cover_out _)]
    have e1 := readAt_off (F := F) (Memref.whole cc0_scratch0).view fs ho8 (by rw [ho8]; exact inbChunk s' q) (inbChunk s' q)
    unfold ep
    rw [← e1]
    rfl
  iexists _; isplitr
  swap; · iexact HS
  ipureintro
  rfl

set_option sl_exec.closedPieces true in
set_option maxHeartbeats 4000000 in
/-- The last points: nothing. -/
theorem caseZ (c : Dev nD) (E : Set ℕ) (i : grid0.Coords) (h1 : ¬ w1 i = 1#1) (h2 : ¬ k0_cond2 i = 1#1) (h3 : ¬ k0_cond3 i = 1#1) (h4 : ¬ k0_cond4 i = 1#1) (h5 : ¬ k0_cond5 i = 1#1)
    (s s' : Fin 2) (q : Fin 8)
    (arg2 : Memref sig .tc .vmem S1024x2048 .bf16) (harg2 : arg2.IsWhole) (arg3 : Memref sig .tc .vmem S128x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x9x2048 .f32) (harg7 : arg7.IsWhole) (arg8 : Memref sig .tc .vmem S1x2048 .f32) (harg8 : arg8.IsWhole) (arg9 : Memref sig .tc .vmem S128x2048 .f32) (harg9 : arg9.IsWhole)
     (X : Vec F S2x1024x2048 .f32) (K : PUnit → sProp 𝕄) :
    iprop(owns (c : Thread nD τ) (Memref.whole cc0_scratch0) fullShare X
        ∗ (iprop(owns (c : Thread nD τ) (Memref.whole cc0_scratch0) fullShare X) -∗ K ⟨⟩))
      ⊢ wp frame (wpE (defs₀ (F := F)) Variants.none c none) E (cc0_ffn i arg2 harg2 arg3 harg3 arg4 harg4 arg5 harg5 arg6 harg6 arg7 harg7 arg8 harg8 arg9 harg9 (Memref.whole cc0_scratch0) (Memref.isWhole_whole _)) K := by
  simp only [cc0_ffn_eq_skeleton]; unfold cc0_ffn_skel
  unfold owns
  iintro ⟨⟨%fs, %hfs, HS⟩, Hk⟩
  subst hfs
  sl_exec
  sl_step
  iapply Hk
  iexists _; isplitr
  swap; · iexact HS
  ipureintro
  rfl

end Cert.Kernel6Ideal.Hand
-- ==== Proof.FfnGrid.lean ====
module

public import proofs.«01_k».proof.Proof.FfnBody
public import Idealize.ShloMosaic.Lib.Pipeline.TableIdle
public import Idealize.ShloMosaic.Lib.Quiescent

@[expose] public section

set_option maxRecDepth 16384

noncomputable section

namespace Cert.Kernel6Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel6Ideal.Gen

variable {F : FTy → Type} [FloatOps F]

local notation "𝕄" => MT nD τ sig Unit (Elt F) ℕ (UR sig nD τ) ℕ

/-! ## The grid -/

/-- The accumulator half the point's matrix products go to: its row tile's parity. -/
def slot (t : Fin grid0.N) : Fin 2 := ⟨t.val / 11 % 2, Nat.mod_lt _ (by decide)⟩
/-- The other half, where the row tile before is complete. -/
def oslot (t : Fin grid0.N) : Fin 2 := ⟨1 - t.val / 11 % 2, by omega⟩
/-- The chunk of rows the epilogue of the point writes. -/
def chunk (t : Fin grid0.N) : Fin 8 := ⟨min (t.val % 11) 7, by omega⟩

theorem coords0 : ∀ t : Fin grid0.N, (grid0.coords t 0).val = t.val / 11 := by decide +kernel
theorem coords1 : ∀ t : Fin grid0.N, (grid0.coords t 1).val = t.val % 11 := by decide +kernel
theorem w1_iff : ∀ t : Fin grid0.N, w1 (grid0.coords t) = 1#1 ↔ t.val = 0 := by decide +kernel
theorem cond2_iff : ∀ t : Fin grid0.N, k0_cond2 (grid0.coords t) = 1#1 ↔ t.val < 8 := by decide +kernel
theorem cond3_iff : ∀ t : Fin grid0.N, k0_cond3 (grid0.coords t) = 1#1 ↔ 11 ≤ t.val ∧ t.val < 176 ∧ t.val % 11 < 8 := by decide +kernel
theorem cond4_iff : ∀ t : Fin grid0.N, k0_cond4 (grid0.coords t) = 1#1 ↔ t.val < 176 ∧ 8 ≤ t.val % 11 := by decide +kernel
theorem cond5_iff : ∀ t : Fin grid0.N, k0_cond5 (grid0.coords t) = 1#1 ↔ 176 ≤ t.val ∧ t.val % 11 < 8 := by decide +kernel
theorem off1_eq : ∀ t : Fin grid0.N, k0_off1 (grid0.coords t) = ![(slot t).val, 0, 0] := by decide +kernel
theorem off2_eq : ∀ t : Fin grid0.N, k0_off2 (grid0.coords t) = ![(slot t).val, 512, 0] := by decide +kernel
theorem off3_eq : ∀ t : Fin grid0.N, k0_off3 (grid0.coords t) = ![(oslot t).val, 128 * (chunk t).val, 0] := by decide +kernel
theorem off4_eq : ∀ t : Fin grid0.N, k0_off4 (grid0.coords t) = ![(slot t).val, 0, 0] := by decide +kernel
theorem off5_eq : ∀ t : Fin grid0.N, k0_off5 (grid0.coords t) = ![(slot t).val, 512, 0] := by decide +kernel
theorem off6_eq : ∀ t : Fin grid0.N, k0_off6 (grid0.coords t) = ![(slot t).val, 0, 0] := by decide +kernel
theorem off7_eq : ∀ t : Fin grid0.N, k0_off7 (grid0.coords t) = ![(slot t).val, 512, 0] := by decide +kernel
theorem off8_eq : ∀ t : Fin grid0.N, k0_off8 (grid0.coords t) = ![(oslot t).val, 128 * (chunk t).val, 0] := by decide +kernel

/-- The result's window is stored at the points of the second and later row tiles that have a chunk of their own. -/
theorem idle_iff : ∀ t : Fin grid0.N, cfg0.idle 7 (cfg0.grid.coords t) = !(decide (11 ≤ t.val) && decide (t.val % 11 < 8)) := by decide +kernel

/-- The result's window is written back after each chunk: at the points whose next point has another chunk. -/
theorem flushF_iff : ∀ t : Fin grid0.N, (cfg0.win 7).flushF t = ((decide (11 ≤ t.val) && (decide (t.val % 11 < 7) || decide (t.val % 11 = 10))) || decide (t.val = 186)) := by decide +kernel

theorem flush_iff (t : Fin cfg0.N) : (cfg0.win 7).flush t = ((decide (11 ≤ t.val) && (decide (t.val % 11 < 7) || decide (t.val % 11 = 10))) || decide (t.val = 186)) :=
  ((cfg0.win 7).flush_eq_flushF t).trans (flushF_iff t)

end Cert.Kernel6Ideal.Hand

end
-- ==== Proof.FfnRun.lean ====
module

public import proofs.«01_k».proof.Proof.FfnGrid
public import Idealize.ShloMosaic.Lib.Quiescent

@[expose] public section

set_option maxRecDepth 16384

noncomputable section

namespace Cert.Kernel6Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel6Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- Window 0's block at a point. -/
abbrev b0 (c : Dev nD) (t : Fin grid0.N) : Vec F S1024x2048 .bf16 := iblk m c 0 t
/-- Window 1's block at a point. -/
abbrev b1 (c : Dev nD) (t : Fin grid0.N) : Vec F S128x2048 .f32 := iblk m c 1 t
/-- Window 2's block at a point. -/
abbrev b2 (c : Dev nD) (t : Fin grid0.N) : Vec F S2048x512 .bf16 := iblk m c 2 t
/-- Window 3's block at a point. -/
abbrev b3 (c : Dev nD) (t : Fin grid0.N) : Vec F S2048x512 .bf16 := iblk m c 3 t
/-- Window 4's block at a point. -/
abbrev b4 (c : Dev nD) (t : Fin grid0.N) : Vec F S512x2048 .bf16 := iblk m c 4 t
/-- Window 5's block at a point. -/
abbrev b5 (c : Dev nD) (t : Fin grid0.N) : Vec F S1x9x2048 .f32 := iblk m c 5 t
/-- Window 6's block at a point. -/
abbrev b6 (c : Dev nD) (t : Fin grid0.N) : Vec F S1x2048 .f32 := iblk m c 6 t

/-- The accumulator after one more point: at the points of the sixteen row tiles the products of the hidden block are added. -/
def step (c : Dev nD) (t : Fin grid0.N) (X : Vec F S2x1024x2048 .f32) : Vec F S2x1024x2048 .f32 :=
  if t.val < 176 then mm (BitVec.ofNat 32 (grid0.coords t 1).val) (slot t) (b0 m c t) (b2 m c t) (b3 m c t) (b4 m c t) X else X

/-- The accumulator when `n` points are done. -/
def acc (c : Dev nD) : ℕ → Vec F S2x1024x2048 .f32
  | 0 => k0_pay13
  | n + 1 => if h : n < grid0.N then step m c ⟨n, h⟩ (acc c n) else acc c n

theorem acc_succ (c : Dev nD) (t : Fin grid0.N) : acc m c (t.val + 1) = step m c t (acc m c t.val) := by
  show (if h : t.val < grid0.N then step m c ⟨t.val, h⟩ (acc m c t.val) else acc m c t.val) = _
  rw [dif_pos t.isLt]

/-- The last point at or before `t` that has a chunk of its own. -/
def lastPt (t : Fin grid0.N) : Fin grid0.N := ⟨t.val - (t.val % 11 - 7), Nat.lt_of_le_of_lt (Nat.sub_le _ _) t.isLt⟩

/-- The chunk of the result in its staging buffer after the point. -/
def outBlk (c : Dev nD) (t : Fin grid0.N) : Vec F S128x2048 .f32 :=
  ep (oslot (lastPt t)) (chunk (lastPt t)) (b1 m c (lastPt t)) (b5 m c (lastPt t)) (b6 m c (lastPt t)) (acc m c (lastPt t).val)

/-- Between points: the accumulator holds `acc` (before the first point anything), and the generator register rests. -/
def PhiS (c : Dev nD) (n : ℕ) (h : n ≤ cfg0.N) : sProp 𝕄 :=
  iprop((∃ X, ⌜n ≠ 0 → X = acc m c n⌝ ∗ owns (c : Thread nD τ) (Memref.whole cc0_scratch0) fullShare X) ∗ ∃ r, prngReg c r)

/-- The proof data of the launch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlk m c t
    | ⟨_ + 8, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]
theorem Phi_castSucc (c : Dev nD) (t : Fin cfg0.N) : (dats m 0 c).Φ t.castSucc = PhiS m c t.val (Nat.le_of_lt t.isLt) := by
  dsimp only [dats]; exact Pipeline.Dat.Φ_castSucc (PhiS m c) t
theorem Phi_succ (c : Dev nD) (t : Fin cfg0.N) : (dats m 0 c).Φ t.succ = PhiS m c (t.val + 1) t.isLt := by dsimp only [dats]; rfl
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outBlk m c t := by dsimp only [dats]
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d

theorem acc_mm (c : Dev nD) (t : Fin grid0.N) (ht : t.val < 176) :
    acc m c (t.val + 1) = mm (BitVec.ofNat 32 (grid0.coords t 1).val) (slot t) (b0 m c t) (b2 m c t) (b3 m c t) (b4 m c t) (acc m c t.val) := by
  rw [acc_succ]; unfold step; rw [if_pos ht]

theorem acc_idle (c : Dev nD) (t : Fin grid0.N) (ht : ¬ t.val < 176) : acc m c (t.val + 1) = acc m c t.val := by
  rw [acc_succ]; unfold step; rw [if_neg ht]

theorem lastPt_self (t : Fin grid0.N) (h : t.val % 11 < 8) : lastPt t = t := Fin.ext (by show t.val - (t.val % 11 - 7) = t.val; omega)

theorem outBlk_self (c : Dev nD) (t : Fin grid0.N) (h : t.val % 11 < 8) :
    outBlk m c t = ep (oslot t) (chunk t) (b1 m c t) (b5 m c t) (b6 m c t) (acc m c t.val) := by
  unfold outBlk; rw [lastPt_self t h]

/-- At a point without a chunk that writes back, the staging buffer still holds the tile's last chunk. -/
theorem before7_flush (c : Dev nD) (t : Fin cfg0.N) (ht : 11 ≤ t.val) (hj : t.val % 11 = 10) (d) : (dats m 0 c).before 7 t d = outBlk m c t := by
  have hfetch : ∀ u, (cfg0.win 7).fetch u = false := (cfg0.win 7).fetch_out rfl
  rw [Dat.before_idle_run (dats m 0 c) 7 hfetch d 2 t (by omega) (fun j h1 h2 => by
    have e : j.val % 11 = 8 ∨ j.val % 11 = 9 := by omega
    refine ⟨(idle_iff j).trans ?_, (flush_iff j).trans ?_⟩
    · rw [decide_eq_false (p := j.val % 11 < 8) (by omega), Bool.and_false]; rfl
    · rw [decide_eq_false (p := j.val % 11 < 7) (by omega), decide_eq_false (p := j.val % 11 = 10) (by omega), decide_eq_false (p := j.val = 186) (by omega)]
      simp only [Bool.or_false, Bool.and_false])]
  rw [Dat.before_of_pos (dats m 0 c) 7 ⟨t.val - 2, Nat.lt_of_le_of_lt (Nat.sub_le _ _) t.isLt⟩ (by show t.val - 2 ≠ 0; omega) (hfetch _) d]
  have hf : (cfg0.win 7).flush ⟨t.val - 2 - 1, Nat.lt_of_le_of_lt (Nat.sub_le _ _) (Nat.lt_of_le_of_lt (Nat.sub_le _ _) t.isLt)⟩ = false := by
    refine (flush_iff _).trans ?_
    show ((decide (11 ≤ t.val - 2 - 1) && (decide ((t.val - 2 - 1) % 11 < 7) || decide ((t.val - 2 - 1) % 11 = 10))) || decide (t.val - 2 - 1 = 186)) = false
    rw [decide_eq_false (p := (t.val - 2 - 1) % 11 < 7) (by omega), decide_eq_false (p := (t.val - 2 - 1) % 11 = 10) (by omega), decide_eq_false (p := t.val - 2 - 1 = 186) (by omega)]
    simp only [Bool.or_false, Bool.and_false]
  have hi : cfg0.idle 7 (cfg0.grid.coords ⟨t.val - 2 - 1, Nat.lt_of_le_of_lt (Nat.sub_le _ _) (Nat.lt_of_le_of_lt (Nat.sub_le _ _) t.isLt)⟩) = false := by
    refine (idle_iff _).trans ?_
    show (!(decide (11 ≤ t.val - 2 - 1) && decide ((t.val - 2 - 1) % 11 < 8))) = false
    rw [decide_eq_true (p := 11 ≤ t.val - 2 - 1) (by omega), decide_eq_true (p := (t.val - 2 - 1) % 11 < 8) (by omega)]; rfl
  rw [if_neg (by rw [hf]; exact Bool.false_ne_true)]
  unfold Dat.left
  rw [hi]
  show (dats m 0 c).kept 7 _ d = _
  unfold Dat.kept
  rw [after7]
  have e : outBlk m c ⟨t.val - 2 - 1, Nat.lt_of_le_of_lt (Nat.sub_le _ _) (Nat.lt_of_le_of_lt (Nat.sub_le _ _) t.isLt)⟩ = outBlk m c t := by
    have e2 : lastPt ⟨t.val - 2 - 1, Nat.lt_of_le_of_lt (Nat.sub_le _ _) (Nat.lt_of_le_of_lt (Nat.sub_le _ _) t.isLt)⟩ = lastPt t :=
      Fin.ext (by show t.val - 2 - 1 - ((t.val - 2 - 1) % 11 - 7) = t.val - (t.val % 11 - 7); omega)
    unfold outBlk; rw [e2]
  rw [e]
  exact (Pipeline.fill_of_clip_none (cfg := cfg0) 7 _ (fun _ => rfl) d (outBlk m c t) _).trans (Window.fill_cut _ _ _)

/-- What the body is given at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (dats m 0 c).leavesExact 7 t)

/-- At a point that stores no chunk, the result's staging buffer is left as it was found. -/
theorem leaves7_idle (c : Dev nD) (t : Fin cfg0.N) (h : ¬ (11 ≤ t.val ∧ t.val % 11 < 8)) (d) :
    owns (c : Thread nD τ) (st0_7 t) fullShare ((dats m 0 c).before 7 t d) ⊢ (dats m 0 c).leavesExact 7 t := by
  have hi : cfg0.idle 7 (cfg0.grid.coords t) = true := by
    refine (idle_iff t).trans ?_
    rw [← Bool.decide_and, decide_eq_false h]; rfl
  cases hf : (cfg0.win 7).flush t with
  | false => rw [Dat.leavesExact_idle _ 7 t hi hf]; iintro H; iexists d; iexact H
  | true =>
    have hf' := (flush_iff t).symm.trans hf
    have h2 : 11 ≤ t.val ∧ t.val % 11 = 10 := by
      simp only [Bool.or_eq_true, Bool.and_eq_true, decide_eq_true_eq] at hf'
      omega
    unfold Dat.leavesExact
    rw [hi, hf, before7_flush m c t h2.1 h2.2 d, ← after7]

/-- At a point that stores a chunk, the result's staging buffer is left with it. -/
theorem leaves7_live (c : Dev nD) (t : Fin cfg0.N) (h : 11 ≤ t.val ∧ t.val % 11 < 8) :
    owns (c : Thread nD τ) (st0_7 t) fullShare (ep (oslot t) (chunk t) (b1 m c t) (b5 m c t) (b6 m c t) (acc m c t.val)) ⊢ (dats m 0 c).leavesExact 7 t := by
  have hi : cfg0.idle 7 (cfg0.grid.coords t) = false := by
    refine (idle_iff t).trans ?_
    rw [← Bool.decide_and, decide_eq_true h]; rfl
  unfold Dat.leavesExact
  rw [hi, after7, outBlk_self m c t h.2]

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [Phi_castSucc, Phi_succ, show (dats m 0 c).owesAt () t.succ = (dats m 0 c).owesAt () t.castSucc from rfl, after0, after1, after2, after3, after4, after5, after6]
  unfold PhiS
  have hN : t.val < 187 := lt_of_lt_of_eq t.isLt N_0
  iintro ⟨⟨⟨%X, %hX, HS⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases hA : t.val < 8
  · have hacc : acc m c (t.val + 1) = mm (BitVec.ofNat 32 (grid0.coords t 1).val) (slot t) (b0 m c t) (b2 m c t) (b3 m c t) (b4 m c t) (if w1 (grid0.coords t) = 1#1 then k0_pay13 else X) := by
      rw [acc_mm m c t (by omega)]
      congr 1
      by_cases h0 : t.val = 0
      · rw [if_pos ((w1_iff t).mpr h0), h0]; rfl
      · rw [if_neg (fun h => h0 ((w1_iff t).mp h)), hX h0]
    iapply (caseA c Set.univ (grid0.coords t) ((cond2_iff t).mpr (by omega)) (fun h => by have := (cond3_iff t).mp h; omega) (fun h => by have := (cond4_iff t).mp h; omega) (fun h => by have := (cond5_iff t).mp h; omega) (slot t) (oslot t) (chunk t) (off1_eq t) (off2_eq t) (st0_0 t) _ (st0_1 t) _ (st0_2 t) _ (st0_3 t) _ (st0_4 t) _ (st0_5 t) _ (st0_6 t) _ (st0_7 t) _ (b0 m c t) (b2 m c t) (b3 m c t) (b4 m c t) X _)
    isplitl [H0]; · iexact H0
    isplitl [H2]; · iexact H2
    isplitl [H3]; · iexact H3
    isplitl [H4]; · iexact H4
    isplitl [HS]; · iexact HS
    iintro ⟨H0, H2, H3, H4, HS⟩
    isplitl [HS Hr]
    · isplitl [HS]
      · iexists _; isplitr
        · ipureintro; intro _; exact rfl
        · rw [hacc]; iexact HS
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply (leaves7_idle m c t (by omega) d7); iexact H7
  have h0 : t.val ≠ 0 := by omega
  obtain rfl := hX h0
  by_cases hT : t.val < 176
  · rw [acc_mm m c t hT]
    by_cases hD : 8 ≤ t.val % 11
    · iapply (caseD c Set.univ (grid0.coords t) (fun h => by have := (w1_iff t).mp h; omega) (fun h => by have := (cond2_iff t).mp h; omega) (fun h => by have := (cond3_iff t).mp h; omega) ((cond4_iff t).mpr (by omega)) (fun h => by have := (cond5_iff t).mp h; omega) (slot t) (oslot t) (chunk t) (off6_eq t) (off7_eq t) (st0_0 t) _ (st0_1 t) _ (st0_2 t) _ (st0_3 t) _ (st0_4 t) _ (st0_5 t) _ (st0_6 t) _ (st0_7 t) _ (b0 m c t) (b2 m c t) (b3 m c t) (b4 m c t) (acc m c t.val) _)
      isplitl [H0]; · iexact H0
      isplitl [H2]; · iexact H2
      isplitl [H3]; · iexact H3
      isplitl [H4]; · iexact H4
      isplitl [HS]; · iexact HS
      iintro ⟨H0, H2, H3, H4, HS⟩
      isplitl [HS Hr]
      · isplitl [HS]
        · iexists _; isplitr
          · ipureintro; intro _; exact rfl
          · iexact HS
        · iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iapply (leaves7_idle m c t (by omega) d7); iexact H7
    · iapply (caseC c Set.univ (grid0.coords t) (fun h => by have := (w1_iff t).mp h; omega) (fun h => by have := (cond2_iff t).mp h; omega) ((cond3_iff t).mpr (by omega)) (fun h => by have := (cond4_iff t).mp h; omega) (fun h => by have := (cond5_iff t).mp h; omega) (slot t) (oslot t) (chunk t) (off3_eq t) (off4_eq t) (off5_eq t) (st0_0 t) _ (st0_1 t) _ (st0_2 t) _ (st0_3 t) _ (st0_4 t) _ (st0_5 t) _ (st0_6 t) _ (st0_7 t) _ (b0 m c t) (b1 m c t) (b2 m c t) (b3 m c t) (b4 m c t) (b5 m c t) (b6 m c t) (acc m c t.val) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HS Hr]
      · isplitl [HS]
        · iexists _; isplitr
          · ipureintro; intro _; exact rfl
          · iexact HS
        · iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iapply (leaves7_live m c t (by omega)); iexact H7
  · rw [acc_idle m c t hT]
    by_cases hE : t.val % 11 < 8
    · iapply (caseE c Set.univ (grid0.coords t) (fun h => by have := (w1_iff t).mp h; omega) (fun h => by have := (cond2_iff t).mp h; omega) (fun h => by have := (cond3_iff t).mp h; omega) (fun h => by have := (cond4_iff t).mp h; omega) ((cond5_iff t).mpr (by omega)) (slot t) (oslot t) (chunk t) (off8_eq t) (st0_0 t) _ (st0_1 t) _ (st0_2 t) _ (st0_3 t) _ (st0_4 t) _ (st0_5 t) _ (st0_6 t) _ (st0_7 t) _ (b1 m c t) (b5 m c t) (b6 m c t) (acc m c t.val) _)
      isplitl [H1]; · iexact H1
      isplitl [H5]; · iexact H5
      isplitl [H6]; · iexact H6
      isplitl [H7]; · iexists _; iexact H7
      isplitl [HS]; · iexact HS
      iintro ⟨H1, H5, H6, H7, HS⟩
      isplitl [HS Hr]
      · isplitl [HS]
        · iexists _; isplitr
          · ipureintro; intro _; exact rfl
          · iexact HS
        · iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iapply (leaves7_live m c t (by omega)); iexact H7
    · iapply (caseZ c Set.univ (grid0.coords t) (fun h => by have := (w1_iff t).mp h; omega) (fun h => by have := (cond2_iff t).mp h; omega) (fun h => by have := (cond3_iff t).mp h; omega) (fun h => by have := (cond4_iff t).mp h; omega) (fun h => by have := (cond5_iff t).mp h; omega) (slot t) (oslot t) (chunk t)  (st0_0 t) _ (st0_1 t) _ (st0_2 t) _ (st0_3 t) _ (st0_4 t) _ (st0_5 t) _ (st0_6 t) _ (st0_7 t) _  (acc m c t.val) _)
      isplitl [HS]; · iexact HS
      iintro ⟨HS⟩
      isplitl [HS Hr]
      · isplitl [HS]
        · iexists _; isplitr
          · ipureintro; intro _; exact rfl
          · iexact HS
        · iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iapply (leaves7_idle m c t (by omega) d7); iexact H7

/-- The body table's row at point `t`'s slots is the body. -/
theorem row (t : Fin cfg0.N) : defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

/-- What the launch hands over is the invariant before the first point. -/
theorem phi_in (c : Dev nD) : Pipeline.ΦA spec0 c ⊢ (dats (F := F) m 0 c).Φ 0 := by
  rw [show (dats (F := F) m 0 c).Φ 0 = PhiS m c 0 (Nat.zero_le _) from by dsimp only [dats]; rfl]
  unfold Pipeline.ΦA PhiS
  rw [scopedRest0_eq]
  iintro ⟨⟨%f, H⟩, Hr⟩
  isplitl [H]
  · iexists f; isplitr
    · ipureintro; intro h; exact absurd rfl h
    · rw [owns_whole]; iexact H
  · iexact Hr

/-- The invariant after the last point is what the launch gives back. -/
theorem phi_out (c : Dev nD) : (dats (F := F) m 0 c).Φ (Fin.last cfg0.N) ⊢ Pipeline.ΦA spec0 c := by
  rw [show (dats (F := F) m 0 c).Φ (Fin.last cfg0.N) = PhiS m c cfg0.N (le_refl _) from by dsimp only [dats]; rfl]
  unfold Pipeline.ΦA PhiS
  rw [scopedRest0_eq]
  iintro ⟨⟨%X, %hX, H⟩, Hr⟩
  isplitl [H]
  · iexists X; rw [← owns_whole]; iexact H
  · iexact Hr

set_option backward.isDefEq.respectTransparency.types false in
set_option maxHeartbeats 800000 in
/-- The run: it ends, the result is what the write-backs left, and every counter is zero. (The raised limit is for
    unifying with the region of 187 points and eight windows.) -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main (hbody := fun c => (body_obligation m c).loose)
    (hshare := fun c => (dats m 0 c).share_full fun _ => rfl) (howed := fun _ _ => rfl) (V := V m) (hmain := hmain m Variants.none) (hA := A_eq m)
    (hin := phi_in m) (hout := phi_out m)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the run ends, the argument arrays are unchanged and every counter is zero. -/
theorem frame_post : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Kernel6Ideal.Hand

end
-- ==== Proof.FfnFrame.lean ====
module

public import proofs.«01_k».proof.Defs
public import proofs.«01_k».proof.Proof.FfnRun
public import proofs.«01_k».proof.Proof.Gen.Kernel6

@[expose] public section

set_option maxRecDepth 16384

noncomputable section

namespace Cert.Ffn

open Idealize.ShloMosaic Idealize.ShloMosaic.TcCoe

instance : Cert.Kernel6.Facts := Cert.Kernel6.Gen.facts
instance : Cert.Kernel6Ideal.Facts := Cert.Kernel6Ideal.Gen.facts

/-- `Kernel6Ideal` runs to its end on ideal numbers, leaves its arguments as they were and every counter at zero. -/
theorem frame_Kernel6Ideal : Cert.quiescent_Kernel6Ideal := fun m ρ _ =>
  Cert.Kernel6Ideal.Hand.frame_post (F := Ideal) m ρ

/-- The two programs' kernels are one text. -/
theorem defs₀_eq : Cert.Kernel6.defs₀ (F := Bits) = Cert.Kernel6Ideal.defs₀ (F := Bits) := by
  unfold Cert.Kernel6.defs₀ Cert.Kernel6Ideal.defs₀
  refine congrArg Defs.onTc ?_
  funext l x
  match l, x with
  | ⟨0, _⟩, (t, s) => rfl
  | ⟨_ + 1, h⟩, _ => exact absurd h (Nat.not_lt.2 (Nat.le_add_left _ _))

/-- So are their body tables. -/
theorem defs_eq : Cert.Kernel6.defs (F := Bits) = Cert.Kernel6Ideal.defs (F := Bits) := by
  unfold Cert.Kernel6.defs Cert.Kernel6Ideal.defs
  rw [defs₀_eq]
  rfl

/-- `Kernel6` runs to its end on machine numbers, leaves its arguments as they were and every counter at zero: the two
    programs have one text, so the run above at machine numbers is its run. -/
theorem frame_Kernel6 : Cert.quiescent_Kernel6 := fun m ρ _ => by
  rw [defs_eq]
  exact Cert.Kernel6Ideal.Hand.frame_post (F := Bits) m ρ

end Cert.Ffn

end
-- ==== Proof.FfnSpec.lean ====
/- The closing feed-forward block and the final norm, entry by entry: what the kernel's run and the reference's run are compared by. -/
module

public import proofs.«01_k».proof.Proof.Product
public import proofs.«01_k».proof.Proof.Sigmoid

@[expose] public section

noncomputable section

namespace Cert.Spec

open Idealize.ShloMosaic Idealize.ShloMosaic.ValueIdx

/-- SwiGLU's activation of the two hidden values: silu of the first, times the second. -/
def gated (a b : EReal) : EReal := (a * Ideal.logistic a) * b

variable (h x : (⟨3, ![2, 8192, 2048]⟩ : Shape).Idx → EReal) (w : (⟨3, ![1, 2048, 11008]⟩ : Shape).Idx → EReal)
  (wo : (⟨3, ![1, 5504, 2048]⟩ : Shape).Idx → EReal) (mods : (⟨2, ![2, 18432]⟩ : Shape).Idx → EReal)
  (nw : (⟨1, ![2048]⟩ : Shape).Idx → EReal)

/-- Entry (`r`, `n`) of the hidden states times the block's input weights, the two sequences laid one after the other. -/
def ffnHid (r : Fin 16384) (n : Fin 11008) : EReal := ∑ k : Fin 2048, h (hidx r k) * w (ix3 0 k n)

/-- The activation at row `r` and hidden feature `n`. -/
def ffnAct (r : Fin 16384) (n : Fin 5504) : EReal :=
  gated (ffnHid h w r ⟨n.val, by omega⟩) (ffnHid h w r ⟨5504 + n.val, by omega⟩)

/-- The activations times the block's output weights. -/
def ffnSum (r : Fin 16384) (d : Fin 2048) : EReal := ∑ n : Fin 5504, ffnAct h w r n * wo (ix3 0 n d)

/-- The `n`-th term of that sum, zero beyond the last hidden feature. -/
def ffnTerm (r : Fin 16384) (d : Fin 2048) (n : ℕ) : EReal :=
  if hn : n < 5504 then ffnAct h w r ⟨n, hn⟩ * wo (ix3 0 ⟨n, hn⟩ d) else 0

/-- The sum over the first `J` blocks of 512 hidden features. -/
def ffnPart (r : Fin 16384) (d : Fin 2048) (J : ℕ) : EReal := ∑ n ∈ Finset.range (512 * J), ffnTerm h w wo r d n

theorem ffnPart_zero (r : Fin 16384) (d : Fin 2048) : ffnPart h w wo r d 0 = 0 := by
  unfold ffnPart; simp

/-- One more block of hidden features adds its 512 terms. -/
theorem ffnPart_succ (r : Fin 16384) (d : Fin 2048) (J : ℕ) :
    ffnPart h w wo r d (J + 1) = ffnPart h w wo r d J + ∑ q : Fin 512, ffnTerm h w wo r d (512 * J + q.val) := by
  unfold ffnPart
  rw [Nat.mul_succ, Finset.sum_range_add, Finset.sum_range (fun q => ffnTerm h w wo r d (512 * J + q))]

/-- Eleven blocks hold every hidden feature. -/
theorem ffnPart_all (r : Fin 16384) (d : Fin 2048) : ffnPart h w wo r d 11 = ffnSum h w wo r d := by
  unfold ffnPart ffnSum
  rw [show 512 * 11 = 5504 + 128 from rfl, Finset.sum_range_add, Finset.sum_range (ffnTerm h w wo r d)]
  have e0 : ∑ q ∈ Finset.range 128, ffnTerm h w wo r d (5504 + q) = 0 :=
    Finset.sum_eq_zero fun q _ => by unfold ffnTerm; rw [dif_neg (by omega)]
  rw [e0, add_zero]
  refine Finset.sum_congr rfl fun n _ => ?_
  unfold ffnTerm
  rw [dif_pos n.isLt]

/-- The rows with half of the gated block added: the gate is the ninth slab of the modulation. -/
def ffnRes (r : Fin 16384) (d : Fin 2048) : EReal :=
  x (hidx r d) + (Ideal.ofBits .f32 0x3F000000#32 * mods (ix2 ⟨r.val / 8192, by omega⟩ ⟨16384 + d.val, by omega⟩)) * ffnSum h w wo r d

/-- A row scaled by the reciprocal root of its mean square and by the norm's weights. -/
def rms (R W : Fin 2048 → EReal) (d : Fin 2048) : EReal :=
  (R d * Ideal.rsqrt (Ideal.div (∑ k : Fin 2048, R k * R k) (Ideal.ofBits .f32 0x45000000#32) + Ideal.ofBits .f32 0x358637BD#32)) * W d

/-- The result: the final norm of the rows with the block added. -/
def ffnOut (r : Fin 16384) (d : Fin 2048) : EReal :=
  rms (ffnRes h x w wo mods r) (fun k => nw (ix1 k)) d

end Cert.Spec

end
-- ==== Proof.FfnHost.lean ====
/- The operands the closing feed-forward kernel is called with, entry by entry, from the arguments as launched. -/
module

public import proofs.«01_k».proof.Proof.FfnRun
public import proofs.«01_k».proof.Proof.FfnSpec
public import Idealize.ShloMosaic.Lib.StableHlo.Run
public import Idealize.ShloMosaic.Lib.KernelVsHost

@[expose] public section

noncomputable section

namespace Cert.Kernel6Ideal.Hand

open Cert.Kernel6Ideal Cert.Kernel6Ideal.Gen Idealize.ShloMosaic.ValueIdx Idealize.ShloMosaic.TcCoe Idealize.SL.Sem
open Idealize.ShloMosaic hiding ix1 ix2 ix3 addf_apply mulf_apply truncf_apply constant_apply

variable (m : (ℓ : Loc nD τ sig) → Buf (Elt Ideal) ℓ) (c : Dev nD)

/-- The hidden states as launched. -/
abbrev aH : (⟨3, ![2, 8192, 2048]⟩ : Shape).Idx → EReal := m ((c : Thread nD τ).loc main_arg0)
/-- The rows the block's output is added to, as launched. -/
abbrev aX : (⟨3, ![2, 8192, 2048]⟩ : Shape).Idx → EReal := m ((c : Thread nD τ).loc main_arg1)
/-- The block's input weights as launched. -/
abbrev aW : (⟨3, ![1, 2048, 11008]⟩ : Shape).Idx → EReal := m ((c : Thread nD τ).loc main_arg2)
/-- The block's output weights as launched. -/
abbrev aO : (⟨3, ![1, 5504, 2048]⟩ : Shape).Idx → EReal := m ((c : Thread nD τ).loc main_arg3)
/-- The modulation as launched. -/
abbrev aM : (⟨2, ![2, 18432]⟩ : Shape).Idx → EReal := m ((c : Thread nD τ).loc main_arg4)
/-- The norm's weights as launched. -/
abbrev aN : (⟨1, ![2048]⟩ : Shape).Idx → EReal := m ((c : Thread nD τ).loc main_arg5)

/-- The value padded with, a converted integer zero, is zero. -/
theorem pad_zero (i : S_.Idx) : (sitofp (F := Ideal) .f32 (constantI S_ 32 0#32) : FVec Ideal S_ .f32) i = (0 : EReal) := by
  show ((((0#32 : BitVec 32).toInt : ℤ) : ℝ) : EReal) = 0
  simp

/-- Two sequences laid one after the other, at row `r` and column `k`. -/
theorem rows_apply (v : (⟨3, ![2, 8192, 2048]⟩ : Shape).Idx → EReal) (r : Fin 16384) (k : Fin 2048) :
    shapeCast S16384x2048 v shapeCasts_S2x8192x2048_S16384x2048 (ix2 r k) = v (Spec.hidx r k) := by
  refine shapeCast_apply _ _ _ _ ?_
  rw [Shape.rowMajor_val_three, Shape.rowMajor_val_two]
  show ((r.val / 8192) * 8192 + r.val % 8192) * 2048 + k.val = r.val * 2048 + k.val
  omega

theorem V_h (r : Fin 16384) (k : Fin 2048) : V m c main_v1 (ix2 r k) = aH m c (Spec.hidx r k) := by
  have e : (V m c main_v1 : S16384x2048.Idx → EReal)
      = truncf (F := Ideal) .bf16 (shapeCast S16384x2048 (aH m c) shapeCasts_S2x8192x2048_S16384x2048 : FVec Ideal S16384x2048 .f32) bitsLt_bf16_f32 := by
    unfold_abbrev_sides
    simp only [List.flatten_cons, List.flatten_nil, List.cons_append, List.nil_append, List.append_nil]
    after_results
    rfl
  rw [e, truncf_apply, rows_apply]

theorem V_x (r : Fin 16384) (k : Fin 2048) : V m c main_v2 (ix2 r k) = aX m c (Spec.hidx r k) := by
  have e : (V m c main_v2 : S16384x2048.Idx → EReal) = shapeCast S16384x2048 (aX m c) shapeCasts_S2x8192x2048_S16384x2048 := by
    unfold_abbrev_sides
    simp only [List.flatten_cons, List.flatten_nil, List.cons_append, List.nil_append, List.append_nil]
    after_results
    rfl
  rw [e, rows_apply]

/-- The input weights without their leading axis. -/
theorem w_apply (k : Fin 2048) (n : Fin 11008) :
    shapeCast S2048x11008 (aW m c) shapeCasts_S1x2048x11008_S2048x11008 (ix2 k n) = aW m c (ix3 0 k n) := by
  refine shapeCast_apply _ _ _ _ ?_
  rw [Shape.rowMajor_val_three, Shape.rowMajor_val_two]
  show (0 * 2048 + k.val) * 11008 + n.val = k.val * 11008 + n.val
  omega

/-- Columns padded on the right with zeros. -/
theorem padc_apply (v : S2048x5504.Idx → EReal) (z : S_.Idx → EReal) (hz : ∀ i, z i = 0) (k : Fin 2048) (n : Fin 5632) :
    pad S2048x5632 ![0, 0] ![0, 128] ![0, 0] v z pads_S2048x5504_S2048x5632_000_01280 h_S_ (ix2 k n)
      = if hn : n.val < 5504 then v (ix2 k ⟨n.val, hn⟩) else 0 := by
  by_cases hn : n.val < 5504
  · rw [dif_pos hn]
    refine pad_apply_of_inside _ _ _ _ _ _ _ _ (ix2 k ⟨n.val, hn⟩) fun a => ?_
    match a with
    | ⟨0, _⟩ => show k.val = 0 + k.val * (0 + 1); omega
    | ⟨1, _⟩ => show n.val = 0 + n.val * (0 + 1); omega
  · rw [dif_neg hn]
    refine (pad_apply_of_not_inside _ _ _ _ _ _ _ _ 1 ?_).trans (hz _)
    intro hh
    have : (n.val - 0) / (0 + 1) < 5504 := hh.2.2
    omega

theorem V_a (k : Fin 2048) (n : Fin 5632) :
    V m c main_v6 (ix2 k n) = if hn : n.val < 5504 then aW m c (ix3 0 k ⟨n.val, by omega⟩) else 0 := by
  have e : (V m c main_v6 : S2048x5632.Idx → EReal)
      = truncf (F := Ideal) .bf16 (pad S2048x5632 ![0, 0] ![0, 128] ![0, 0]
          (extractStridedSlice S2048x5504 ![0, 0] (shapeCast S2048x11008 (aW m c) shapeCasts_S1x2048x11008_S2048x11008) slices_S2048x11008_S2048x5504_0_0)
          (sitofp (F := Ideal) .f32 (constantI S_ 32 0#32)) pads_S2048x5504_S2048x5632_000_01280 h_S_ : FVec Ideal S2048x5632 .f32) bitsLt_bf16_f32 := by
    unfold_abbrev_sides
    simp only [List.flatten_cons, List.flatten_nil, List.cons_append, List.nil_append, List.append_nil]
    after_results
    rfl
  rw [e, truncf_apply, padc_apply _ _ pad_zero]
  refine dite_congr rfl (fun hn => ?_) (fun _ => rfl)
  rw [← w_apply]
  refine extractStridedSlice_apply _ _ _ _ _ fun a => ?_
  match a with
  | ⟨0, _⟩ => show k.val = 0 + k.val; omega
  | ⟨1, _⟩ => show n.val = 0 + n.val; omega

theorem V_b (k : Fin 2048) (n : Fin 5632) :
    V m c main_v9 (ix2 k n) = if hn : n.val < 5504 then aW m c (ix3 0 k ⟨5504 + n.val, by omega⟩) else 0 := by
  have e : (V m c main_v9 : S2048x5632.Idx → EReal)
      = truncf (F := Ideal) .bf16 (pad S2048x5632 ![0, 0] ![0, 128] ![0, 0]
          (extractStridedSlice S2048x5504 ![0, 5504] (shapeCast S2048x11008 (aW m c) shapeCasts_S1x2048x11008_S2048x11008) slices_S2048x11008_S2048x5504_0_5504)
          (sitofp (F := Ideal) .f32 (constantI S_ 32 0#32)) pads_S2048x5504_S2048x5632_000_01280 h_S_ : FVec Ideal S2048x5632 .f32) bitsLt_bf16_f32 := by
    unfold_abbrev_sides
    simp only [List.flatten_cons, List.flatten_nil, List.cons_append, List.nil_append, List.append_nil]
    after_results
    rfl
  rw [e, truncf_apply, padc_apply _ _ pad_zero]
  refine dite_congr rfl (fun hn => ?_) (fun _ => rfl)
  rw [← w_apply]
  refine extractStridedSlice_apply _ _ _ _ _ fun a => ?_
  match a with
  | ⟨0, _⟩ => show k.val = 0 + k.val; omega
  | ⟨1, _⟩ => show 5504 + n.val = 5504 + n.val; rfl

theorem V_o (n : Fin 5632) (d : Fin 2048) :
    V m c main_v12 (ix2 n d) = if hn : n.val < 5504 then aO m c (ix3 0 ⟨n.val, hn⟩ d) else 0 := by
  have e : (V m c main_v12 : S5632x2048.Idx → EReal)
      = truncf (F := Ideal) .bf16 (pad S5632x2048 ![0, 0] ![128, 0] ![0, 0] (shapeCast S5504x2048 (aO m c) shapeCasts_S1x5504x2048_S5504x2048)
          (sitofp (F := Ideal) .f32 (constantI S_ 32 0#32)) pads_S5504x2048_S5632x2048_01280_000 h_S_ : FVec Ideal S5632x2048 .f32) bitsLt_bf16_f32 := by
    unfold_abbrev_sides
    simp only [List.flatten_cons, List.flatten_nil, List.cons_append, List.nil_append, List.append_nil]
    after_results
    rfl
  rw [e, truncf_apply]
  by_cases hn : n.val < 5504
  · rw [dif_pos hn]
    refine (pad_apply_of_inside _ _ _ _ _ _ _ _ (ix2 ⟨n.val, hn⟩ d) fun a => ?_).trans ?_
    · match a with
      | ⟨0, _⟩ => show n.val = 0 + n.val * (0 + 1); omega
      | ⟨1, _⟩ => show d.val = 0 + d.val * (0 + 1); omega
    · refine shapeCast_apply _ _ _ _ ?_
      rw [Shape.rowMajor_val_three, Shape.rowMajor_val_two]
      show (0 * 5504 + n.val) * 2048 + d.val = n.val * 2048 + d.val
      omega
  · rw [dif_neg hn]
    refine (pad_apply_of_not_inside _ _ _ _ _ _ _ _ 0 ?_).trans (pad_zero _)
    intro hh
    have : (n.val - 0) / (0 + 1) < 5504 := hh.2.2
    omega

theorem V_m (b : Fin 2) (s : Fin 9) (d : Fin 2048) : V m c main_v13 (ix3 b s d) = aM m c (ix2 b ⟨2048 * s.val + d.val, by omega⟩) := by
  have e : (V m c main_v13 : S2x9x2048.Idx → EReal) = shapeCast S2x9x2048 (aM m c) shapeCasts_S2x18432_S2x9x2048 := by
    unfold_abbrev_sides
    simp only [List.flatten_cons, List.flatten_nil, List.cons_append, List.nil_append, List.append_nil]
    after_results
    rfl
  rw [e]
  refine shapeCast_apply _ _ _ _ ?_
  rw [Shape.rowMajor_val_three, Shape.rowMajor_val_two]
  show b.val * 18432 + (2048 * s.val + d.val) = (b.val * 9 + s.val) * 2048 + d.val
  omega

theorem V_n (d : Fin 2048) : V m c main_v14 (ix2 0 d) = aN m c (ix1 d) := by
  have e : (V m c main_v14 : S1x2048.Idx → EReal) = shapeCast S1x2048 (aN m c) shapeCasts_S2048_S1x2048 := by
    unfold_abbrev_sides
    simp only [List.flatten_cons, List.flatten_nil, List.cons_append, List.nil_append, List.append_nil]
    after_results
    rfl
  rw [e]
  refine shapeCast_apply _ _ _ _ ?_
  rw [Shape.rowMajor_val_one, Shape.rowMajor_val_two]
  show d.val = 0 * 2048 + d.val
  omega

end Cert.Kernel6Ideal.Hand

end
-- ==== Proof.FfnPay.lean ====
/- What one point of the closing feed-forward kernel computes, entry by entry: the products it adds and the rows it finishes. -/
module

public import proofs.«01_k».proof.Proof.FfnBody
public import proofs.«01_k».proof.Proof.FfnSpec
public import Idealize.ShloMosaic.Lib.ValueLayout

@[expose] public section

noncomputable section

namespace Cert.Kernel6Ideal.Hand

open Cert.Kernel6Ideal Cert.Kernel6Ideal.Gen Idealize.ShloMosaic.ValueIdx
open Idealize.ShloMosaic hiding ix1 ix2 ix3 addf_apply mulf_apply truncf_apply constant_apply

/-- What one hidden block adds at row `p` and column `d`. -/
def inc {M : ℕ} (x0 : (⟨2, ![M, 2048]⟩ : Shape).Idx → EReal) (x2 x3 : S2048x512.Idx → EReal) (x4 : S512x2048.Idx → EReal)
    (p : Fin M) (d : Fin 2048) : EReal :=
  ∑ q : Fin 512, Spec.gated (∑ k : Fin 2048, x0 (ix2 p k) * x2 (ix2 k q)) (∑ k : Fin 2048, x0 (ix2 p k) * x3 (ix2 k q)) * x4 (ix2 q d)

theorem inc_congr {M M' : ℕ} (x0 : (⟨2, ![M, 2048]⟩ : Shape).Idx → EReal) (x0' : (⟨2, ![M', 2048]⟩ : Shape).Idx → EReal)
    (x2 x3 : S2048x512.Idx → EReal) (x4 : S512x2048.Idx → EReal) (p : Fin M) (p' : Fin M') (d : Fin 2048)
    (h : ∀ k, x0 (ix2 p k) = x0' (ix2 p' k)) : inc x0 x2 x3 x4 p d = inc x0' x2 x3 x4 p' d := by
  unfold inc
  simp only [h]

/-- A product of half a row tile with a block of the input weights, at an index. -/
theorem mul_apply (x0 : FVec Ideal S512x2048 .bf16) (x2 : FVec Ideal S2048x512 .bf16) (p q : Fin 512) :
    matmul (F := Ideal) dot_S512x2048_S2048x512_S512x512_1_0_0_1_n_n none x0 x2 (constant S512x512 .f32 0x00000000#32) (ix2 p q)
      = ∑ k : Fin 2048, x0 (ix2 p k) * x2 (ix2 k q) := by
  refine (Ideal.matmul_plain_apply none x0 x2 _ p q).trans ?_
  rw [constant_apply, Spec.zero_bits, zero_add]

/-- The products a point adds to half of a slot, at an index. -/
theorem pay2_apply (a1 : BitVec 32) (x0 : FVec Ideal S512x2048 .bf16) (x2 x3 : FVec Ideal S2048x512 .bf16)
    (Y : FVec Ideal S1x512x2048 .f32) (x4 : FVec Ideal S512x2048 .bf16) (p : Fin 512) (d : Fin 2048) :
    k0_pay2 (F := Ideal) a1 x0 x2 x3 Y x4 (ix3 0 p d)
      = (if a1 = 0#32 then 0 else Y (ix3 0 p d)) + inc x0 x2 x3 x4 p d := by
  have hs : ∀ V : FVec Ideal S512x2048 .f32, shapeCast S1x512x2048 V shapeCasts_S512x2048_S1x512x2048 (ix3 0 p d) = V (ix2 p d) := fun V =>
    shapeCast_apply _ _ _ _ (by
      rw [Shape.rowMajor_val_two, Shape.rowMajor_val_three]
      show p.val * 2048 + d.val = (0 * 512 + p.val) * 2048 + d.val
      omega)
  have hy : shapeCast S512x2048 Y shapeCasts_S1x512x2048_S512x2048 (ix2 p d) = Y (ix3 0 p d) :=
    shapeCast_apply _ _ _ _ (by
      rw [Shape.rowMajor_val_two, Shape.rowMajor_val_three]
      show (0 * 512 + p.val) * 2048 + d.val = p.val * 2048 + d.val
      omega)
  unfold k0_pay2
  rw [shapeCast_self, shapeCast_self, shapeCast_self, shapeCast_self]
  rw [hs, addf_apply]
  refine congrArg₂ (· + ·) ?_ ?_
  · by_cases h : a1 = 0#32
    · subst h
      rw [if_pos rfl]
      exact Spec.zero_bits
    · rw [if_neg h, ← hy]
      have : Scalar.cmpi .eq a1 0#32 = 0#1 := by
        show BitVec.ofBool (a1 == 0#32) = 0#1
        rw [beq_false_of_ne h]; rfl
      have hsel : ∀ a b : FVec Ideal S512x2048 .f32, Scalar.select (Scalar.cmpi .eq a1 0#32) a b = b := fun a b => by rw [this, select_zero]
      exact congrFun (hsel _ _) _
  · refine (Ideal.matmul_plain_apply none _ x4 _ p d).trans ?_
    rw [constant_apply, Spec.zero_bits, zero_add]
    unfold inc
    refine Finset.sum_congr rfl fun q _ => ?_
    refine congrArg (· * x4 (ix2 q d)) ?_
    rw [← mul_apply x0 x2, ← mul_apply x0 x3]
    unfold Spec.gated
    rw [← Spec.half_tanh]
    rfl

/-- A finished row of the result, at an index: the norm of the row with half the gate times the sums added. -/
theorem pay1_apply (Y : FVec Ideal S1x128x2048 .f32) (x1 : FVec Ideal S128x2048 .f32) (g : FVec Ideal S1x1x2048 .f32)
    (n : FVec Ideal S1x2048 .f32) (p : Fin 128) (d : Fin 2048) :
    k0_pay1 (F := Ideal) Y x1 g n (ix2 p d)
      = Spec.rms (fun k => x1 (ix2 p k) + (Ideal.ofBits .f32 0x3F000000#32 * g (ix3 0 0 k)) * Y (ix3 0 p k)) (fun k => n (ix2 0 k)) d := by
  have hy : ∀ k, shapeCast S128x2048 Y shapeCasts_S1x128x2048_S128x2048 (ix2 p k) = Y (ix3 0 p k) := fun k =>
    shapeCast_apply _ _ _ _ (by
      rw [Shape.rowMajor_val_two, Shape.rowMajor_val_three]
      show (0 * 128 + p.val) * 2048 + k.val = p.val * 2048 + k.val
      omega)
  have hg : ∀ k, shapeCast S1x2048 g shapeCasts_S1x1x2048_S1x2048 (ix2 0 k) = g (ix3 0 0 k) := fun k =>
    shapeCast_apply _ _ _ _ (by
      rw [Shape.rowMajor_val_two, Shape.rowMajor_val_three]
      show (0 * 1 + 0) * 2048 + k.val = 0 * 2048 + k.val
      omega)
  have hr : ∀ V : FVec Ideal S128x2048 .f32,
      shapeCast S128x1 (multiReduction (F := Ideal) .add [1] S128 V 0x00000000#32 reduces_S128x2048_S128 (.inl rfl) rfl) shapeCasts_S128_S128x1 (ix2 p 0)
        = ∑ k : Fin 2048, V (ix2 p k) := by
    intro V
    refine (shapeCast_apply _ _ _ (ix1 p) (by
      rw [Shape.rowMajor_val_two, Shape.rowMajor_val_one]
      show p.val = p.val * 1 + 0
      omega)).trans ?_
    refine (Ideal.multiReduction_add_single V _ _ _ _ _).trans ?_
    refine Finset.sum_congr rfl fun k _ => congrArg V ?_
    refine Spec.ext2 ?_ ?_ <;> rfl
  have hb : ∀ V : FVec Ideal S128x1 .f32, broadcastTo S128x2048 V broadcasts_S128x1_S128x2048 (ix2 p d) = V (ix2 p 0) := fun V =>
    broadcastTo_apply _ _ _ _ fun a => match a with
      | ⟨0, _⟩ => rfl
      | ⟨1, _⟩ => rfl
  have hw : ∀ (V : FVec Ideal S1x2048 .f32) (k : Fin 2048), broadcastTo S128x2048 V broadcasts_S1x2048_S128x2048 (ix2 p k) = V (ix2 0 k) := fun V k =>
    broadcastTo_1b_ab_apply V _ p k
  unfold k0_pay1
  rw [shapeCast_self, shapeCast_self]
  have hR : ∀ k, addf (F := Ideal) x1 (mulf (broadcastTo S128x2048 (mulf (broadcast S1x2048 (Scalar.ofBits .f32 0x3F000000#32))
        (shapeCast S1x2048 g shapeCasts_S1x1x2048_S1x2048)) broadcasts_S1x2048_S128x2048)
        (shapeCast S128x2048 Y shapeCasts_S1x128x2048_S128x2048)) (ix2 p k)
      = x1 (ix2 p k) + (Ideal.ofBits .f32 0x3F000000#32 * g (ix3 0 0 k)) * Y (ix3 0 p k) := by
    intro k
    rw [addf_apply, mulf_apply, hw, mulf_apply, hg, hy]
    rfl
  rw [mulf_apply, mulf_apply, hw, hb, hR]
  unfold Spec.rms
  refine congrArg₂ (fun a b => a * b * _) ?_ ?_
  · rfl
  · refine congrArg Ideal.rsqrt ?_
    refine congrArg (· + _) ?_
    refine congrArg (Ideal.div · _) ?_
    refine (hr _).trans ?_
    refine Finset.sum_congr rfl fun k _ => ?_
    rw [mulf_apply, hR]

/-! ## The accumulator -/

section
variable (a1 : BitVec 32) (s : Fin 2) (x0 : Vec Ideal S1024x2048 .bf16) (x2 x3 : Vec Ideal S2048x512 .bf16)
  (x4 : Vec Ideal S512x2048 .bf16) (X : Vec Ideal S2x1024x2048 .f32)

theorem hi_emb (p : Fin 512) (d : Fin 2048) : (rHi s).emb (ix3 (0 : Fin 1) p d) = ix3 s ⟨512 + p.val, by omega⟩ d := by
  refine Spec.ext3 ?_ ?_ ?_
  · refine (Rect.idx_unit_val _ _ _ _ _).trans ?_
    show s.val + 0 = s.val
    omega
  · exact Rect.idx_unit_val _ _ _ _ _
  · refine (Rect.idx_unit_val _ _ _ _ _).trans ?_
    show 0 + d.val = d.val
    omega

theorem lo_emb (p : Fin 512) (d : Fin 2048) : (rLo s).emb (ix3 (0 : Fin 1) p d) = ix3 s ⟨p.val, by omega⟩ d := by
  refine Spec.ext3 ?_ ?_ ?_
  · refine (Rect.idx_unit_val _ _ _ _ _).trans ?_
    show s.val + 0 = s.val
    omega
  · refine (Rect.idx_unit_val _ _ _ _ _).trans ?_
    show 0 + p.val = p.val
    omega
  · refine (Rect.idx_unit_val _ _ _ _ _).trans ?_
    show 0 + d.val = d.val
    omega

theorem canon_miss (r : Rect S2x1024x2048) (v : r.shape.Idx → Elt Ideal .f32) (L : List (View.Piece (Elt Ideal) S2x1024x2048 .f32))
    (y : S2x1024x2048.Idx) (h : y ∉ r.set) : View.canon (⟨r, v⟩ :: L) y = View.canon L y := View.canon_cons_of_not_mem ⟨r, v⟩ L h

theorem not_mem_slot (s' : Fin 2) (hs : s' ≠ s) (r : ℕ) (hr : r ≤ 512) (p : Fin 1024) (d : Fin 2048) :
    ix3 s' p d ∉ (Rect.unit (s := S2x1024x2048) ![s.val, r, 0] S1x512x2048.size (inbHalf s r hr)).set := by
  rw [Rect.mem_set_unit]
  intro hh
  obtain ⟨h1, h2⟩ := hh 0
  have h1 : s.val ≤ s'.val := h1
  have h2 : s'.val < s.val + S1x512x2048.size 0 := h2
  have h3 : S1x512x2048.size 0 = 1 := rfl
  exact hs (Fin.ext (by omega))

theorem ld_w (x : Vec Ideal S2048x512 .bf16) : View.ld (Val := Elt Ideal) (e' := .bf16) x rW = x :=
  View.ld_unit_lit (S := S2048x512) (off := ![0, 0]) inb_S2048x512_S2048x512_0_0 x (fun a => match a with | ⟨0, _⟩ => rfl | ⟨1, _⟩ => rfl)
theorem ld_o (x : Vec Ideal S512x2048 .bf16) : View.ld (Val := Elt Ideal) (e' := .bf16) x rO = x :=
  View.ld_unit_lit (S := S512x2048) (off := ![0, 0]) inb_S512x2048_S512x2048_0_0 x (fun a => match a with | ⟨0, _⟩ => rfl | ⟨1, _⟩ => rfl)
theorem ld_xa (x : Vec Ideal S1024x2048 .bf16) (p : Fin 512) (k : Fin 2048) :
    View.ld (Val := Elt Ideal) (e' := .bf16) x rA (ix2 p k) = x (ix2 ⟨p.val, by omega⟩ k) :=
  View.ld_unit_apply_of (S := S1024x2048) x ![0, 0] S512x2048.size inb_S1024x2048_S512x2048_0_0 (ix2 p k) (ix2 ⟨p.val, by omega⟩ k)
    fun a => match a with
      | ⟨0, _⟩ => (Nat.zero_add _).symm
      | ⟨1, _⟩ => (Nat.zero_add _).symm
theorem ld_xb (x : Vec Ideal S1024x2048 .bf16) (p : Fin 512) (k : Fin 2048) :
    View.ld (Val := Elt Ideal) (e' := .bf16) x rB (ix2 p k) = x (ix2 ⟨512 + p.val, by omega⟩ k) :=
  View.ld_unit_apply_of (S := S1024x2048) x ![512, 0] S512x2048.size inb_S1024x2048_S512x2048_512_0 (ix2 p k) (ix2 ⟨512 + p.val, by omega⟩ k)
    fun a => match a with
      | ⟨0, _⟩ => rfl
      | ⟨1, _⟩ => (Nat.zero_add _).symm
theorem ld_lo (p : Fin 512) (d : Fin 2048) :
    View.ld (Val := Elt Ideal) (e' := .f32) X (rLo s) (ix3 (0 : Fin 1) p d) = X (ix3 s ⟨p.val, by omega⟩ d) := congrArg X (lo_emb s p d)
theorem ld_hi (p : Fin 512) (d : Fin 2048) :
    View.ld (Val := Elt Ideal) (e' := .f32) X (rHi s) (ix3 (0 : Fin 1) p d) = X (ix3 s ⟨512 + p.val, by omega⟩ d) := congrArg X (hi_emb s p d)

theorem mm_lo (p : Fin 512) (d : Fin 2048) :
    mm (F := Ideal) a1 s x0 x2 x3 x4 X (ix3 s ⟨p.val, by omega⟩ d)
      = (if a1 = 0#32 then 0 else X (ix3 s ⟨p.val, by omega⟩ d)) + inc x0 x2 x3 x4 ⟨p.val, by omega⟩ d := by
  have hn : ix3 s (⟨p.val, by omega⟩ : Fin 1024) d ∉ (rHi s).set := by
    rw [Rect.mem_set_unit]
    intro hh
    have : 512 ≤ p.val := (hh 1).1
    omega
  unfold mm
  refine (canon_miss (rHi s) _ _ _ hn).trans ?_
  refine (congrArg _ (lo_emb s p d)).symm.trans ?_
  refine (View.canon_cons_emb (rLo s) _ _ (ix3 (0 : Fin 1) p d)).trans ?_
  rw [ld_w, ld_w, ld_o]
  refine (pay2_apply a1 _ x2 x3 _ x4 p d).trans ?_
  rw [ld_lo]
  exact congrArg₂ (· + ·) rfl (inc_congr _ _ _ _ _ _ _ d fun k => ld_xa x0 p k)

theorem mm_hi (p : Fin 512) (d : Fin 2048) :
    mm (F := Ideal) a1 s x0 x2 x3 x4 X (ix3 s ⟨512 + p.val, by omega⟩ d)
      = (if a1 = 0#32 then 0 else X (ix3 s ⟨512 + p.val, by omega⟩ d)) + inc x0 x2 x3 x4 ⟨512 + p.val, by omega⟩ d := by
  unfold mm
  refine (congrArg _ (hi_emb s p d)).symm.trans ?_
  refine (View.canon_cons_emb (rHi s) _ _ (ix3 (0 : Fin 1) p d)).trans ?_
  rw [ld_w, ld_w, ld_o]
  refine (pay2_apply a1 _ x2 x3 _ x4 p d).trans ?_
  rw [ld_hi]
  exact congrArg₂ (· + ·) rfl (inc_congr _ _ _ _ _ _ _ d fun k => ld_xb x0 p k)

/-- In the slot it works on, a point adds the hidden block's products (or begins the sum with them). -/
theorem mm_same (p : Fin 1024) (d : Fin 2048) :
    mm (F := Ideal) a1 s x0 x2 x3 x4 X (ix3 s p d) = (if a1 = 0#32 then 0 else X (ix3 s p d)) + inc x0 x2 x3 x4 p d := by
  by_cases hp : p.val < 512
  · exact mm_lo a1 s x0 x2 x3 x4 X ⟨p.val, hp⟩ d
  · have e : p = ⟨512 + (p.val - 512), by omega⟩ := Fin.ext (by show p.val = 512 + (p.val - 512); omega)
    rw [e]
    exact mm_hi a1 s x0 x2 x3 x4 X ⟨p.val - 512, by omega⟩ d

theorem canon_all : View.canon [(⟨rAll, X⟩ : View.Piece (Elt Ideal) S2x1024x2048 .f32)] = X :=
  View.canon_cons_unit_lit (S := S2x1024x2048) (off := ![0, 0, 0]) inb_S2x1024x2048_S2x1024x2048_0_0_0 X []
    (fun a => match a with | ⟨0, _⟩ => rfl | ⟨1, _⟩ => rfl | ⟨2, _⟩ => rfl)

/-- The other slot a point leaves as it was. -/
theorem mm_other (s' : Fin 2) (hs : s' ≠ s) (p : Fin 1024) (d : Fin 2048) :
    mm (F := Ideal) a1 s x0 x2 x3 x4 X (ix3 s' p d) = X (ix3 s' p d) := by
  have h1 : ix3 s' p d ∉ (rHi s).set := not_mem_slot s s' hs 512 (by omega) p d
  have h2 : ix3 s' p d ∉ (rLo s).set := not_mem_slot s s' hs 0 (by omega) p d
  unfold mm
  refine (canon_miss (rHi s) _ _ _ h1).trans ?_
  refine (canon_miss (rLo s) _ _ _ h2).trans ?_
  rw [canon_all]

end

/-- A row of the block a finishing point stores. -/
theorem ep_apply (s : Fin 2) (q : Fin 8) (x1 : Vec Ideal S128x2048 .f32) (x5 : Vec Ideal S1x9x2048 .f32) (x6 : Vec Ideal S1x2048 .f32)
    (X : Vec Ideal S2x1024x2048 .f32) (p : Fin 128) (d : Fin 2048) :
    ep (F := Ideal) s q x1 x5 x6 X (ix2 p d)
      = Spec.rms (fun k => x1 (ix2 p k) + (Ideal.ofBits .f32 0x3F000000#32 * x5 (ix3 0 8 k)) * X (ix3 s ⟨128 * q.val + p.val, by omega⟩ k))
          (fun k => x6 (ix2 0 k)) d := by
  have e1 : ∀ k : Fin 2048, View.ld (Val := Elt Ideal) (e' := .f32) X (rChunk s q) (ix3 (0 : Fin 1) p k) = X (ix3 s ⟨128 * q.val + p.val, by omega⟩ k) := fun k =>
    View.ld_unit_apply_of (S := S2x1024x2048) X ![s.val, 128 * q.val, 0] S1x128x2048.size (inbChunk s q) (ix3 (0 : Fin 1) p k) (ix3 s ⟨128 * q.val + p.val, by omega⟩ k)
      fun a => match a with
      | ⟨0, _⟩ => rfl
      | ⟨1, _⟩ => rfl
      | ⟨2, _⟩ => (Nat.zero_add _).symm
  have e2 : ∀ k : Fin 2048, View.ld (Val := Elt Ideal) (e' := .f32) x5 rG (ix3 (0 : Fin 1) (0 : Fin 1) k) = x5 (ix3 0 8 k) := fun k =>
    View.ld_unit_apply_of (S := S1x9x2048) x5 ![0, 8, 0] S1x1x2048.size inb_S1x9x2048_S1x1x2048_0_8_0 (ix3 (0 : Fin 1) (0 : Fin 1) k) (ix3 0 8 k)
      fun a => match a with
      | ⟨0, _⟩ => rfl
      | ⟨1, _⟩ => rfl
      | ⟨2, _⟩ => (Nat.zero_add _).symm
  unfold ep
  rw [View.canon_unit_zero (by decide), pay1_apply, View.ld_unit_zero (S := S128x2048) (by decide), View.ld_unit_zero (S := S1x2048) (by decide)]
  simp only [e1, e2]

end Cert.Kernel6Ideal.Hand

end
-- ==== Proof.FfnValue.lean ====
/- The closing feed-forward kernel's result: the accumulator row tile by row tile, the rows each point finishes, the final array. -/
module

public import proofs.«01_k».proof.Proof.FfnHost
public import proofs.«01_k».proof.Proof.FfnPay

@[expose] public section

noncomputable section

namespace Cert.Kernel6Ideal.Hand

open Cert.Kernel6Ideal Cert.Kernel6Ideal.Gen Idealize.ShloMosaic.ValueIdx Idealize.ShloMosaic.TcCoe Idealize.SL.Sem
open Idealize.ShloMosaic hiding ix1 ix2 ix3 eq_ix2 addf_apply mulf_apply truncf_apply constant_apply
open Idealize.ShloMosaic.Pipeline (Dat)

variable (m : (ℓ : Loc nD τ sig) → Buf (Elt Ideal) ℓ) (c : Dev nD)

/-! ## The blocks -/

/-- There are 187 grid points. -/
theorem lt187 (t : Fin grid0.N) : t.val < 187 := lt_of_lt_of_eq t.isLt N_0

/-- The 128 rows a point of the second or a later row tile finishes, counted in blocks of 128. -/
def dchunk (t : Fin grid0.N) : ℕ := 8 * (t.val / 11 - 1) + min (t.val % 11) 7

theorem index0 : ∀ t : Fin grid0.N, win0_0.index t 0 = min (t.val / 11) 15 ∧ win0_0.index t 1 = 0 := by decide +kernel
theorem index1 : ∀ t : Fin grid0.N, 11 ≤ t.val → win0_1.index t 0 = 8 * (t.val / 11 - 1) + min (t.val % 11) 7 ∧ win0_1.index t 1 = 0 := by
  decide +kernel
theorem index2 : ∀ t : Fin grid0.N, t.val < 176 → win0_2.index t 0 = 0 ∧ win0_2.index t 1 = t.val % 11 := by decide +kernel
theorem index3 : ∀ t : Fin grid0.N, t.val < 176 → win0_3.index t 0 = 0 ∧ win0_3.index t 1 = t.val % 11 := by decide +kernel
theorem index4 : ∀ t : Fin grid0.N, t.val < 176 → win0_4.index t 0 = t.val % 11 ∧ win0_4.index t 1 = 0 := by decide +kernel
theorem index5 : ∀ t : Fin grid0.N, win0_5.index t 0 = (t.val / 11 - 1) / 8 ∧ win0_5.index t 1 = 0 ∧ win0_5.index t 2 = 0 := by decide +kernel
theorem index6 : ∀ t : Fin grid0.N, win0_6.index t 0 = 0 ∧ win0_6.index t 1 = 0 := by decide +kernel
theorem index7 : ∀ t : Fin grid0.N, 11 ≤ t.val → win0_7.index t 0 = 8 * (t.val / 11 - 1) + min (t.val % 11) 7 ∧ win0_7.index t 1 = 0 := by
  decide +kernel

theorem b0_apply (t : Fin grid0.N) (ht : t.val < 176) (p : Fin 1024) (k : Fin 2048) :
    b0 m c t (ix2 p k) = aH m c (Spec.hidx ⟨1024 * (t.val / 11) + p.val, by omega⟩ k) := by
  rw [← V_h]
  show V m c main_v1 ((win0_0.rect t).emb (ix2 p k)) = _
  congr 1
  obtain ⟨h0, h1⟩ := index0 t
  refine Spec.ext2 ?_ ?_
  · rw [Pipeline.Window.rect_emb_val_off, h0]
    show min (t.val / 11) 15 * 1024 + p.val = 1024 * (t.val / 11) + p.val
    omega
  · rw [Pipeline.Window.rect_emb_val_off, h1]
    show 0 * 2048 + k.val = k.val
    omega

theorem b1_apply (t : Fin grid0.N) (ht : 11 ≤ t.val) (p : Fin 128) (k : Fin 2048) (r : Fin 16384) (hr : r.val = 128 * dchunk t + p.val) :
    b1 m c t (ix2 p k) = aX m c (Spec.hidx r k) := by
  rw [← V_x]
  show V m c main_v2 ((win0_1.rect t).emb (ix2 p k)) = _
  congr 1
  obtain ⟨h0, h1⟩ := index1 t ht
  unfold dchunk at hr
  refine Spec.ext2 ?_ ?_
  · rw [Pipeline.Window.rect_emb_val_off, h0]
    show (8 * (t.val / 11 - 1) + min (t.val % 11) 7) * 128 + p.val = r.val
    omega
  · rw [Pipeline.Window.rect_emb_val_off, h1]
    show 0 * 2048 + k.val = k.val
    omega

theorem b2_apply (t : Fin grid0.N) (ht : t.val < 176) (k : Fin 2048) (q : Fin 512) :
    b2 m c t (ix2 k q) = V m c main_v6 (ix2 k ⟨512 * (t.val % 11) + q.val, by omega⟩) := by
  show V m c main_v6 ((win0_2.rect t).emb (ix2 k q)) = _
  congr 1
  obtain ⟨h0, h1⟩ := index2 t ht
  refine Spec.ext2 ?_ ?_
  · rw [Pipeline.Window.rect_emb_val_off, h0]
    show 0 * 2048 + k.val = k.val
    omega
  · rw [Pipeline.Window.rect_emb_val_off, h1]
    show t.val % 11 * 512 + q.val = 512 * (t.val % 11) + q.val
    omega

theorem b3_apply (t : Fin grid0.N) (ht : t.val < 176) (k : Fin 2048) (q : Fin 512) :
    b3 m c t (ix2 k q) = V m c main_v9 (ix2 k ⟨512 * (t.val % 11) + q.val, by omega⟩) := by
  show V m c main_v9 ((win0_3.rect t).emb (ix2 k q)) = _
  congr 1
  obtain ⟨h0, h1⟩ := index3 t ht
  refine Spec.ext2 ?_ ?_
  · rw [Pipeline.Window.rect_emb_val_off, h0]
    show 0 * 2048 + k.val = k.val
    omega
  · rw [Pipeline.Window.rect_emb_val_off, h1]
    show t.val % 11 * 512 + q.val = 512 * (t.val % 11) + q.val
    omega

theorem b4_apply (t : Fin grid0.N) (ht : t.val < 176) (q : Fin 512) (d : Fin 2048) :
    b4 m c t (ix2 q d) = V m c main_v12 (ix2 ⟨512 * (t.val % 11) + q.val, by omega⟩ d) := by
  show V m c main_v12 ((win0_4.rect t).emb (ix2 q d)) = _
  congr 1
  obtain ⟨h0, h1⟩ := index4 t ht
  refine Spec.ext2 ?_ ?_
  · rw [Pipeline.Window.rect_emb_val_off, h0]
    show t.val % 11 * 512 + q.val = 512 * (t.val % 11) + q.val
    omega
  · rw [Pipeline.Window.rect_emb_val_off, h1]
    show 0 * 2048 + d.val = d.val
    omega

theorem b5_apply (t : Fin grid0.N) (s : Fin 9) (d : Fin 2048) :
    b5 m c t (ix3 0 s d) = aM m c (ix2 ⟨(t.val / 11 - 1) / 8, by have := lt187 t; omega⟩ ⟨2048 * s.val + d.val, by omega⟩) := by
  rw [← V_m]
  show V m c main_v13 ((win0_5.rect t).emb (ix3 0 s d)) = _
  congr 1
  obtain ⟨h0, h1, h2⟩ := index5 t
  refine Spec.ext3 ?_ ?_ ?_
  · rw [Pipeline.Window.rect_emb_val_off, h0]
    show (t.val / 11 - 1) / 8 * 1 + 0 = (t.val / 11 - 1) / 8
    omega
  · rw [Pipeline.Window.rect_emb_val_off, h1]
    show 0 * 9 + s.val = s.val
    omega
  · rw [Pipeline.Window.rect_emb_val_off, h2]
    show 0 * 2048 + d.val = d.val
    omega

theorem b6_apply (t : Fin grid0.N) (d : Fin 2048) : b6 m c t (ix2 0 d) = aN m c (ix1 d) := by
  rw [← V_n]
  show V m c main_v14 ((win0_6.rect t).emb (ix2 0 d)) = _
  congr 1
  obtain ⟨h0, h1⟩ := index6 t
  refine Spec.ext2 ?_ ?_
  · rw [Pipeline.Window.rect_emb_val_off, h0]
    show 0 * 1 + 0 = 0
    omega
  · rw [Pipeline.Window.rect_emb_val_off, h1]
    show 0 * 2048 + d.val = d.val
    omega

/-! ## The accumulator -/

/-- A point of row tile `t / 11` adds the 512 terms of its hidden block; the padded features add zero. -/
theorem inc_eq (t : Fin grid0.N) (ht : t.val < 176) (p : Fin 1024) (d : Fin 2048) (r : Fin 16384) (hr : r.val = 1024 * (t.val / 11) + p.val) :
    inc (b0 m c t) (b2 m c t) (b3 m c t) (b4 m c t) p d
      = ∑ q : Fin 512, Spec.ffnTerm (aH m c) (aW m c) (aO m c) r d (512 * (t.val % 11) + q.val) := by
  unfold inc
  refine Finset.sum_congr rfl fun q _ => ?_
  have er : (⟨1024 * (t.val / 11) + p.val, by omega⟩ : Fin 16384) = r := Fin.ext hr.symm
  unfold Spec.ffnTerm
  by_cases hn : 512 * (t.val % 11) + q.val < 5504
  · rw [dif_pos hn, b4_apply m c t ht, V_o, dif_pos hn]
    refine congrArg (· * _) ?_
    unfold Spec.ffnAct Spec.ffnHid
    refine congrArg₂ Spec.gated ?_ ?_
    · refine Finset.sum_congr rfl fun k _ => ?_
      rw [b0_apply m c t ht, b2_apply m c t ht, V_a, dif_pos hn, er]
    · refine Finset.sum_congr rfl fun k _ => ?_
      rw [b0_apply m c t ht, b3_apply m c t ht, V_b, dif_pos hn, er]
  · rw [dif_neg hn, b4_apply m c t ht, V_o, dif_neg hn, mul_zero]

/-- Within a row tile: after hidden block `j` the tile's slot holds the sum over the blocks up to `j`. -/
theorem acc_run (i : ℕ) (hi : i < 16) (p : Fin 1024) (d : Fin 2048) (r : Fin 16384) (hr : r.val = 1024 * i + p.val)
    (s : Fin 2) (hs : s.val = i % 2) :
    ∀ j : ℕ, j < 11 → acc m c (11 * i + j + 1) (ix3 s p d) = Spec.ffnPart (aH m c) (aW m c) (aO m c) r d (j + 1)
  | j, hj => by
    have hN : 11 * i + j < grid0.N := by rw [N_0]; omega
    have hd : (11 * i + j) / 11 = i := by omega
    have hm : (11 * i + j) % 11 = j := by omega
    have ht : (11 * i + j) < 176 := by omega
    have es : slot ⟨11 * i + j, hN⟩ = s := Fin.ext (by show (11 * i + j) / 11 % 2 = s.val; omega)
    have e1 : (grid0.coords ⟨11 * i + j, hN⟩ 1).val = j := (coords1 _).trans hm
    refine (congrFun (acc_mm m c ⟨11 * i + j, hN⟩ ht) _).trans ?_
    rw [es, e1]
    refine (mm_same _ s _ _ _ _ _ p d).trans ?_
    rw [inc_eq m c ⟨11 * i + j, hN⟩ ht p d r (by show r.val = 1024 * ((11 * i + j) / 11) + p.val; rw [hd, hr]), Spec.ffnPart_succ]
    show _ + ∑ q : Fin 512, Spec.ffnTerm _ _ _ r d (512 * ((11 * i + j) % 11) + q.val) = _
    rw [hm]
    refine congrArg (· + _) ?_
    match j, hj with
    | 0, _ => rw [if_pos rfl, Spec.ffnPart_zero]
    | j + 1, hj =>
      rw [if_neg (by
        intro h
        have h := congrArg BitVec.toNat h
        rw [BitVec.toNat_ofNat] at h
        have : (j + 1) % 2 ^ 32 = 0 := h
        omega)]
      exact acc_run i hi p d r hr s hs j (by omega)

/-- While the next row tile runs, the slot of the tile before keeps its finished sums. -/
theorem acc_done (i : ℕ) (hi : i < 16) (p : Fin 1024) (d : Fin 2048) (r : Fin 16384) (hr : r.val = 1024 * i + p.val)
    (s : Fin 2) (hs : s.val = i % 2) :
    ∀ j : ℕ, j < 11 → acc m c (11 * (i + 1) + j) (ix3 s p d) = Spec.ffnSum (aH m c) (aW m c) (aO m c) r d
  | 0, _ => by
    rw [← Spec.ffnPart_all]
    exact acc_run m c i hi p d r hr s hs 10 (by omega)
  | j + 1, hj => by
    rw [← acc_done i hi p d r hr s hs j (by omega)]
    have hN : 11 * (i + 1) + j < grid0.N := by rw [N_0]; omega
    by_cases ht : 11 * (i + 1) + j < 176
    · refine (congrFun (acc_mm m c ⟨11 * (i + 1) + j, hN⟩ ht) _).trans ?_
      refine mm_other _ _ _ _ _ _ _ s ?_ p d
      intro h
      have : s.val = (11 * (i + 1) + j) / 11 % 2 := congrArg Fin.val h
      omega
    · exact congrFun (acc_idle m c ⟨11 * (i + 1) + j, hN⟩ ht) _

/-! ## The result -/

/-- The result: the closing block and the final norm, at the index's row and column. -/
def G (i : S16384x2048.Idx) : EReal :=
  Spec.ffnOut (aH m c) (aX m c) (aW m c) (aO m c) (aM m c) (aN m c) (i 0) (i 1)

/-- A row of the block a point leaves in the result's staging buffer. -/
theorem outBlk_apply (t : Fin grid0.N) (ht : 11 ≤ t.val) (p : Fin 128) (d : Fin 2048) (r : Fin 16384) (hr : r.val = 128 * dchunk t + p.val) :
    outBlk m c t (ix2 p d) = Spec.ffnOut (aH m c) (aX m c) (aW m c) (aO m c) (aM m c) (aN m c) r d := by
  have hlt := lt187 t
  have hl : (lastPt t).val = t.val - (t.val % 11 - 7) := rfl
  unfold dchunk at hr
  have hl11 : 11 ≤ (lastPt t).val := by omega
  have hq : (chunk (lastPt t)).val = min (t.val % 11) 7 := by
    show min ((lastPt t).val % 11) 7 = _
    omega
  have hs : (oslot (lastPt t)).val = (t.val / 11 - 1) % 2 := by
    show 1 - (lastPt t).val / 11 % 2 = _
    omega
  unfold outBlk
  refine (ep_apply _ _ _ _ _ _ p d).trans ?_
  unfold Spec.ffnOut Spec.ffnRes
  refine congrArg₂ (fun R W => Spec.rms R W d) (funext fun k => ?_) (funext fun k => b6_apply m c (lastPt t) k)
  refine congrArg₂ (· + ·) ?_ (congrArg₂ (· * ·) (congrArg (_ * ·) ?_) ?_)
  · refine b1_apply m c (lastPt t) hl11 p k r ?_
    unfold dchunk
    omega
  · refine (b5_apply m c (lastPt t) 8 k).trans ?_
    congr 1
    refine Spec.ext2 ?_ ?_
    · show ((lastPt t).val / 11 - 1) / 8 = r.val / 8192
      omega
    · rfl
  · have e := acc_done m c (t.val / 11 - 1) (by omega) ⟨128 * (chunk (lastPt t)).val + p.val, by omega⟩ k r
      (by show r.val = 1024 * (t.val / 11 - 1) + (128 * (chunk (lastPt t)).val + p.val); omega) (oslot (lastPt t)) hs (min (t.val % 11) 7) (by omega)
    rw [← e]
    have e2 : (lastPt t).val = 11 * (t.val / 11 - 1 + 1) + min (t.val % 11) 7 := by omega
    rw [e2]

/-- What a point that writes back writes is its block of the result. -/
theorem flushed_eq (t : Fin cfg0.N) (hf : (cfg0.win 7).flush t = true) :
    (dats m 0 c).flushed 7 t = ((cfg0.win 7).blk t).view.read (Elt Ideal) (G m c) := by
  have ht : 11 ≤ t.val := by
    rw [flush_iff] at hf
    simp only [Bool.or_eq_true, Bool.and_eq_true, decide_eq_true_eq] at hf
    omega
  have hlt := lt187 t
  show (cfg0.win 7).cut (grid0.coords t) ((dats m 0 c).after 7 t) = _
  rw [after7]
  show outBlk m c t = fun y => G m c ((win0_7.rect t).emb y)
  funext y
  obtain ⟨p, d, rfl⟩ : ∃ p d, y = ix2 p d := ⟨y 0, y 1, eq_ix2 y⟩
  obtain ⟨h0, h1⟩ := index7 t ht
  have e0 : ((win0_7.rect t).emb (ix2 p d) 0).val = 128 * dchunk t + p.val := by
    rw [Pipeline.Window.rect_emb_val_off, h0]
    unfold dchunk
    show (8 * (t.val / 11 - 1) + min (t.val % 11) 7) * 128 + p.val = 128 * (8 * (t.val / 11 - 1) + min (t.val % 11) 7) + p.val
    omega
  have e1 : (win0_7.rect t).emb (ix2 p d) 1 = d := Fin.ext (by
    rw [Pipeline.Window.rect_emb_val_off, h1]
    show 0 * 2048 + d.val = d.val
    omega)
  refine (outBlk_apply m c t ht p d ((win0_7.rect t).emb (ix2 p d) 0) e0).trans ?_
  unfold G
  rw [e1]

/-- The blocks written back cover the result. -/
theorem cover (i : S16384x2048.Idx) : ∃ t : Fin cfg0.N, (cfg0.win 7).flush t = true ∧ i ∈ ((cfg0.win 7).blk t).view.set := by
  have hi0 : (i 0).val < 16384 := (i 0).isLt
  have hi1 : (i 1).val < 2048 := (i 1).isLt
  let q := (i 0).val % 1024 / 128
  have hq : q = (i 0).val % 1024 / 128 := rfl
  let t : Fin cfg0.N := ⟨11 * ((i 0).val / 1024 + 1) + if q < 7 then q else 10, by
    have : cfg0.N = 187 := N_0
    split <;> omega⟩
  have ht : t.val = 11 * ((i 0).val / 1024 + 1) + if q < 7 then q else 10 := rfl
  have h11 : 11 ≤ t.val := by omega
  have hd : t.val / 11 = (i 0).val / 1024 + 1 := by rw [ht]; split <;> omega
  have hm : min (t.val % 11) 7 = q ∧ (t.val % 11 < 7 ∨ t.val % 11 = 10) := by rw [ht]; split <;> omega
  refine ⟨t, ?_, ?_⟩
  · rw [flush_iff]
    simp only [Bool.or_eq_true, Bool.and_eq_true, decide_eq_true_eq]
    exact .inl ⟨h11, hm.2⟩
  · show i ∈ ((View.whole main_v15).slice (win0_7.rect t)).set
    rw [View.set_slice_whole, Rect.mem_set_unit]
    obtain ⟨h0, h1⟩ := index7 t h11
    rw [hd, hm.1] at h0
    intro a
    match a with
    | ⟨0, _⟩ =>
      show win0_7.index t 0 * 128 ≤ (i 0).val ∧ (i 0).val < win0_7.index t 0 * 128 + 128
      rw [h0]; omega
    | ⟨1, _⟩ =>
      show win0_7.index t 1 * 2048 ≤ (i 1).val ∧ (i 1).val < win0_7.index t 1 * 2048 + 2048
      rw [h1]; omega

/-- After the run the kernel's result is the closing block and the final norm. -/
theorem final : (dats m 0 c).arrAt 7 cfg0.N = G m c :=
  (dats m 0 c).arrAt_eq_of_cover 7 (G m c) (fun t hf => flushed_eq m c t hf) cover

end Cert.Kernel6Ideal.Hand

end
-- ==== Proof.FfnRef.lean ====
/- The closing feed-forward block and the final norm: the reference's run leaves what the kernel's run leaves. -/
module

public import proofs.«01_k».proof.Defs
public import proofs.«01_k».proof.Proof.FfnValue
public import proofs.«01_k».proof.Proof.Gen.Reference6Ideal.Read
public import proofs.«01_k».proof.Proof.Gen.Reference6Ideal.Run
public import Idealize.ShloMosaic.Lib.Quiescent

@[expose] public section

noncomputable section

namespace Cert.Reference6Ideal.Hand

open Cert.Reference6Ideal Idealize.ShloMosaic.ValueIdx
open Idealize.ShloMosaic hiding ix1 ix2 ix3 eq_ix2 addf_apply mulf_apply truncf_apply constant_apply

variable (x0 x1 : (⟨3, ![2, 8192, 2048]⟩ : Shape).Idx → EReal) (x2 : (⟨3, ![1, 2048, 11008]⟩ : Shape).Idx → EReal)
  (x3 : (⟨3, ![1, 5504, 2048]⟩ : Shape).Idx → EReal) (x4 : (⟨2, ![2, 18432]⟩ : Shape).Idx → EReal)
  (x5 : (⟨1, ![2048]⟩ : Shape).Idx → EReal)

/-- The hidden features. -/
theorem v3_eq (i : S2x8192x11008.Idx) (r : Fin 16384) (n : Fin 11008) (h0 : (i 0).val * 8192 + (i 1).val = r.val) (h1 : (i 2).val = n.val) :
    Read.val_main_v3 (F := Ideal) x0 x2 i = Spec.ffnHid x0 x2 r n := by
  have hi : (i 1).val < 8192 := (i 1).isLt
  rw [Read.val_main_v3_apply]
  unfold Spec.ffnHid
  refine Finset.sum_congr rfl fun k _ => ?_
  rw [Read.val_main_v2_apply]
  have := k.isLt
  have := n.isLt
  congr 2
  · refine Spec.ext3 ?_ ?_ ?_
    · show (i 0).val = r.val / 8192
      omega
    · show (i 1).val = r.val % 8192
      omega
    · rfl
  · refine Spec.ext3 ?_ ?_ ?_
    · rfl
    · show (k.val * 11008 + (i 2).val) / 11008 % 2048 = k.val
      omega
    · show (k.val * 11008 + (i 2).val) % 11008 = n.val
      omega

/-- The activations. -/
theorem v9_eq (i : S2x8192x5504.Idx) (r : Fin 16384) (n : Fin 5504) (h0 : (i 0).val * 8192 + (i 1).val = r.val) (h1 : (i 2).val = n.val) :
    Read.val_main_v9 (F := Ideal) x0 x2 i = Spec.ffnAct x0 x2 r n := by
  have ea : Read.val_main_v4 (F := Ideal) x0 x2 i = Spec.ffnHid x0 x2 r ⟨n.val, by omega⟩ := by
    rw [Read.val_main_v4_apply]
    exact v3_eq x0 x2 _ r _ h0 h1
  have eb : Read.val_main_v5 (F := Ideal) x0 x2 i = Spec.ffnHid x0 x2 r ⟨5504 + n.val, by omega⟩ := by
    rw [Read.val_main_v5_apply]
    refine v3_eq x0 x2 _ r _ h0 ?_
    show 5504 + (i 2).val = 5504 + n.val
    omega
  rw [Read.val_main_v9_apply, Read.val_main_v8_apply, Read.val_main_call0_v5_apply, Read.val_main_call0_v4_apply, Read.val_main_call0_cst_0_apply,
    Read.val_main_call0_v3_apply, Read.val_main_call0_v2_apply, Read.val_main_call0_cst_apply, Read.val_main_call0_v1_apply,
    Read.val_main_call0_v0_apply, ea, eb]
  unfold Spec.ffnAct Spec.gated
  rw [← Spec.div_exp]
  rfl

/-- The activations times the output weights. -/
theorem v11_eq (i : S2x8192x2048.Idx) (r : Fin 16384) (d : Fin 2048) (h0 : (i 0).val * 8192 + (i 1).val = r.val) (h1 : (i 2).val = d.val) :
    Read.val_main_v11 (F := Ideal) x0 x2 x3 i = Spec.ffnSum x0 x2 x3 r d := by
  rw [Read.val_main_v11_apply]
  unfold Spec.ffnSum
  refine Finset.sum_congr rfl fun n _ => ?_
  rw [Read.val_main_v10_apply]
  have := n.isLt
  have := d.isLt
  refine congrArg₂ (· * ·) (v9_eq x0 x2 _ r n h0 rfl) (congrArg x3 ?_)
  refine Spec.ext3 ?_ ?_ ?_
  · rfl
  · show (n.val * 2048 + (i 2).val) / 2048 % 5504 = n.val
    omega
  · show (n.val * 2048 + (i 2).val) % 2048 = d.val
    omega

/-- The rows with half the gate times the block added. -/
theorem v14_eq (i : S2x8192x2048.Idx) (r : Fin 16384) (d : Fin 2048) (h0 : (i 0).val * 8192 + (i 1).val = r.val) (h1 : (i 2).val = d.val) :
    Read.val_main_v14 (F := Ideal) x0 x1 x2 x3 x4 i = Spec.ffnRes x0 x1 x2 x3 x4 r d := by
  have hi : (i 1).val < 8192 := (i 1).isLt
  rw [Read.val_main_v14_apply, Read.val_main_v13_apply, v11_eq x0 x2 x3 i r d h0 h1, Read.val_main_v12_apply, Read.val_main_v7_apply,
    Read.val_main_v6_apply, Read.val_main_cst_apply, Read.val_main_v1_apply, Read.val_main_v0_apply]
  unfold Spec.ffnRes
  refine congrArg₂ (· + ·) (congrArg x1 ?_) (congrArg (· * _) (congrArg (_ * ·) (congrArg x4 ?_)))
  · refine Spec.ext3 ?_ ?_ h1
    · show (i 0).val = r.val / 8192
      omega
    · show (i 1).val = r.val % 8192
      omega
  · refine Spec.ext2 ?_ ?_
    · show (i 0).val = r.val / 8192
      omega
    · show 16384 + (i 2).val = 16384 + d.val
      omega

/-- The mean square of a row. -/
theorem v16_eq (i : S2x8192.Idx) (r : Fin 16384) (h0 : (i 0).val * 8192 + (i 1).val = r.val) :
    Read.val_main_v16 (F := Ideal) x0 x1 x2 x3 x4 i
      = ∑ k : Fin 2048, Spec.ffnRes x0 x1 x2 x3 x4 r k * Spec.ffnRes x0 x1 x2 x3 x4 r k := by
  rw [Read.val_main_v16_apply, Read.val_main_cst_0_apply]
  refine (congrArg (· + _) Spec.zero_bits).trans ((zero_add _).trans ?_)
  refine Finset.sum_congr rfl fun k _ => ?_
  rw [Read.val_main_v15_apply, v14_eq x0 x1 x2 x3 x4 (Read.idx_main_v16 i k) r k h0 rfl]
  rfl

/-- The reference's result at an index. -/
theorem v28_eq (i : S16384x2048.Idx) (r : Fin 16384) (d : Fin 2048) (h0 : (i 0).val = r.val) (h1 : (i 1).val = d.val) :
    Read.val_main_v28 (F := Ideal) x0 x1 x2 x3 x4 x5 i = Spec.ffnOut x0 x1 x2 x3 x4 x5 r d := by
  have := d.isLt
  have e0 : ((Read.idx_main_v28 i) 0).val * 8192 + ((Read.idx_main_v28 i) 1).val = r.val := by
    show ((i 0).val * 2048 + (i 1).val) / 16777216 * 8192 + ((i 0).val * 2048 + (i 1).val) / 2048 % 8192 = r.val
    omega
  have e1 : ((Read.idx_main_v28 i) 2).val = d.val := by
    show ((i 0).val * 2048 + (i 1).val) % 2048 = d.val
    omega
  rw [Read.val_main_v28_apply]
  generalize Read.idx_main_v28 i = y at e0 e1
  rw [Read.val_main_v27_apply, Read.val_main_v26_apply, Read.val_main_v25_apply, Read.val_main_v24_apply, Read.val_main_v23_apply,
    Read.val_main_v22_apply, Read.val_main_v21_apply, Read.val_main_v20_apply, Read.val_main_cst_2_apply, Read.val_main_v19_apply,
    Read.val_main_v18_apply, Read.val_main_cst_1_apply, Read.val_main_v17_apply, v16_eq x0 x1 x2 x3 x4 (Read.idx_main_v17 (Read.idx_main_v23 y)) r e0, v14_eq x0 x1 x2 x3 x4 y r d e0 e1]
  unfold Spec.ffnOut Spec.rms
  refine congrArg₂ (· * ·) rfl (congrArg x5 ?_)
  funext a
  match a with
  | ⟨0, _⟩ => exact Fin.ext e1

end Cert.Reference6Ideal.Hand

namespace Cert.Kernel6Ideal.Hand

open Cert.Kernel6Ideal Cert.Kernel6Ideal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The run with the result array named and the arguments unchanged. -/
theorem run_result : θ_run defs (onTc (τ := τ) (main (F := F))) ⟨m, fun _ => 0, ρ⟩ fun r => ∀ c : Dev nD,
      r.2.mem ((c : Thread nD τ).loc main_v15) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h.1 c).1 7, h.2 c⟩) (θ_run_and (run_main m ρ) (frame_of m ρ (dats m) (A_eq m) (run_main m ρ)))

end Cert.Kernel6Ideal.Hand

namespace Cert.Proof

open Idealize.ShloMosaic Idealize.SL.Sem

/-- The reference's run ends, leaves its arguments alone and every counter at zero. -/
theorem frame_Reference6Ideal : Cert.quiescent_Reference6Ideal := fun m ρ _ =>
  (θ_run Cert.Reference6Ideal.defs _ _).mono (fun r h => ⟨fun c => (h c).2, sem_eq_zero_of_no_sems rfl r.2⟩) (Cert.Reference6Ideal.Value.run (F := Ideal) m ρ)

/-- The kernel and the reference leave the same rows: the final norm of the rows with the closing block added. -/
theorem algebraic_6 : Cert.algebraic_Kernel6Ideal_Reference6Ideal := fun m g m' g' _ hargs =>
  ⟨fun c => Cert.Kernel6Ideal.Hand.G m c,
    (θ_run Cert.Kernel6Ideal.defs _ _).mono
      (fun _ h c => ⟨(h c).1.trans (Cert.Kernel6Ideal.Hand.final m c), (h c).2⟩) (Cert.Kernel6Ideal.Hand.run_result (F := Ideal) m g),
    (θ_run Cert.Reference6Ideal.defs _ _).mono
      (fun _ h c => ⟨by
        refine (h c).1.trans ?_
        rw [Cert.Reference6Ideal.Read.val_main_v28_eq]
        funext i
        obtain ⟨e0, e1, e2, e3, e4, e5⟩ := hargs c
        rw [e0, e1, e2, e3, e4, e5]
        exact Cert.Reference6Ideal.Hand.v28_eq _ _ _ _ _ _ i (i 0) (i 1) rfl rfl, (h c).2⟩) (Cert.Reference6Ideal.Value.run (F := Ideal) m' g')⟩

end Cert.Proof

end
-- ==== Proof.Ffn1Body.lean ====
module

public import proofs.«01_k».proof.Proof.Gen.Kernel7Ideal.Frame
public import proofs.«01_k».proof.Proof.Gen.Kernel7Ideal.Skeleton
public import Idealize.ShloMosaic.Lib.Pipeline.ValueKit

@[expose] public section

set_option maxRecDepth 16384

noncomputable section

namespace Cert.Kernel7Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel7Ideal.Gen

variable {F : FTy → Type} [FloatOps F]

local notation "𝕄" => MT nD τ sig Unit (Elt F) ℕ (UR sig nD τ) ℕ

/-! ## The accesses of the body -/

/-- All of the accumulator. -/
abbrev rAll : Rect S2x1024x2048 := Rect.unit (s := S2x1024x2048) ![0, 0, 0] S2x1024x2048.size inb_S2x1024x2048_S2x1024x2048_0_0_0

theorem inbHalf (s : Fin 2) (r : ℕ) (hr : r ≤ 512) : ∀ a, (![s.val, r, 0] : Fin 3 → ℕ) a + S1x512x2048.size a ≤ S2x1024x2048.size a
  | 0 => show s.val + 1 ≤ 2 by omega
  | 1 => show r + 512 ≤ 1024 by omega
  | 2 => le_refl 2048

theorem inbChunk (s : Fin 2) (q : Fin 8) : ∀ a, (![s.val, 128 * q.val, 0] : Fin 3 → ℕ) a + S1x128x2048.size a ≤ S2x1024x2048.size a
  | 0 => show s.val + 1 ≤ 2 by omega
  | 1 => show 128 * q.val + 128 ≤ 1024 by omega
  | 2 => le_refl 2048

/-- Rows 0 to 511, and rows 512 to 1023, of slot `s` of the accumulator. -/
abbrev rLo (s : Fin 2) : Rect S2x1024x2048 := Rect.unit (s := S2x1024x2048) ![s.val, 0, 0] S1x512x2048.size (inbHalf s 0 (by omega))
abbrev rHi (s : Fin 2) : Rect S2x1024x2048 := Rect.unit (s := S2x1024x2048) ![s.val, 512, 0] S1x512x2048.size (inbHalf s 512 (by omega))
/-- Rows `128 q` to `128 q + 127` of slot `s`. -/
abbrev rChunk (s : Fin 2) (q : Fin 8) : Rect S2x1024x2048 := Rect.unit (s := S2x1024x2048) ![s.val, 128 * q.val, 0] S1x128x2048.size (inbChunk s q)

abbrev rA : Rect S1024x2048 := Rect.unit (s := S1024x2048) ![0, 0] S512x2048.size inb_S1024x2048_S512x2048_0_0
abbrev rB : Rect S1024x2048 := Rect.unit (s := S1024x2048) ![512, 0] S512x2048.size inb_S1024x2048_S512x2048_512_0
abbrev rW : Rect S2048x512 := Rect.unit (s := S2048x512) ![0, 0] S2048x512.size inb_S2048x512_S2048x512_0_0
abbrev rO : Rect S512x2048 := Rect.unit (s := S512x2048) ![0, 0] S512x2048.size inb_S512x2048_S512x2048_0_0
abbrev rX : Rect S128x2048 := Rect.unit (s := S128x2048) ![0, 0] S128x2048.size inb_S128x2048_S128x2048_0_0
/-- The gain, the shift and the scale: planes 2, 3 and 4 of the modulation. -/
abbrev rG : Rect S1x9x2048 := Rect.unit (s := S1x9x2048) ![0, 2, 0] S1x1x2048.size inb_S1x9x2048_S1x1x2048_0_2_0
abbrev rS : Rect S1x9x2048 := Rect.unit (s := S1x9x2048) ![0, 3, 0] S1x1x2048.size inb_S1x9x2048_S1x1x2048_0_3_0
abbrev rC : Rect S1x9x2048 := Rect.unit (s := S1x9x2048) ![0, 4, 0] S1x1x2048.size inb_S1x9x2048_S1x1x2048_0_4_0
/-- The two column halves of a block of a weight, and their places in the padded copies. -/
abbrev rSL : Rect S16x11008 := Rect.unit (s := S16x11008) ![0, 0] S16x5504.size inb_S16x11008_S16x5504_0_0
abbrev rSR : Rect S16x11008 := Rect.unit (s := S16x11008) ![0, 5504] S16x5504.size inb_S16x11008_S16x5504_0_5504
abbrev rDL : Rect S16x5632 := Rect.unit (s := S16x5632) ![0, 0] S16x5504.size inb_S16x5632_S16x5504_0_0
abbrev rDR : Rect S16x5632 := Rect.unit (s := S16x5632) ![0, 5504] S16x128.size inb_S16x5632_S16x128_0_5504
abbrev r64 : Rect S64x2048 := Rect.unit (s := S64x2048) ![0, 0] S64x2048.size inb_S64x2048_S64x2048_0_0
abbrev r16 : Rect S16x2048 := Rect.unit (s := S16x2048) ![0, 0] S16x2048.size inb_S16x2048_S16x2048_0_0
abbrev r4k : Rect S16x4096 := Rect.unit (s := S16x4096) ![0, 0] S16x4096.size inb_S16x4096_S16x4096_0_0
abbrev r96 : Rect S96x2048 := Rect.unit (s := S96x2048) ![0, 0] S96x2048.size inb_S96x2048_S96x2048_0_0
abbrev rN : Rect S1x2048 := Rect.unit (s := S1x2048) ![0, 0] S1x2048.size inb_S1x2048_S1x2048_0_0

/-! ## What a point does -/

/-- The accumulator after one point's products into slot `s`: each half of the slot at its sum with the product of the
    half of the rows `x0` with the hidden block `x2`, `x3`, `x4` (`k0_pay40`; at the first hidden block, `a1 = 0`, the sum
    begins at zero), the other slot as it was. -/
def mm (a1 : BitVec 32) (s : Fin 2) (x0 : Vec F S1024x2048 .bf16) (x2 x3 : Vec F S2048x512 .bf16) (x4 : Vec F S512x2048 .bf16)
    (X : Vec F S2x1024x2048 .f32) : Vec F S2x1024x2048 .f32 :=
  View.canon [⟨rHi s, k0_pay40 a1 (View.ld x0 rB) (View.ld x2 rW) (View.ld x3 rW) (View.ld X (rHi s)) (View.ld x4 rO)⟩,
    ⟨rLo s, k0_pay40 a1 (View.ld x0 rA) (View.ld x2 rW) (View.ld x3 rW) (View.ld X (rLo s)) (View.ld x4 rO)⟩, ⟨rAll, X⟩]

/-- The block of the new rows a point writes: from chunk `q` of the finished slot `s`, the rows `x1` and the gains `x5`. -/
def epx (s : Fin 2) (q : Fin 8) (x1 : Vec F S128x2048 .f32) (x5 : Vec F S1x9x2048 .f32)
    (X : Vec F S2x1024x2048 .f32) : Vec F S128x2048 .f32 :=
  View.canon [⟨rX, k0_pay42 (View.ld X (rChunk s q)) (View.ld x1 rX) (View.ld x5 rG)⟩]

/-- The block of their modulated norm: with the norm's weights `x6` and the shift and scale in `x5`. -/
def eph (s : Fin 2) (q : Fin 8) (x1 : Vec F S128x2048 .f32) (x5 : Vec F S1x9x2048 .f32) (x6 : Vec F S1x2048 .f32)
    (X : Vec F S2x1024x2048 .f32) : Vec F S128x2048 .bf16 :=
  View.canon [⟨rX, k0_pay1 (k0_pay43 (View.ld x5 rS)) (k0_pay44 (View.ld x5 rC))
    (k0_pay45 (View.ld X (rChunk s q)) (View.ld x1 rX) (View.ld x5 rG) (View.ld x6 rN))⟩]

/-- The blocks of the weights in bf16 a point writes: the two column halves of `x7`, each followed by zeros; -/
def cast15 (x7 : Vec F S16x11008 .f32) : Vec F S16x5632 .bf16 := View.canon [⟨rDR, k0_pay3⟩, ⟨rDL, k0_pay2 (View.ld x7 rSL)⟩]
def cast16 (x7 : Vec F S16x11008 .f32) : Vec F S16x5632 .bf16 := View.canon [⟨rDR, k0_pay5⟩, ⟨rDL, k0_pay4 (View.ld x7 rSR)⟩]
/-- the rows `x8`, zero past the last; -/
def cast17 (a0 a1 : BitVec 32) (x8 : Vec F S64x2048 .f32) : Vec F S64x2048 .bf16 := View.canon [⟨r64, k0_pay6 a0 a1 (View.ld x8 r64)⟩]
/-- and the other four as they are. -/
def cast18 (x9 : Vec F S16x2048 .f32) : Vec F S16x2048 .bf16 := View.canon [⟨r16, k0_pay7 (View.ld x9 r16)⟩]
def cast19 (x10 : Vec F S16x2048 .f32) : Vec F S16x2048 .bf16 := View.canon [⟨r16, k0_pay8 (View.ld x10 r16)⟩]
def cast20 (x11 : Vec F S16x4096 .f32) : Vec F S16x4096 .bf16 := View.canon [⟨r4k, k0_pay9 (View.ld x11 r4k)⟩]
def cast21 (x12 : Vec F S96x2048 .f32) : Vec F S96x2048 .bf16 := View.canon [⟨r96, k0_pay10 (View.ld x12 r96)⟩]

theorem cover_out {e : EltTy} (p : Vec F S128x2048 e) (y : S128x2048.Idx) :
    ∃ pc ∈ ([⟨rX, p⟩] : List (View.Piece (Elt F) S128x2048 e)), y ∈ pc.1.set :=
  View.cover_of_tiled [⟨rX, p⟩] S128x2048.size (by rfl) y
theorem cover_pad (p : Vec F S16x128 .bf16) (p' : Vec F S16x5504 .bf16) (y : S16x5632.Idx) :
    ∃ pc ∈ ([⟨rDR, p⟩, ⟨rDL, p'⟩] : List (View.Piece (Elt F) S16x5632 .bf16)), y ∈ pc.1.set := by
  have h0 : (y 0).val < 16 := (y 0).isLt
  have h1 : (y 1).val < 5632 := (y 1).isLt
  by_cases h : (y 1).val < 5504
  · refine ⟨⟨rDL, p'⟩, List.mem_cons_of_mem _ (List.mem_singleton.mpr rfl), ?_⟩
    show y ∈ rDL.set
    exact Rect.mem_set_unit.mpr fun a => match a with
      | 0 => ⟨Nat.zero_le _, by show (y 0).val < 0 + 16; omega⟩
      | 1 => ⟨Nat.zero_le _, by show (y 1).val < 0 + 5504; omega⟩
  · refine ⟨⟨rDR, p⟩, List.mem_cons_self, ?_⟩
    show y ∈ rDR.set
    exact Rect.mem_set_unit.mpr fun a => match a with
      | 0 => ⟨Nat.zero_le _, by show (y 0).val < 0 + 16; omega⟩
      | 1 => ⟨by show 5504 ≤ (y 1).val; omega, by show (y 1).val < 5504 + 128; omega⟩
theorem cover_64 (p : Vec F S64x2048 .bf16) (y : S64x2048.Idx) :
    ∃ pc ∈ ([⟨r64, p⟩] : List (View.Piece (Elt F) S64x2048 .bf16)), y ∈ pc.1.set :=
  View.cover_of_tiled [⟨r64, p⟩] S64x2048.size (by rfl) y
theorem cover_16 (p : Vec F S16x2048 .bf16) (y : S16x2048.Idx) :
    ∃ pc ∈ ([⟨r16, p⟩] : List (View.Piece (Elt F) S16x2048 .bf16)), y ∈ pc.1.set :=
  View.cover_of_tiled [⟨r16, p⟩] S16x2048.size (by rfl) y
theorem cover_4k (p : Vec F S16x4096 .bf16) (y : S16x4096.Idx) :
    ∃ pc ∈ ([⟨r4k, p⟩] : List (View.Piece (Elt F) S16x4096 .bf16)), y ∈ pc.1.set :=
  View.cover_of_tiled [⟨r4k, p⟩] S16x4096.size (by rfl) y
theorem cover_96 (p : Vec F S96x2048 .bf16) (y : S96x2048.Idx) :
    ∃ pc ∈ ([⟨r96, p⟩] : List (View.Piece (Elt F) S96x2048 .bf16)), y ∈ pc.1.set :=
  View.cover_of_tiled [⟨r96, p⟩] S96x2048.size (by rfl) y

/-- A buffer's contents after writes over `g` are the written pieces over what it held. -/
theorem read_writes_over {κ : Kind} {sp : Space} (v : View sig κ sp S2x1024x2048 .f32) (g : v.ty.Contents (Elt F)) :
    ∀ L : List (View.Piece (Elt F) S2x1024x2048 .f32),
      v.read (Elt F) (v.writes (Elt F) g L) = View.canon (L ++ [⟨rAll, v.read (Elt F) g⟩])
  | [] => (View.canon_unit_zero (by decide) _ _).symm
  | p :: L => by
    funext y
    by_cases hy : y ∈ p.1.set
    · obtain ⟨r, w⟩ := p
      obtain ⟨x, rfl⟩ : ∃ x, r.emb x = y := r.exists_idx_of_mem hy
      rw [View.read_writes_cons_emb]
      exact (View.canon_cons_emb r w _ x).symm
    · rw [View.read_writes_cons_miss _ _ _ _ _ hy]
      exact (congrFun (read_writes_over v g L) y).trans (View.canon_cons_of_not_mem p _ hy).symm

theorem cover_all (p : Vec F S2x1024x2048 .f32) (y : S2x1024x2048.Idx) :
    ∃ pc ∈ ([⟨rAll, p⟩] : List (View.Piece (Elt F) S2x1024x2048 .f32)), y ∈ pc.1.set :=
  View.cover_of_tiled [⟨rAll, p⟩] S2x1024x2048.size (by rfl) y

/-- A write to all of a buffer leaves what it wrote. -/
theorem read_zeroed {κ : Kind} {sp : Space} (v : View sig κ sp S2x1024x2048 .f32) (g : v.ty.Contents (Elt F)) (p : Vec F S2x1024x2048 .f32) :
    v.read (Elt F) (v.writes (Elt F) g [⟨rAll, p⟩]) = p :=
  (View.read_writes_eq_canon _ _ _ (cover_all p)).trans (View.canon_unit_zero (by decide) _ _)

/-- A load at offsets equal to `off'`. -/
theorem readAt_off {κ : Kind} {sp : Space} (v : View sig κ sp S2x1024x2048 .f32) (g : v.ty.Contents (Elt F)) {size : Fin 3 → ℕ} {off off' : Fin 3 → ℕ} (h : off = off')
    (inb : ∀ a, off a + size a ≤ S2x1024x2048.size a) (inb' : ∀ a, off' a + size a ≤ S2x1024x2048.size a) :
    v.readAt (Elt F) (Rect.unit (s := S2x1024x2048) off size inb).toLoadRect g = View.ld (v.read (Elt F) g) (Rect.unit (s := S2x1024x2048) off' size inb') := by
  subst h; rfl

/-- The word of the first branch's condition: grid coordinates both zero. -/
abbrev w1 (i : grid0.Coords) : BitVec 1 := Scalar.cmpi .ne (Scalar.extui (Scalar.andi (Scalar.cmpi .eq (BitVec.ofNat 32 (i 0).val) 0#32) (Scalar.cmpi .eq (BitVec.ofNat 32 (i 1).val) 0#32)) : BitVec 32) 0#32

set_option sl_exec.closedPieces true in
set_option maxHeartbeats 4000000 in
/-- A point of the first row tile before the ninth hidden block: the casts and the products, the accumulator set to zero before them at the first. -/
theorem caseA (c : Dev nD) (E : Set ℕ) (i : grid0.Coords) (h2 : k0_cond2 i = 1#1) (h3 : ¬ k0_cond3 i = 1#1) (h4 : ¬ k0_cond4 i = 1#1) (h5 : ¬ k0_cond5 i = 1#1)
    (s s' : Fin 2) (q : Fin 8) (ho1 : k0_off1 i = ![s.val, 0, 0]) (ho2 : k0_off2 i = ![s.val, 512, 0])
    (arg2 : Memref sig .tc .vmem S1024x2048 .bf16) (harg2 : arg2.IsWhole) (arg3 : Memref sig .tc .vmem S128x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x9x2048 .f32) (harg7 : arg7.IsWhole) (arg8 : Memref sig .tc .vmem S1x2048 .f32) (harg8 : arg8.IsWhole) (arg9 : Memref sig .tc .vmem S16x11008 .f32) (harg9 : arg9.IsWhole) (arg10 : Memref sig .tc .vmem S64x2048 .f32) (harg10 : arg10.IsWhole) (arg11 : Memref sig .tc .vmem S16x2048 .f32) (harg11 : arg11.IsWhole) (arg12 : Memref sig .tc .vmem S16x2048 .f32) (harg12 : arg12.IsWhole) (arg13 : Memref sig .tc .vmem S16x4096 .f32) (harg13 : arg13.IsWhole) (arg14 : Memref sig .tc .vmem S96x2048 .f32) (harg14 : arg14.IsWhole) (arg15 : Memref sig .tc .vmem S128x2048 .f32) (harg15 : arg15.IsWhole) (arg16 : Memref sig .tc .vmem S128x2048 .bf16) (harg16 : arg16.IsWhole) (arg17 : Memref sig .tc .vmem S16x5632 .bf16) (harg17 : arg17.IsWhole) (arg18 : Memref sig .tc .vmem S16x5632 .bf16) (harg18 : arg18.IsWhole) (arg19 : Memref sig .tc .vmem S64x2048 .bf16) (harg19 : arg19.IsWhole) (arg20 : Memref sig .tc .vmem S16x2048 .bf16) (harg20 : arg20.IsWhole) (arg21 : Memref sig .tc .vmem S16x2048 .bf16) (harg21 : arg21.IsWhole) (arg22 : Memref sig .tc .vmem S16x4096 .bf16) (harg22 : arg22.IsWhole) (arg23 : Memref sig .tc .vmem S96x2048 .bf16) (harg23 : arg23.IsWhole)
    (x0 : Vec F S1024x2048 .bf16) (x2 : Vec F S2048x512 .bf16) (x3 : Vec F S2048x512 .bf16) (x4 : Vec F S512x2048 .bf16) (x7 : Vec F S16x11008 .f32) (x8 : Vec F S64x2048 .f32) (x9 : Vec F S16x2048 .f32) (x10 : Vec F S16x2048 .f32) (x11 : Vec F S16x4096 .f32) (x12 : Vec F S96x2048 .f32) (X : Vec F S2x1024x2048 .f32) (K : PUnit → sProp 𝕄) :
    iprop(owns (c : Thread nD τ) arg2 fullShare x0 ∗ owns (c : Thread nD τ) arg4 fullShare x2 ∗ owns (c : Thread nD τ) arg5 fullShare x3 ∗ owns (c : Thread nD τ) arg6 fullShare x4 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) (Memref.whole cc0_scratch0) fullShare X
        ∗ (iprop(owns (c : Thread nD τ) arg2 fullShare x0 ∗ owns (c : Thread nD τ) arg4 fullShare x2 ∗ owns (c : Thread nD τ) arg5 fullShare x3 ∗ owns (c : Thread nD τ) arg6 fullShare x4 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg17 fullShare (cast15 x7) ∗ owns (c : Thread nD τ) arg18 fullShare (cast16 x7) ∗ owns (c : Thread nD τ) arg19 fullShare (cast17 (BitVec.ofNat 32 (i 0).val) (BitVec.ofNat 32 (i 1).val) x8) ∗ owns (c : Thread nD τ) arg20 fullShare (cast18 x9) ∗ owns (c : Thread nD τ) arg21 fullShare (cast19 x10) ∗ owns (c : Thread nD τ) arg22 fullShare (cast20 x11) ∗ owns (c : Thread nD τ) arg23 fullShare (cast21 x12) ∗ owns (c : Thread nD τ) (Memref.whole cc0_scratch0) fullShare (mm (BitVec.ofNat 32 (i 1).val) s x0 x2 x3 x4 (if w1 i = 1#1 then k0_pay46 else X))) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (Memref.whole cc0_scratch0) (Memref.isWhole_whole _)) K := by
  simp only [cc0_ffn_eq_skeleton]; unfold cc0_ffn_skel
  letI : ClosedOff (k0_off1 i) := ⟨![s.val, 0, 0], ho1⟩
  letI : ClosedOff (k0_off2 i) := ⟨![s.val, 512, 0], ho2⟩
  unfold owns
  iintro ⟨⟨%f0, %hf0, H0⟩, ⟨%f2, %hf2, H2⟩, ⟨%f3, %hf3, H3⟩, ⟨%f4, %hf4, H4⟩, ⟨%f7, %hf7, H7⟩, ⟨%f8, %hf8, H8⟩, ⟨%f9, %hf9, H9⟩, ⟨%f10, %hf10, H10⟩, ⟨%f11, %hf11, H11⟩, ⟨%f12, %hf12, H12⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%fs, %hfs, HS⟩, Hk⟩
  subst hf0 hf2 hf3 hf4 hf7 hf8 hf9 hf10 hf11 hf12 hfs
  sl_exec
  sl_step
  iapply Hk
  isplitl [H0]
  · iexists f0; isplitr; · ipureintro; rfl
    iexact H0
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H15]
  · iexists _; isplitr
    swap; · iexact H15
    ipureintro
    rw [View.read_writes_eq_canon _ _ _ (cover_pad _ _)]
    rfl
  isplitl [H16]
  · iexists _; isplitr
    swap; · iexact H16
    ipureintro
    rw [View.read_writes_eq_canon _ _ _ (cover_pad _ _)]
    rfl
  isplitl [H17]
  · iexists _; isplitr
    swap; · iexact H17
    ipureintro
    rw [View.read_writes_eq_canon _ _ _ (cover_64 _)]
    rfl
  isplitl [H18]
  · iexists _; isplitr
    swap; · iexact H18
    ipureintro
    rw [View.read_writes_eq_canon _ _ _ (cover_16 _)]
    rfl
  isplitl [H19]
  · iexists _; isplitr
    swap; · iexact H19
    ipureintro
    rw [View.read_writes_eq_canon _ _ _ (cover_16 _)]
    rfl
  isplitl [H20]
  · iexists _; isplitr
    swap; · iexact H20
    ipureintro
    rw [View.read_writes_eq_canon _ _ _ (cover_4k _)]
    rfl
  isplitl [H21]
  · iexists _; isplitr
    swap; · iexact H21
    ipureintro
    rw [View.read_writes_eq_canon _ _ _ (cover_96 _)]
    rfl
  iexists _; isplitr
  swap; · iexact HS
  ipureintro
  have hg : (Memref.whole cc0_scratch0).view.read (Elt F) (if hc : w1 i = 1#1 then (Memref.whole cc0_scratch0).view.writes (Elt F) fs [⟨rAll, k0_pay46⟩] else fs)
      = if w1 i = 1#1 then k0_pay46 else (Memref.whole cc0_scratch0).view.read (Elt F) fs := by
    by_cases hc : w1 i = 1#1
    · rw [dif_pos hc, if_pos hc]; exact read_zeroed _ _ _
    · rw [dif_neg hc, if_neg hc]
  rw [← hg]
  rw [read_writes_over]
  have e1 := readAt_off (F := F) (Memref.whole cc0_scratch0).view (if hc : w1 i = 1#1 then (Memref.whole cc0_scratch0).view.writes (Elt F) fs [⟨rAll, k0_pay46⟩] else fs) ho1 (by rw [ho1]; exact inbHalf s 0 (by omega)) (inbHalf s 0 (by omega))
  have e2 := readAt_off (F := F) (Memref.whole cc0_scratch0).view (if hc : w1 i = 1#1 then (Memref.whole cc0_scratch0).view.writes (Elt F) fs [⟨rAll, k0_pay46⟩] else fs) ho2 (by rw [ho2]; exact inbHalf s 512 (by omega)) (inbHalf s 512 (by omega))
  unfold mm
  rw [← e1, ← e2]
  rfl

set_option sl_exec.closedPieces true in
set_option maxHeartbeats 4000000 in
/-- A point of a row tile from its ninth hidden block on: products only. -/
theorem caseD (c : Dev nD) (E : Set ℕ) (i : grid0.Coords) (h1 : ¬ w1 i = 1#1) (h2 : ¬ k0_cond2 i = 1#1) (h3 : ¬ k0_cond3 i = 1#1) (h4 : k0_cond4 i = 1#1) (h5 : ¬ k0_cond5 i = 1#1)
    (s s' : Fin 2) (q : Fin 8) (ho6 : k0_off6 i = ![s.val, 0, 0]) (ho7 : k0_off7 i = ![s.val, 512, 0])
    (arg2 : Memref sig .tc .vmem S1024x2048 .bf16) (harg2 : arg2.IsWhole) (arg3 : Memref sig .tc .vmem S128x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x9x2048 .f32) (harg7 : arg7.IsWhole) (arg8 : Memref sig .tc .vmem S1x2048 .f32) (harg8 : arg8.IsWhole) (arg9 : Memref sig .tc .vmem S16x11008 .f32) (harg9 : arg9.IsWhole) (arg10 : Memref sig .tc .vmem S64x2048 .f32) (harg10 : arg10.IsWhole) (arg11 : Memref sig .tc .vmem S16x2048 .f32) (harg11 : arg11.IsWhole) (arg12 : Memref sig .tc .vmem S16x2048 .f32) (harg12 : arg12.IsWhole) (arg13 : Memref sig .tc .vmem S16x4096 .f32) (harg13 : arg13.IsWhole) (arg14 : Memref sig .tc .vmem S96x2048 .f32) (harg14 : arg14.IsWhole) (arg15 : Memref sig .tc .vmem S128x2048 .f32) (harg15 : arg15.IsWhole) (arg16 : Memref sig .tc .vmem S128x2048 .bf16) (harg16 : arg16.IsWhole) (arg17 : Memref sig .tc .vmem S16x5632 .bf16) (harg17 : arg17.IsWhole) (arg18 : Memref sig .tc .vmem S16x5632 .bf16) (harg18 : arg18.IsWhole) (arg19 : Memref sig .tc .vmem S64x2048 .bf16) (harg19 : arg19.IsWhole) (arg20 : Memref sig .tc .vmem S16x2048 .bf16) (harg20 : arg20.IsWhole) (arg21 : Memref sig .tc .vmem S16x2048 .bf16) (harg21 : arg21.IsWhole) (arg22 : Memref sig .tc .vmem S16x4096 .bf16) (harg22 : arg22.IsWhole) (arg23 : Memref sig .tc .vmem S96x2048 .bf16) (harg23 : arg23.IsWhole)
    (x0 : Vec F S1024x2048 .bf16) (x2 : Vec F S2048x512 .bf16) (x3 : Vec F S2048x512 .bf16) (x4 : Vec F S512x2048 .bf16) (X : Vec F S2x1024x2048 .f32) (K : PUnit → sProp 𝕄) :
    iprop(owns (c : Thread nD τ) arg2 fullShare x0 ∗ owns (c : Thread nD τ) arg4 fullShare x2 ∗ owns (c : Thread nD τ) arg5 fullShare x3 ∗ owns (c : Thread nD τ) arg6 fullShare x4 ∗ owns (c : Thread nD τ) (Memref.whole cc0_scratch0) fullShare X
        ∗ (iprop(owns (c : Thread nD τ) arg2 fullShare x0 ∗ owns (c : Thread nD τ) arg4 fullShare x2 ∗ owns (c : Thread nD τ) arg5 fullShare x3 ∗ owns (c : Thread nD τ) arg6 fullShare x4 ∗ owns (c : Thread nD τ) (Memref.whole cc0_scratch0) fullShare (mm (BitVec.ofNat 32 (i 1).val) s x0 x2 x3 x4 X)) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (Memref.whole cc0_scratch0) (Memref.isWhole_whole _)) K := by
  simp only [cc0_ffn_eq_skeleton]; unfold cc0_ffn_skel
  letI : ClosedOff (k0_off6 i) := ⟨![s.val, 0, 0], ho6⟩
  letI : ClosedOff (k0_off7 i) := ⟨![s.val, 512, 0], ho7⟩
  unfold owns
  iintro ⟨⟨%f0, %hf0, H0⟩, ⟨%f2, %hf2, H2⟩, ⟨%f3, %hf3, H3⟩, ⟨%f4, %hf4, H4⟩, ⟨%fs, %hfs, HS⟩, Hk⟩
  subst hf0 hf2 hf3 hf4 hfs
  sl_exec
  sl_step
  iapply Hk
  isplitl [H0]
  · iexists f0; isplitr; · ipureintro; rfl
    iexact H0
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HS
  ipureintro
  rw [read_writes_over]
  have e1 := readAt_off (F := F) (Memref.whole cc0_scratch0).view fs ho6 (by rw [ho6]; exact inbHalf s 0 (by omega)) (inbHalf s 0 (by omega))
  have e2 := readAt_off (F := F) (Memref.whole cc0_scratch0).view fs ho7 (by rw [ho7]; exact inbHalf s 512 (by omega)) (inbHalf s 512 (by omega))
  unfold mm
  rw [← e1, ← e2]
  rfl

set_option sl_exec.closedPieces true in
set_option maxHeartbeats 4000000 in
/-- A point of a later row tile before its ninth hidden block: a block of the tile before is finished, then the casts and the products. -/
theorem caseC (c : Dev nD) (E : Set ℕ) (i : grid0.Coords) (h1 : ¬ w1 i = 1#1) (h2 : ¬ k0_cond2 i = 1#1) (h3 : k0_cond3 i = 1#1) (h4 : ¬ k0_cond4 i = 1#1) (h5 : ¬ k0_cond5 i = 1#1)
    (s s' : Fin 2) (q : Fin 8) (ho3 : k0_off3 i = ![s'.val, 128 * q.val, 0]) (ho4 : k0_off4 i = ![s.val, 0, 0]) (ho5 : k0_off5 i = ![s.val, 512, 0])
    (arg2 : Memref sig .tc .vmem S1024x2048 .bf16) (harg2 : arg2.IsWhole) (arg3 : Memref sig .tc .vmem S128x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x9x2048 .f32) (harg7 : arg7.IsWhole) (arg8 : Memref sig .tc .vmem S1x2048 .f32) (harg8 : arg8.IsWhole) (arg9 : Memref sig .tc .vmem S16x11008 .f32) (harg9 : arg9.IsWhole) (arg10 : Memref sig .tc .vmem S64x2048 .f32) (harg10 : arg10.IsWhole) (arg11 : Memref sig .tc .vmem S16x2048 .f32) (harg11 : arg11.IsWhole) (arg12 : Memref sig .tc .vmem S16x2048 .f32) (harg12 : arg12.IsWhole) (arg13 : Memref sig .tc .vmem S16x4096 .f32) (harg13 : arg13.IsWhole) (arg14 : Memref sig .tc .vmem S96x2048 .f32) (harg14 : arg14.IsWhole) (arg15 : Memref sig .tc .vmem S128x2048 .f32) (harg15 : arg15.IsWhole) (arg16 : Memref sig .tc .vmem S128x2048 .bf16) (harg16 : arg16.IsWhole) (arg17 : Memref sig .tc .vmem S16x5632 .bf16) (harg17 : arg17.IsWhole) (arg18 : Memref sig .tc .vmem S16x5632 .bf16) (harg18 : arg18.IsWhole) (arg19 : Memref sig .tc .vmem S64x2048 .bf16) (harg19 : arg19.IsWhole) (arg20 : Memref sig .tc .vmem S16x2048 .bf16) (harg20 : arg20.IsWhole) (arg21 : Memref sig .tc .vmem S16x2048 .bf16) (harg21 : arg21.IsWhole) (arg22 : Memref sig .tc .vmem S16x4096 .bf16) (harg22 : arg22.IsWhole) (arg23 : Memref sig .tc .vmem S96x2048 .bf16) (harg23 : arg23.IsWhole)
    (x0 : Vec F S1024x2048 .bf16) (x1 : Vec F S128x2048 .f32) (x2 : Vec F S2048x512 .bf16) (x3 : Vec F S2048x512 .bf16) (x4 : Vec F S512x2048 .bf16) (x5 : Vec F S1x9x2048 .f32) (x6 : Vec F S1x2048 .f32) (x7 : Vec F S16x11008 .f32) (x8 : Vec F S64x2048 .f32) (x9 : Vec F S16x2048 .f32) (x10 : Vec F S16x2048 .f32) (x11 : Vec F S16x4096 .f32) (x12 : Vec F S96x2048 .f32) (X : Vec F S2x1024x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) (Memref.whole cc0_scratch0) fullShare X
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare (epx s' q x1 x5 X) ∗ owns (c : Thread nD τ) arg16 fullShare (eph s' q x1 x5 x6 X) ∗ owns (c : Thread nD τ) arg17 fullShare (cast15 x7) ∗ owns (c : Thread nD τ) arg18 fullShare (cast16 x7) ∗ owns (c : Thread nD τ) arg19 fullShare (cast17 (BitVec.ofNat 32 (i 0).val) (BitVec.ofNat 32 (i 1).val) x8) ∗ owns (c : Thread nD τ) arg20 fullShare (cast18 x9) ∗ owns (c : Thread nD τ) arg21 fullShare (cast19 x10) ∗ owns (c : Thread nD τ) arg22 fullShare (cast20 x11) ∗ owns (c : Thread nD τ) arg23 fullShare (cast21 x12) ∗ owns (c : Thread nD τ) (Memref.whole cc0_scratch0) fullShare (mm (BitVec.ofNat 32 (i 1).val) s x0 x2 x3 x4 X)) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (Memref.whole cc0_scratch0) (Memref.isWhole_whole _)) K := by
  simp only [cc0_ffn_eq_skeleton]; unfold cc0_ffn_skel
  letI : ClosedOff (k0_off3 i) := ⟨![s'.val, 128 * q.val, 0], ho3⟩
  letI : ClosedOff (k0_off4 i) := ⟨![s.val, 0, 0], ho4⟩
  letI : ClosedOff (k0_off5 i) := ⟨![s.val, 512, 0], ho5⟩
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%fs, %hfs, HS⟩, Hk⟩
  subst hf0 hf1 hf2 hf3 hf4 hf5 hf6 hf7 hf8 hf9 hf10 hf11 hf12 hfs
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    rw [View.read_writes_eq_canon _ _ _ (cover_out _)]
    have e1 := readAt_off (F := F) (Memref.whole cc0_scratch0).view fs ho3 (by rw [ho3]; exact inbChunk s' q) (inbChunk s' q)
    unfold epx
    rw [← e1]
    rfl
  isplitl [H14]
  · iexists _; isplitr
    swap; · iexact H14
    ipureintro
    rw [View.read_writes_eq_canon _ _ _ (cover_out _)]
    have e1 := readAt_off (F := F) (Memref.whole cc0_scratch0).view fs ho3 (by rw [ho3]; exact inbChunk s' q) (inbChunk s' q)
    unfold eph
    rw [← e1]
    rfl
  isplitl [H15]
  · iexists _; isplitr
    swap; · iexact H15
    ipureintro
    rw [View.read_writes_eq_canon _ _ _ (cover_pad _ _)]
    rfl
  isplitl [H16]
  · iexists _; isplitr
    swap; · iexact H16
    ipureintro
    rw [View.read_writes_eq_canon _ _ _ (cover_pad _ _)]
    rfl
  isplitl [H17]
  · iexists _; isplitr
    swap; · iexact H17
    ipureintro
    rw [View.read_writes_eq_canon _ _ _ (cover_64 _)]
    rfl
  isplitl [H18]
  · iexists _; isplitr
    swap; · iexact H18
    ipureintro
    rw [View.read_writes_eq_canon _ _ _ (cover_16 _)]
    rfl
  isplitl [H19]
  · iexists _; isplitr
    swap; · iexact H19
    ipureintro
    rw [View.read_writes_eq_canon _ _ _ (cover_16 _)]
    rfl
  isplitl [H20]
  · iexists _; isplitr
    swap; · iexact H20
    ipureintro
    rw [View.read_writes_eq_canon _ _ _ (cover_4k _)]
    rfl
  isplitl [H21]
  · iexists _; isplitr
    swap; · iexact H21
    ipureintro
    rw [View.read_writes_eq_canon _ _ _ (cover_96 _)]
    rfl
  iexists _; isplitr
  swap; · iexact HS
  ipureintro
  rw [read_writes_over]
  have e1 := readAt_off (F := F) (Memref.whole cc0_scratch0).view fs ho4 (by rw [ho4]; exact inbHalf s 0 (by omega)) (inbHalf s 0 (by omega))
  have e2 := readAt_off (F := F) (Memref.whole cc0_scratch0).view fs ho5 (by rw [ho5]; exact inbHalf s 512 (by omega)) (inbHalf s 512 (by omega))
  unfold mm
  rw [← e1, ← e2]
  rfl

set_option sl_exec.closedPieces true in
set_option maxHeartbeats 4000000 in
/-- A point after the last row tile, before its ninth: a block of the last tile is finished. -/
theorem caseE (c : Dev nD) (E : Set ℕ) (i : grid0.Coords) (h1 : ¬ w1 i = 1#1) (h2 : ¬ k0_cond2 i = 1#1) (h3 : ¬ k0_cond3 i = 1#1) (h4 : ¬ k0_cond4 i = 1#1) (h5 : k0_cond5 i = 1#1)
    (s s' : Fin 2) (q : Fin 8) (ho8 : k0_off8 i = ![s'.val, 128 * q.val, 0])
    (arg2 : Memref sig .tc .vmem S1024x2048 .bf16) (harg2 : arg2.IsWhole) (arg3 : Memref sig .tc .vmem S128x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x9x2048 .f32) (harg7 : arg7.IsWhole) (arg8 : Memref sig .tc .vmem S1x2048 .f32) (harg8 : arg8.IsWhole) (arg9 : Memref sig .tc .vmem S16x11008 .f32) (harg9 : arg9.IsWhole) (arg10 : Memref sig .tc .vmem S64x2048 .f32) (harg10 : arg10.IsWhole) (arg11 : Memref sig .tc .vmem S16x2048 .f32) (harg11 : arg11.IsWhole) (arg12 : Memref sig .tc .vmem S16x2048 .f32) (harg12 : arg12.IsWhole) (arg13 : Memref sig .tc .vmem S16x4096 .f32) (harg13 : arg13.IsWhole) (arg14 : Memref sig .tc .vmem S96x2048 .f32) (harg14 : arg14.IsWhole) (arg15 : Memref sig .tc .vmem S128x2048 .f32) (harg15 : arg15.IsWhole) (arg16 : Memref sig .tc .vmem S128x2048 .bf16) (harg16 : arg16.IsWhole) (arg17 : Memref sig .tc .vmem S16x5632 .bf16) (harg17 : arg17.IsWhole) (arg18 : Memref sig .tc .vmem S16x5632 .bf16) (harg18 : arg18.IsWhole) (arg19 : Memref sig .tc .vmem S64x2048 .bf16) (harg19 : arg19.IsWhole) (arg20 : Memref sig .tc .vmem S16x2048 .bf16) (harg20 : arg20.IsWhole) (arg21 : Memref sig .tc .vmem S16x2048 .bf16) (harg21 : arg21.IsWhole) (arg22 : Memref sig .tc .vmem S16x4096 .bf16) (harg22 : arg22.IsWhole) (arg23 : Memref sig .tc .vmem S96x2048 .bf16) (harg23 : arg23.IsWhole)
    (x1 : Vec F S128x2048 .f32) (x5 : Vec F S1x9x2048 .f32) (x6 : Vec F S1x2048 .f32) (X : Vec F S2x1024x2048 .f32) (K : PUnit → sProp 𝕄) :
    iprop(owns (c : Thread nD τ) arg3 fullShare x1 ∗ owns (c : Thread nD τ) arg7 fullShare x5 ∗ owns (c : Thread nD τ) arg8 fullShare x6 ∗ (∃ d, owns (c : Thread nD τ) arg15 fullShare d) ∗ (∃ d, owns (c : Thread nD τ) arg16 fullShare d) ∗ owns (c : Thread nD τ) (Memref.whole cc0_scratch0) fullShare X
        ∗ (iprop(owns (c : Thread nD τ) arg3 fullShare x1 ∗ owns (c : Thread nD τ) arg7 fullShare x5 ∗ owns (c : Thread nD τ) arg8 fullShare x6 ∗ owns (c : Thread nD τ) arg15 fullShare (epx s' q x1 x5 X) ∗ owns (c : Thread nD τ) arg16 fullShare (eph s' q x1 x5 x6 X) ∗ owns (c : Thread nD τ) (Memref.whole cc0_scratch0) fullShare X) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (Memref.whole cc0_scratch0) (Memref.isWhole_whole _)) K := by
  simp only [cc0_ffn_eq_skeleton]; unfold cc0_ffn_skel
  letI : ClosedOff (k0_off8 i) := ⟨![s'.val, 128 * q.val, 0], ho8⟩
  unfold owns
  iintro ⟨⟨%f1, %hf1, H1⟩, ⟨%f5, %hf5, H5⟩, ⟨%f6, %hf6, H6⟩, ⟨%d13, %f13, -, H13⟩, ⟨%d14, %f14, -, H14⟩, ⟨%fs, %hfs, HS⟩, Hk⟩
  subst hf1 hf5 hf6 hfs
  sl_exec
  sl_step
  iapply Hk
  isplitl [H1]
  · iexists f1; isplitr; · ipureintro; rfl
    iexact H1
  isplitl [H5]
  · iexists f5; isplitr; · ipureintro; rfl
    iexact H5
  isplitl [H6]
  · iexists f6; isplitr; · ipureintro; rfl
    iexact H6
  isplitl [H13]
  · iexists _; isplitr
    swap; · iexact H13
    ipureintro
    rw [View.read_writes_eq_canon _ _ _ (cover_out _)]
    have e1 := readAt_off (F := F) (Memref.whole cc0_scratch0).view fs ho8 (by rw [ho8]; exact inbChunk s' q) (inbChunk s' q)
    unfold epx
    rw [← e1]
    rfl
  isplitl [H14]
  · iexists _; isplitr
    swap; · iexact H14
    ipureintro
    rw [View.read_writes_eq_canon _ _ _ (cover_out _)]
    have e1 := readAt_off (F := F) (Memref.whole cc0_scratch0).view fs ho8 (by rw [ho8]; exact inbChunk s' q) (inbChunk s' q)
    unfold eph
    rw [← e1]
    rfl
  iexists _; isplitr
  swap; · iexact HS
  ipureintro
  rfl

set_option sl_exec.closedPieces true in
set_option maxHeartbeats 4000000 in
/-- The last points: nothing. -/
theorem caseZ (c : Dev nD) (E : Set ℕ) (i : grid0.Coords) (h1 : ¬ w1 i = 1#1) (h2 : ¬ k0_cond2 i = 1#1) (h3 : ¬ k0_cond3 i = 1#1) (h4 : ¬ k0_cond4 i = 1#1) (h5 : ¬ k0_cond5 i = 1#1)
    (s s' : Fin 2) (q : Fin 8)
    (arg2 : Memref sig .tc .vmem S1024x2048 .bf16) (harg2 : arg2.IsWhole) (arg3 : Memref sig .tc .vmem S128x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x9x2048 .f32) (harg7 : arg7.IsWhole) (arg8 : Memref sig .tc .vmem S1x2048 .f32) (harg8 : arg8.IsWhole) (arg9 : Memref sig .tc .vmem S16x11008 .f32) (harg9 : arg9.IsWhole) (arg10 : Memref sig .tc .vmem S64x2048 .f32) (harg10 : arg10.IsWhole) (arg11 : Memref sig .tc .vmem S16x2048 .f32) (harg11 : arg11.IsWhole) (arg12 : Memref sig .tc .vmem S16x2048 .f32) (harg12 : arg12.IsWhole) (arg13 : Memref sig .tc .vmem S16x4096 .f32) (harg13 : arg13.IsWhole) (arg14 : Memref sig .tc .vmem S96x2048 .f32) (harg14 : arg14.IsWhole) (arg15 : Memref sig .tc .vmem S128x2048 .f32) (harg15 : arg15.IsWhole) (arg16 : Memref sig .tc .vmem S128x2048 .bf16) (harg16 : arg16.IsWhole) (arg17 : Memref sig .tc .vmem S16x5632 .bf16) (harg17 : arg17.IsWhole) (arg18 : Memref sig .tc .vmem S16x5632 .bf16) (harg18 : arg18.IsWhole) (arg19 : Memref sig .tc .vmem S64x2048 .bf16) (harg19 : arg19.IsWhole) (arg20 : Memref sig .tc .vmem S16x2048 .bf16) (harg20 : arg20.IsWhole) (arg21 : Memref sig .tc .vmem S16x2048 .bf16) (harg21 : arg21.IsWhole) (arg22 : Memref sig .tc .vmem S16x4096 .bf16) (harg22 : arg22.IsWhole) (arg23 : Memref sig .tc .vmem S96x2048 .bf16) (harg23 : arg23.IsWhole)
     (X : Vec F S2x1024x2048 .f32) (K : PUnit → sProp 𝕄) :
    iprop(owns (c : Thread nD τ) (Memref.whole cc0_scratch0) fullShare X
        ∗ (iprop(owns (c : Thread nD τ) (Memref.whole cc0_scratch0) fullShare X) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (Memref.whole cc0_scratch0) (Memref.isWhole_whole _)) K := by
  simp only [cc0_ffn_eq_skeleton]; unfold cc0_ffn_skel
  unfold owns
  iintro ⟨⟨%fs, %hfs, HS⟩, Hk⟩
  subst hfs
  sl_exec
  sl_step
  iapply Hk
  iexists _; isplitr
  swap; · iexact HS
  ipureintro
  rfl

end Cert.Kernel7Ideal.Hand
-- ==== Proof.Ffn1Grid.lean ====
module

public import proofs.«01_k».proof.Proof.Ffn1Body
public import Idealize.ShloMosaic.Lib.Pipeline.TableIdle
public import Idealize.ShloMosaic.Lib.Quiescent

@[expose] public section

set_option maxRecDepth 16384

noncomputable section

namespace Cert.Kernel7Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel7Ideal.Gen

variable {F : FTy → Type} [FloatOps F]

local notation "𝕄" => MT nD τ sig Unit (Elt F) ℕ (UR sig nD τ) ℕ

/-! ## The grid -/

/-- The accumulator half the point's matrix products go to: its row tile's parity. -/
def slot (t : Fin grid0.N) : Fin 2 := ⟨t.val / 11 % 2, Nat.mod_lt _ (by decide)⟩
/-- The other half, where the row tile before is complete. -/
def oslot (t : Fin grid0.N) : Fin 2 := ⟨1 - t.val / 11 % 2, by omega⟩
/-- The chunk of rows the epilogue of the point writes. -/
def chunk (t : Fin grid0.N) : Fin 8 := ⟨min (t.val % 11) 7, by omega⟩

theorem coords0 : ∀ t : Fin grid0.N, (grid0.coords t 0).val = t.val / 11 := by decide +kernel
theorem coords1 : ∀ t : Fin grid0.N, (grid0.coords t 1).val = t.val % 11 := by decide +kernel
theorem w1_iff : ∀ t : Fin grid0.N, w1 (grid0.coords t) = 1#1 ↔ t.val = 0 := by decide +kernel
theorem cond2_iff : ∀ t : Fin grid0.N, k0_cond2 (grid0.coords t) = 1#1 ↔ t.val < 8 := by decide +kernel
theorem cond3_iff : ∀ t : Fin grid0.N, k0_cond3 (grid0.coords t) = 1#1 ↔ 11 ≤ t.val ∧ t.val < 176 ∧ t.val % 11 < 8 := by decide +kernel
theorem cond4_iff : ∀ t : Fin grid0.N, k0_cond4 (grid0.coords t) = 1#1 ↔ t.val < 176 ∧ 8 ≤ t.val % 11 := by decide +kernel
theorem cond5_iff : ∀ t : Fin grid0.N, k0_cond5 (grid0.coords t) = 1#1 ↔ 176 ≤ t.val ∧ t.val % 11 < 8 := by decide +kernel
theorem off1_eq : ∀ t : Fin grid0.N, k0_off1 (grid0.coords t) = ![(slot t).val, 0, 0] := by decide +kernel
theorem off2_eq : ∀ t : Fin grid0.N, k0_off2 (grid0.coords t) = ![(slot t).val, 512, 0] := by decide +kernel
theorem off3_eq : ∀ t : Fin grid0.N, k0_off3 (grid0.coords t) = ![(oslot t).val, 128 * (chunk t).val, 0] := by decide +kernel
theorem off4_eq : ∀ t : Fin grid0.N, k0_off4 (grid0.coords t) = ![(slot t).val, 0, 0] := by decide +kernel
theorem off5_eq : ∀ t : Fin grid0.N, k0_off5 (grid0.coords t) = ![(slot t).val, 512, 0] := by decide +kernel
theorem off6_eq : ∀ t : Fin grid0.N, k0_off6 (grid0.coords t) = ![(slot t).val, 0, 0] := by decide +kernel
theorem off7_eq : ∀ t : Fin grid0.N, k0_off7 (grid0.coords t) = ![(slot t).val, 512, 0] := by decide +kernel
theorem off8_eq : ∀ t : Fin grid0.N, k0_off8 (grid0.coords t) = ![(oslot t).val, 128 * (chunk t).val, 0] := by decide +kernel

/-- The last point at or before `t` that has a chunk of its own, for the two results of the finished rows; -/
def lastPt (t : Fin grid0.N) : Fin grid0.N := ⟨t.val - (t.val % 11 - 7), Nat.lt_of_le_of_lt (Nat.sub_le _ _) t.isLt⟩
/-- and for the casts, which rest from the last chunk of the last row tile on. -/
def lastC (t : Fin grid0.N) : Fin grid0.N := ⟨min (t.val - (t.val % 11 - 7)) 172, Nat.lt_of_le_of_lt (Nat.min_le_left _ _) (Nat.lt_of_le_of_lt (Nat.sub_le _ _) t.isLt)⟩

theorem lastPt_self (t : Fin grid0.N) (h : t.val % 11 < 8) : lastPt t = t := Fin.ext (by show t.val - (t.val % 11 - 7) = t.val; omega)
theorem lastC_self (t : Fin grid0.N) (h : t.val < 176 ∧ t.val % 11 < 8) : lastC t = t := Fin.ext (by show min (t.val - (t.val % 11 - 7)) 172 = t.val; omega)

/-- The cast chunk of a point. -/
def cchunk (t : Fin grid0.N) : ℕ := 8 * (t.val / 11) + min (t.val % 11) 7

/-- The windows of the finished rows are stored at the points of the second and later row tiles that have a chunk of their own; -/
theorem idle13 : ∀ t : Fin grid0.N, cfg0.idle 13 (cfg0.grid.coords t) = !(decide (11 ≤ t.val) && decide (t.val % 11 < 8)) := by decide +kernel
theorem idle14 : ∀ t : Fin grid0.N, cfg0.idle 14 (cfg0.grid.coords t) = !(decide (11 ≤ t.val) && decide (t.val % 11 < 8)) := by decide +kernel
/-- those of the casts at the points of the sixteen row tiles that have one. -/
theorem idle15 : ∀ t : Fin grid0.N, cfg0.idle 15 (cfg0.grid.coords t) = !(decide (t.val < 176) && decide (t.val % 11 < 8)) := by decide +kernel
theorem idle16 : ∀ t : Fin grid0.N, cfg0.idle 16 (cfg0.grid.coords t) = !(decide (t.val < 176) && decide (t.val % 11 < 8)) := by decide +kernel
theorem idle17 : ∀ t : Fin grid0.N, cfg0.idle 17 (cfg0.grid.coords t) = !(decide (t.val < 176) && decide (t.val % 11 < 8)) := by decide +kernel
theorem idle18 : ∀ t : Fin grid0.N, cfg0.idle 18 (cfg0.grid.coords t) = !(decide (t.val < 176) && decide (t.val % 11 < 8)) := by decide +kernel
theorem idle19 : ∀ t : Fin grid0.N, cfg0.idle 19 (cfg0.grid.coords t) = !(decide (t.val < 176) && decide (t.val % 11 < 8)) := by decide +kernel
theorem idle20 : ∀ t : Fin grid0.N, cfg0.idle 20 (cfg0.grid.coords t) = !(decide (t.val < 176) && decide (t.val % 11 < 8)) := by decide +kernel
theorem idle21 : ∀ t : Fin grid0.N, cfg0.idle 21 (cfg0.grid.coords t) = !(decide (t.val < 176) && decide (t.val % 11 < 8)) := by decide +kernel
/-- When each is written back. -/
theorem flush13 (t : Fin cfg0.N) : (cfg0.win 13).flush t = ((decide (11 ≤ t.val) && (decide (t.val % 11 < 7) || decide (t.val % 11 = 10))) || decide (t.val = 186)) :=
  ((cfg0.win 13).flush_eq_flushF t).trans ((by decide +kernel : ∀ t : Fin grid0.N, (cfg0.win 13).flushF t = ((decide (11 ≤ t.val) && (decide (t.val % 11 < 7) || decide (t.val % 11 = 10))) || decide (t.val = 186))) t)
theorem flush14 (t : Fin cfg0.N) : (cfg0.win 14).flush t = ((decide (11 ≤ t.val) && (decide (t.val % 11 < 7) || decide (t.val % 11 = 10))) || decide (t.val = 186)) :=
  ((cfg0.win 14).flush_eq_flushF t).trans ((by decide +kernel : ∀ t : Fin grid0.N, (cfg0.win 14).flushF t = ((decide (11 ≤ t.val) && (decide (t.val % 11 < 7) || decide (t.val % 11 = 10))) || decide (t.val = 186))) t)
theorem flush15 (t : Fin cfg0.N) : (cfg0.win 15).flush t = ((decide (t.val < 176 ∧ cchunk t < 127) && (decide (t.val % 11 < 7) || decide (t.val % 11 = 10))) || decide (t.val = 186)) :=
  ((cfg0.win 15).flush_eq_flushF t).trans ((by decide +kernel : ∀ t : Fin grid0.N, (cfg0.win 15).flushF t = ((decide (t.val < 176 ∧ cchunk t < 127) && (decide (t.val % 11 < 7) || decide (t.val % 11 = 10))) || decide (t.val = 186))) t)
theorem flush16 (t : Fin cfg0.N) : (cfg0.win 16).flush t = ((decide (t.val < 176 ∧ cchunk t < 127) && (decide (t.val % 11 < 7) || decide (t.val % 11 = 10))) || decide (t.val = 186)) :=
  ((cfg0.win 16).flush_eq_flushF t).trans ((by decide +kernel : ∀ t : Fin grid0.N, (cfg0.win 16).flushF t = ((decide (t.val < 176 ∧ cchunk t < 127) && (decide (t.val % 11 < 7) || decide (t.val % 11 = 10))) || decide (t.val = 186))) t)
theorem flush17 (t : Fin cfg0.N) : (cfg0.win 17).flush t = ((decide (t.val < 176 ∧ cchunk t < 87) && (decide (t.val % 11 < 7) || decide (t.val % 11 = 10))) || decide (t.val = 186)) :=
  ((cfg0.win 17).flush_eq_flushF t).trans ((by decide +kernel : ∀ t : Fin grid0.N, (cfg0.win 17).flushF t = ((decide (t.val < 176 ∧ cchunk t < 87) && (decide (t.val % 11 < 7) || decide (t.val % 11 = 10))) || decide (t.val = 186))) t)
theorem flush18 (t : Fin cfg0.N) : (cfg0.win 18).flush t = ((decide (t.val < 176 ∧ cchunk t < 127) && (decide (t.val % 11 < 7) || decide (t.val % 11 = 10))) || decide (t.val = 186)) :=
  ((cfg0.win 18).flush_eq_flushF t).trans ((by decide +kernel : ∀ t : Fin grid0.N, (cfg0.win 18).flushF t = ((decide (t.val < 176 ∧ cchunk t < 127) && (decide (t.val % 11 < 7) || decide (t.val % 11 = 10))) || decide (t.val = 186))) t)
theorem flush19 (t : Fin cfg0.N) : (cfg0.win 19).flush t = ((decide (t.val < 176 ∧ cchunk t < 127) && (decide (t.val % 11 < 7) || decide (t.val % 11 = 10))) || decide (t.val = 186)) :=
  ((cfg0.win 19).flush_eq_flushF t).trans ((by decide +kernel : ∀ t : Fin grid0.N, (cfg0.win 19).flushF t = ((decide (t.val < 176 ∧ cchunk t < 127) && (decide (t.val % 11 < 7) || decide (t.val % 11 = 10))) || decide (t.val = 186))) t)
theorem flush20 (t : Fin cfg0.N) : (cfg0.win 20).flush t = ((decide (t.val < 176 ∧ cchunk t < 63) && (decide (t.val % 11 < 7) || decide (t.val % 11 = 10))) || decide (t.val = 186)) :=
  ((cfg0.win 20).flush_eq_flushF t).trans ((by decide +kernel : ∀ t : Fin grid0.N, (cfg0.win 20).flushF t = ((decide (t.val < 176 ∧ cchunk t < 63) && (decide (t.val % 11 < 7) || decide (t.val % 11 = 10))) || decide (t.val = 186))) t)
theorem flush21 (t : Fin cfg0.N) : (cfg0.win 21).flush t = ((decide (t.val < 176 ∧ cchunk t < 106) && (decide (t.val % 11 < 7) || decide (t.val % 11 = 10))) || decide (t.val = 186)) :=
  ((cfg0.win 21).flush_eq_flushF t).trans ((by decide +kernel : ∀ t : Fin grid0.N, (cfg0.win 21).flushF t = ((decide (t.val < 176 ∧ cchunk t < 106) && (decide (t.val % 11 < 7) || decide (t.val % 11 = 10))) || decide (t.val = 186))) t)

end Cert.Kernel7Ideal.Hand

end
-- ==== Proof.Ffn1Run.lean ====
module

public import proofs.«01_k».proof.Proof.Ffn1Grid
public import Idealize.ShloMosaic.Lib.Pipeline.TableIdle
public import Idealize.ShloMosaic.Lib.Quiescent

@[expose] public section

set_option maxRecDepth 16384

noncomputable section

namespace Cert.Kernel7Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel7Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- Window 0's block at a point. -/
abbrev b0 (c : Dev nD) (t : Fin grid0.N) : Vec F S1024x2048 .bf16 := iblk m c 0 t
/-- Window 1's block at a point. -/
abbrev b1 (c : Dev nD) (t : Fin grid0.N) : Vec F S128x2048 .f32 := iblk m c 1 t
/-- Window 2's block at a point. -/
abbrev b2 (c : Dev nD) (t : Fin grid0.N) : Vec F S2048x512 .bf16 := iblk m c 2 t
/-- Window 3's block at a point. -/
abbrev b3 (c : Dev nD) (t : Fin grid0.N) : Vec F S2048x512 .bf16 := iblk m c 3 t
/-- Window 4's block at a point. -/
abbrev b4 (c : Dev nD) (t : Fin grid0.N) : Vec F S512x2048 .bf16 := iblk m c 4 t
/-- Window 5's block at a point. -/
abbrev b5 (c : Dev nD) (t : Fin grid0.N) : Vec F S1x9x2048 .f32 := iblk m c 5 t
/-- Window 6's block at a point. -/
abbrev b6 (c : Dev nD) (t : Fin grid0.N) : Vec F S1x2048 .f32 := iblk m c 6 t
/-- Window 7's block at a point. -/
abbrev b7 (c : Dev nD) (t : Fin grid0.N) : Vec F S16x11008 .f32 := iblk m c 7 t
/-- Window 8's block at a point. -/
abbrev b8 (c : Dev nD) (t : Fin grid0.N) : Vec F S64x2048 .f32 := iblk m c 8 t
/-- Window 9's block at a point. -/
abbrev b9 (c : Dev nD) (t : Fin grid0.N) : Vec F S16x2048 .f32 := iblk m c 9 t
/-- Window 10's block at a point. -/
abbrev b10 (c : Dev nD) (t : Fin grid0.N) : Vec F S16x2048 .f32 := iblk m c 10 t
/-- Window 11's block at a point. -/
abbrev b11 (c : Dev nD) (t : Fin grid0.N) : Vec F S16x4096 .f32 := iblk m c 11 t
/-- Window 12's block at a point. -/
abbrev b12 (c : Dev nD) (t : Fin grid0.N) : Vec F S96x2048 .f32 := iblk m c 12 t

/-- The accumulator after one more point: at the points of the sixteen row tiles the products of the hidden block are added. -/
def step (c : Dev nD) (t : Fin grid0.N) (X : Vec F S2x1024x2048 .f32) : Vec F S2x1024x2048 .f32 :=
  if t.val < 176 then mm (BitVec.ofNat 32 (grid0.coords t 1).val) (slot t) (b0 m c t) (b2 m c t) (b3 m c t) (b4 m c t) X else X

/-- The accumulator when `n` points are done. -/
def acc (c : Dev nD) : ℕ → Vec F S2x1024x2048 .f32
  | 0 => k0_pay46
  | n + 1 => if h : n < grid0.N then step m c ⟨n, h⟩ (acc c n) else acc c n

theorem acc_succ (c : Dev nD) (t : Fin grid0.N) : acc m c (t.val + 1) = step m c t (acc m c t.val) := by
  show (if h : t.val < grid0.N then step m c ⟨t.val, h⟩ (acc m c t.val) else acc m c t.val) = _
  rw [dif_pos t.isLt]

/-- The new rows in their staging buffer after the point. -/
def o13 (c : Dev nD) (t : Fin grid0.N) : Vec F S128x2048 .f32 := epx (oslot (lastPt t)) (chunk (lastPt t)) (b1 m c (lastPt t)) (b5 m c (lastPt t)) (acc m c (lastPt t).val)
/-- Their modulated norm in its staging buffer after the point. -/
def o14 (c : Dev nD) (t : Fin grid0.N) : Vec F S128x2048 .bf16 := eph (oslot (lastPt t)) (chunk (lastPt t)) (b1 m c (lastPt t)) (b5 m c (lastPt t)) (b6 m c (lastPt t)) (acc m c (lastPt t).val)
/-- The weight block in the staging buffer of window 15 after the point. -/
def o15 (c : Dev nD) (t : Fin grid0.N) : Vec F S16x5632 .bf16 := cast15 (b7 m c (lastC t))
/-- The weight block in the staging buffer of window 16 after the point. -/
def o16 (c : Dev nD) (t : Fin grid0.N) : Vec F S16x5632 .bf16 := cast16 (b7 m c (lastC t))
/-- The weight block in the staging buffer of window 17 after the point. -/
def o17 (c : Dev nD) (t : Fin grid0.N) : Vec F S64x2048 .bf16 := cast17 (BitVec.ofNat 32 (grid0.coords (lastC t) 0).val) (BitVec.ofNat 32 (grid0.coords (lastC t) 1).val) (b8 m c (lastC t))
/-- The weight block in the staging buffer of window 18 after the point. -/
def o18 (c : Dev nD) (t : Fin grid0.N) : Vec F S16x2048 .bf16 := cast18 (b9 m c (lastC t))
/-- The weight block in the staging buffer of window 19 after the point. -/
def o19 (c : Dev nD) (t : Fin grid0.N) : Vec F S16x2048 .bf16 := cast19 (b10 m c (lastC t))
/-- The weight block in the staging buffer of window 20 after the point. -/
def o20 (c : Dev nD) (t : Fin grid0.N) : Vec F S16x4096 .bf16 := cast20 (b11 m c (lastC t))
/-- The weight block in the staging buffer of window 21 after the point. -/
def o21 (c : Dev nD) (t : Fin grid0.N) : Vec F S96x2048 .bf16 := cast21 (b12 m c (lastC t))

/-- Between points: the accumulator holds `acc` (before the first point anything), and the generator register rests. -/
def PhiS (c : Dev nD) (n : ℕ) (h : n ≤ cfg0.N) : sProp 𝕄 :=
  iprop((∃ X, ⌜n ≠ 0 → X = acc m c n⌝ ∗ owns (c : Thread nD τ) (Memref.whole cc0_scratch0) fullShare X) ∗ ∃ r, prngReg c r)

/-- The proof data of the launch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => o13 m c t
    | ⟨14, _⟩ => o14 m c t
    | ⟨15, _⟩ => o15 m c t
    | ⟨16, _⟩ => o16 m c t
    | ⟨17, _⟩ => o17 m c t
    | ⟨18, _⟩ => o18 m c t
    | ⟨19, _⟩ => o19 m c t
    | ⟨20, _⟩ => o20 m c t
    | ⟨21, _⟩ => o21 m c t
    | ⟨_ + 22, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]
theorem Phi_castSucc (c : Dev nD) (t : Fin cfg0.N) : (dats m 0 c).Φ t.castSucc = PhiS m c t.val (Nat.le_of_lt t.isLt) := by
  dsimp only [dats]; exact Pipeline.Dat.Φ_castSucc (PhiS m c) t
theorem Phi_succ (c : Dev nD) (t : Fin cfg0.N) : (dats m 0 c).Φ t.succ = PhiS m c (t.val + 1) t.isLt := by dsimp only [dats]; rfl
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = o13 m c t := by dsimp only [dats]
theorem after14 (c : Dev nD) (t : Fin cfg0.N) : (dats m 0 c).after 14 t = o14 m c t := by dsimp only [dats]
theorem after15 (c : Dev nD) (t : Fin cfg0.N) : (dats m 0 c).after 15 t = o15 m c t := by dsimp only [dats]
theorem after16 (c : Dev nD) (t : Fin cfg0.N) : (dats m 0 c).after 16 t = o16 m c t := by dsimp only [dats]
theorem after17 (c : Dev nD) (t : Fin cfg0.N) : (dats m 0 c).after 17 t = o17 m c t := by dsimp only [dats]
theorem after18 (c : Dev nD) (t : Fin cfg0.N) : (dats m 0 c).after 18 t = o18 m c t := by dsimp only [dats]
theorem after19 (c : Dev nD) (t : Fin cfg0.N) : (dats m 0 c).after 19 t = o19 m c t := by dsimp only [dats]
theorem after20 (c : Dev nD) (t : Fin cfg0.N) : (dats m 0 c).after 20 t = o20 m c t := by dsimp only [dats]
theorem after21 (c : Dev nD) (t : Fin cfg0.N) : (dats m 0 c).after 21 t = o21 m c t := by dsimp only [dats]
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d
theorem before7 (c : Dev nD) (t : Fin cfg0.N) (d) : (dats m 0 c).before 7 t d = iblk m c 7 t := before0_7_of m (dats m 0 c) (A_eq m c 7) (after7 m c) t d
theorem before8 (c : Dev nD) (t : Fin cfg0.N) (d) : (dats m 0 c).before 8 t d = iblk m c 8 t := before0_8_of m (dats m 0 c) (A_eq m c 8) (after8 m c) t d
theorem before9 (c : Dev nD) (t : Fin cfg0.N) (d) : (dats m 0 c).before 9 t d = iblk m c 9 t := before0_9_of m (dats m 0 c) (A_eq m c 9) (after9 m c) t d
theorem before10 (c : Dev nD) (t : Fin cfg0.N) (d) : (dats m 0 c).before 10 t d = iblk m c 10 t := before0_10_of m (dats m 0 c) (A_eq m c 10) (after10 m c) t d
theorem before11 (c : Dev nD) (t : Fin cfg0.N) (d) : (dats m 0 c).before 11 t d = iblk m c 11 t := before0_11_of m (dats m 0 c) (A_eq m c 11) (after11 m c) t d
theorem before12 (c : Dev nD) (t : Fin cfg0.N) (d) : (dats m 0 c).before 12 t d = iblk m c 12 t := before0_12_of m (dats m 0 c) (A_eq m c 12) (after12 m c) t d

theorem acc_mm (c : Dev nD) (t : Fin grid0.N) (ht : t.val < 176) :
    acc m c (t.val + 1) = mm (BitVec.ofNat 32 (grid0.coords t 1).val) (slot t) (b0 m c t) (b2 m c t) (b3 m c t) (b4 m c t) (acc m c t.val) := by
  rw [acc_succ]; unfold step; rw [if_pos ht]

theorem acc_idle (c : Dev nD) (t : Fin grid0.N) (ht : ¬ t.val < 176) : acc m c (t.val + 1) = acc m c t.val := by
  rw [acc_succ]; unfold step; rw [if_neg ht]

theorem lastPt_lastPt (t : Fin grid0.N) : lastPt (lastPt t) = lastPt t := lastPt_self _ (by show (t.val - (t.val % 11 - 7)) % 11 < 8; omega)
theorem lastC_lastC (t : Fin grid0.N) : lastC (lastC t) = lastC t := lastC_self _ (by
  have hN : t.val < 187 := lt_of_lt_of_eq t.isLt N_0
  show min (t.val - (t.val % 11 - 7)) 172 < 176 ∧ min (t.val - (t.val % 11 - 7)) 172 % 11 < 8; omega)

/-- A staging buffer nothing is brought into still holds at `t` what the last point `u` that stored it left, if it was not
    written back since. -/
theorem before_run {c : Dev nD} (dat : Dat τ (Elt F) Unit ℕ (UR sig nD τ) ℕ cfg0 c) (w : Fin cfg0.W) (hfetch : ∀ u, (cfg0.win w).fetch u = false)
    (hclip : ∀ i a, (cfg0.win w).clip i a = none) (u t : Fin cfg0.N) (hut : u.val < t.val) (hlive : cfg0.idle w (cfg0.grid.coords u) = false)
    (hrun : ∀ j : Fin cfg0.N, u.val < j.val → j.val < t.val → cfg0.idle w (cfg0.grid.coords j) = true)
    (hfl : ∀ j : Fin cfg0.N, u.val ≤ j.val → j.val < t.val → (cfg0.win w).flush j = false) (d) : dat.before w t d = dat.after w u := by
  rw [Dat.before_idle_run dat w hfetch d (t.val - u.val - 1) t (by omega) (fun j h1 h2 => ⟨hrun j (by omega) h2, hfl j (by omega) h2⟩)]
  rw [Dat.before_of_pos dat w _ (by show t.val - (t.val - u.val - 1) ≠ 0; omega) (hfetch _) d]
  have e : (⟨t.val - (t.val - u.val - 1) - 1, Nat.lt_of_le_of_lt (Nat.sub_le _ _) (Nat.lt_of_le_of_lt (Nat.sub_le _ _) t.isLt)⟩ : Fin cfg0.N) = u :=
    Fin.ext (by show t.val - (t.val - u.val - 1) - 1 = u.val; omega)
  refine (if_neg ?_).trans ?_
  · have := hfl u (le_refl _) hut
    rw [← e] at this
    exact fun h => Bool.false_ne_true (this.symm.trans h)
  · refine (congrArg (fun v => dat.left w v d) e).trans ?_
    unfold Dat.left
    rw [hlive]
    show dat.kept w u d = _
    unfold Dat.kept
    exact (Pipeline.fill_of_clip_none (cfg := cfg0) w _ (fun a => hclip _ a) d (dat.after w u) _).trans (Window.fill_cut _ _ _)

/-- At a point that does not store it, a staging buffer is left as it was found. -/
theorem leaves_idle {c : Dev nD} (dat : Dat τ (Elt F) Unit ℕ (UR sig nD τ) ℕ cfg0 c) (w : Fin cfg0.W) (t : Fin cfg0.N)
    (hi : cfg0.idle w (cfg0.grid.coords t) = true) (hb : (cfg0.win w).flush t = true → ∀ d, dat.before w t d = dat.after w t) (d) :
    owns (c : Thread nD τ) ((cfg0.win w).stage (cfg0.slots t w)) fullShare (dat.before w t d) ⊢ dat.leavesExact w t := by
  cases hf : (cfg0.win w).flush t with
  | false => rw [Dat.leavesExact_idle _ w t hi hf]; iintro H; iexists d; iexact H
  | true =>
    unfold Dat.leavesExact
    rw [hi, hf, hb hf d]

/-- At a point that stores it, with what was stored. -/
theorem leaves_live {c : Dev nD} (dat : Dat τ (Elt F) Unit ℕ (UR sig nD τ) ℕ cfg0 c) (w : Fin cfg0.W) (t : Fin cfg0.N)
    (hi : cfg0.idle w (cfg0.grid.coords t) = false) :
    owns (c : Thread nD τ) ((cfg0.win w).stage (cfg0.slots t w)) fullShare (dat.after w t) ⊢ dat.leavesExact w t := by
  unfold Dat.leavesExact
  rw [hi]

theorem o13_last (c : Dev nD) (t : Fin grid0.N) : o13 m c (lastPt t) = o13 m c t := by unfold o13; rw [lastPt_lastPt]
theorem o13_self (c : Dev nD) (t : Fin grid0.N) (h : 11 ≤ t.val ∧ t.val % 11 < 8) : o13 m c t = epx (oslot t) (chunk t) (b1 m c t) (b5 m c t) (acc m c t.val) := by unfold o13; rw [lastPt_self t h.2]
theorem live13 (c : Dev nD) (t : Fin cfg0.N) (h : 11 ≤ t.val ∧ t.val % 11 < 8) :
    owns (c : Thread nD τ) (st0_13 t) fullShare (epx (oslot t) (chunk t) (b1 m c t) (b5 m c t) (acc m c t.val)) ⊢ (dats m 0 c).leavesExact 13 t := by
  have hi : cfg0.idle 13 (cfg0.grid.coords t) = false := by
    refine (idle13 t).trans ?_
    rw [← Bool.decide_and, decide_eq_true h]; rfl
  rw [← o13_self m c t h, ← after13]
  exact leaves_live (dats m 0 c) 13 t hi
theorem rest13 (c : Dev nD) (t : Fin cfg0.N) (h : ¬ (11 ≤ t.val ∧ t.val % 11 < 8)) (d) :
    owns (c : Thread nD τ) (st0_13 t) fullShare ((dats m 0 c).before 13 t d) ⊢ (dats m 0 c).leavesExact 13 t := by
  have hN : t.val < 187 := lt_of_lt_of_eq t.isLt N_0
  have hi : cfg0.idle 13 (cfg0.grid.coords t) = true := by
    refine (idle13 t).trans ?_
    rw [← Bool.decide_and, decide_eq_false h]; rfl
  refine leaves_idle (dats m 0 c) 13 t hi (fun hf d => ?_) d
  have hf' := (flush13 t).symm.trans hf
  simp only [Bool.or_eq_true, Bool.and_eq_true, decide_eq_true_eq] at hf'
  refine (before_run (dats m 0 c) 13 ((cfg0.win 13).fetch_out rfl) (fun _ _ => rfl) (lastPt t) t (by show t.val - (t.val % 11 - 7) < t.val; omega) ?_ (fun j h1 h2 => ?_) (fun j h1 h2 => ?_) d).trans ?_
  · refine (idle13 _).trans ?_
    rw [← Bool.decide_and, decide_eq_true (by show 11 ≤ t.val - (t.val % 11 - 7) ∧ (t.val - (t.val % 11 - 7)) % 11 < 8; omega)]; rfl
  · refine (idle13 _).trans ?_
    replace h1 : t.val - (t.val % 11 - 7) < j.val := h1
    rw [← Bool.decide_and, decide_eq_false (by omega)]; rfl
  · refine (flush13 _).trans ?_
    replace h1 : t.val - (t.val % 11 - 7) ≤ j.val := h1
    have hn : ¬ ((11 ≤ j.val) ∧ (j.val % 11 < 7 ∨ j.val % 11 = 10) ∨ j.val = 186) := by
      omega
    refine Bool.eq_false_iff.mpr (fun hh => hn ?_)
    simpa only [Bool.or_eq_true, Bool.and_eq_true, decide_eq_true_eq] using hh
  · rw [after13, after13]; exact o13_last m c t

theorem o14_last (c : Dev nD) (t : Fin grid0.N) : o14 m c (lastPt t) = o14 m c t := by unfold o14; rw [lastPt_lastPt]
theorem o14_self (c : Dev nD) (t : Fin grid0.N) (h : 11 ≤ t.val ∧ t.val % 11 < 8) : o14 m c t = eph (oslot t) (chunk t) (b1 m c t) (b5 m c t) (b6 m c t) (acc m c t.val) := by unfold o14; rw [lastPt_self t h.2]
theorem live14 (c : Dev nD) (t : Fin cfg0.N) (h : 11 ≤ t.val ∧ t.val % 11 < 8) :
    owns (c : Thread nD τ) (st0_14 t) fullShare (eph (oslot t) (chunk t) (b1 m c t) (b5 m c t) (b6 m c t) (acc m c t.val)) ⊢ (dats m 0 c).leavesExact 14 t := by
  have hi : cfg0.idle 14 (cfg0.grid.coords t) = false := by
    refine (idle14 t).trans ?_
    rw [← Bool.decide_and, decide_eq_true h]; rfl
  rw [← o14_self m c t h, ← after14]
  exact leaves_live (dats m 0 c) 14 t hi
theorem rest14 (c : Dev nD) (t : Fin cfg0.N) (h : ¬ (11 ≤ t.val ∧ t.val % 11 < 8)) (d) :
    owns (c : Thread nD τ) (st0_14 t) fullShare ((dats m 0 c).before 14 t d) ⊢ (dats m 0 c).leavesExact 14 t := by
  have hN : t.val < 187 := lt_of_lt_of_eq t.isLt N_0
  have hi : cfg0.idle 14 (cfg0.grid.coords t) = true := by
    refine (idle14 t).trans ?_
    rw [← Bool.decide_and, decide_eq_false h]; rfl
  refine leaves_idle (dats m 0 c) 14 t hi (fun hf d => ?_) d
  have hf' := (flush14 t).symm.trans hf
  simp only [Bool.or_eq_true, Bool.and_eq_true, decide_eq_true_eq] at hf'
  refine (before_run (dats m 0 c) 14 ((cfg0.win 14).fetch_out rfl) (fun _ _ => rfl) (lastPt t) t (by show t.val - (t.val % 11 - 7) < t.val; omega) ?_ (fun j h1 h2 => ?_) (fun j h1 h2 => ?_) d).trans ?_
  · refine (idle14 _).trans ?_
    rw [← Bool.decide_and, decide_eq_true (by show 11 ≤ t.val - (t.val % 11 - 7) ∧ (t.val - (t.val % 11 - 7)) % 11 < 8; omega)]; rfl
  · refine (idle14 _).trans ?_
    replace h1 : t.val - (t.val % 11 - 7) < j.val := h1
    rw [← Bool.decide_and, decide_eq_false (by omega)]; rfl
  · refine (flush14 _).trans ?_
    replace h1 : t.val - (t.val % 11 - 7) ≤ j.val := h1
    have hn : ¬ ((11 ≤ j.val) ∧ (j.val % 11 < 7 ∨ j.val % 11 = 10) ∨ j.val = 186) := by
      omega
    refine Bool.eq_false_iff.mpr (fun hh => hn ?_)
    simpa only [Bool.or_eq_true, Bool.and_eq_true, decide_eq_true_eq] using hh
  · rw [after14, after14]; exact o14_last m c t

theorem o15_last (c : Dev nD) (t : Fin grid0.N) : o15 m c (lastC t) = o15 m c t := by unfold o15; rw [lastC_lastC]
theorem o15_self (c : Dev nD) (t : Fin grid0.N) (h : t.val < 176 ∧ t.val % 11 < 8) : o15 m c t = cast15 (b7 m c t) := by unfold o15; rw [lastC_self t h]
theorem live15 (c : Dev nD) (t : Fin cfg0.N) (h : t.val < 176 ∧ t.val % 11 < 8) :
    owns (c : Thread nD τ) (st0_15 t) fullShare (cast15 (b7 m c t)) ⊢ (dats m 0 c).leavesExact 15 t := by
  have hi : cfg0.idle 15 (cfg0.grid.coords t) = false := by
    refine (idle15 t).trans ?_
    rw [← Bool.decide_and, decide_eq_true h]; rfl
  rw [← o15_self m c t h, ← after15]
  exact leaves_live (dats m 0 c) 15 t hi
theorem rest15 (c : Dev nD) (t : Fin cfg0.N) (h : ¬ (t.val < 176 ∧ t.val % 11 < 8)) (d) :
    owns (c : Thread nD τ) (st0_15 t) fullShare ((dats m 0 c).before 15 t d) ⊢ (dats m 0 c).leavesExact 15 t := by
  have hN : t.val < 187 := lt_of_lt_of_eq t.isLt N_0
  have hi : cfg0.idle 15 (cfg0.grid.coords t) = true := by
    refine (idle15 t).trans ?_
    rw [← Bool.decide_and, decide_eq_false h]; rfl
  refine leaves_idle (dats m 0 c) 15 t hi (fun hf d => ?_) d
  have hf' := (flush15 t).symm.trans hf
  simp only [Bool.or_eq_true, Bool.and_eq_true, decide_eq_true_eq] at hf'
  refine (before_run (dats m 0 c) 15 ((cfg0.win 15).fetch_out rfl) (fun _ _ => rfl) (lastC t) t (by show min (t.val - (t.val % 11 - 7)) 172 < t.val; omega) ?_ (fun j h1 h2 => ?_) (fun j h1 h2 => ?_) d).trans ?_
  · refine (idle15 _).trans ?_
    rw [← Bool.decide_and, decide_eq_true (by show min (t.val - (t.val % 11 - 7)) 172 < 176 ∧ (min (t.val - (t.val % 11 - 7)) 172) % 11 < 8; omega)]; rfl
  · refine (idle15 _).trans ?_
    replace h1 : min (t.val - (t.val % 11 - 7)) 172 < j.val := h1
    rw [← Bool.decide_and, decide_eq_false (by omega)]; rfl
  · refine (flush15 _).trans ?_
    replace h1 : min (t.val - (t.val % 11 - 7)) 172 ≤ j.val := h1
    have hn : ¬ ((j.val < 176 ∧ cchunk j < 127) ∧ (j.val % 11 < 7 ∨ j.val % 11 = 10) ∨ j.val = 186) := by
      unfold cchunk; omega
    refine Bool.eq_false_iff.mpr (fun hh => hn ?_)
    simpa only [Bool.or_eq_true, Bool.and_eq_true, decide_eq_true_eq] using hh
  · rw [after15, after15]; exact o15_last m c t

theorem o16_last (c : Dev nD) (t : Fin grid0.N) : o16 m c (lastC t) = o16 m c t := by unfold o16; rw [lastC_lastC]
theorem o16_self (c : Dev nD) (t : Fin grid0.N) (h : t.val < 176 ∧ t.val % 11 < 8) : o16 m c t = cast16 (b7 m c t) := by unfold o16; rw [lastC_self t h]
theorem live16 (c : Dev nD) (t : Fin cfg0.N) (h : t.val < 176 ∧ t.val % 11 < 8) :
    owns (c : Thread nD τ) (st0_16 t) fullShare (cast16 (b7 m c t)) ⊢ (dats m 0 c).leavesExact 16 t := by
  have hi : cfg0.idle 16 (cfg0.grid.coords t) = false := by
    refine (idle16 t).trans ?_
    rw [← Bool.decide_and, decide_eq_true h]; rfl
  rw [← o16_self m c t h, ← after16]
  exact leaves_live (dats m 0 c) 16 t hi
theorem rest16 (c : Dev nD) (t : Fin cfg0.N) (h : ¬ (t.val < 176 ∧ t.val % 11 < 8)) (d) :
    owns (c : Thread nD τ) (st0_16 t) fullShare ((dats m 0 c).before 16 t d) ⊢ (dats m 0 c).leavesExact 16 t := by
  have hN : t.val < 187 := lt_of_lt_of_eq t.isLt N_0
  have hi : cfg0.idle 16 (cfg0.grid.coords t) = true := by
    refine (idle16 t).trans ?_
    rw [← Bool.decide_and, decide_eq_false h]; rfl
  refine leaves_idle (dats m 0 c) 16 t hi (fun hf d => ?_) d
  have hf' := (flush16 t).symm.trans hf
  simp only [Bool.or_eq_true, Bool.and_eq_true, decide_eq_true_eq] at hf'
  refine (before_run (dats m 0 c) 16 ((cfg0.win 16).fetch_out rfl) (fun _ _ => rfl) (lastC t) t (by show min (t.val - (t.val % 11 - 7)) 172 < t.val; omega) ?_ (fun j h1 h2 => ?_) (fun j h1 h2 => ?_) d).trans ?_
  · refine (idle16 _).trans ?_
    rw [← Bool.decide_and, decide_eq_true (by show min (t.val - (t.val % 11 - 7)) 172 < 176 ∧ (min (t.val - (t.val % 11 - 7)) 172) % 11 < 8; omega)]; rfl
  · refine (idle16 _).trans ?_
    replace h1 : min (t.val - (t.val % 11 - 7)) 172 < j.val := h1
    rw [← Bool.decide_and, decide_eq_false (by omega)]; rfl
  · refine (flush16 _).trans ?_
    replace h1 : min (t.val - (t.val % 11 - 7)) 172 ≤ j.val := h1
    have hn : ¬ ((j.val < 176 ∧ cchunk j < 127) ∧ (j.val % 11 < 7 ∨ j.val % 11 = 10) ∨ j.val = 186) := by
      unfold cchunk; omega
    refine Bool.eq_false_iff.mpr (fun hh => hn ?_)
    simpa only [Bool.or_eq_true, Bool.and_eq_true, decide_eq_true_eq] using hh
  · rw [after16, after16]; exact o16_last m c t

theorem o17_last (c : Dev nD) (t : Fin grid0.N) : o17 m c (lastC t) = o17 m c t := by unfold o17; rw [lastC_lastC]
theorem o17_self (c : Dev nD) (t : Fin grid0.N) (h : t.val < 176 ∧ t.val % 11 < 8) : o17 m c t = cast17 (BitVec.ofNat 32 (grid0.coords t 0).val) (BitVec.ofNat 32 (grid0.coords t 1).val) (b8 m c t) := by unfold o17; rw [lastC_self t h]
theorem live17 (c : Dev nD) (t : Fin cfg0.N) (h : t.val < 176 ∧ t.val % 11 < 8) :
    owns (c : Thread nD τ) (st0_17 t) fullShare (cast17 (BitVec.ofNat 32 (grid0.coords t 0).val) (BitVec.ofNat 32 (grid0.coords t 1).val) (b8 m c t)) ⊢ (dats m 0 c).leavesExact 17 t := by
  have hi : cfg0.idle 17 (cfg0.grid.coords t) = false := by
    refine (idle17 t).trans ?_
    rw [← Bool.decide_and, decide_eq_true h]; rfl
  rw [← o17_self m c t h, ← after17]
  exact leaves_live (dats m 0 c) 17 t hi
theorem rest17 (c : Dev nD) (t : Fin cfg0.N) (h : ¬ (t.val < 176 ∧ t.val % 11 < 8)) (d) :
    owns (c : Thread nD τ) (st0_17 t) fullShare ((dats m 0 c).before 17 t d) ⊢ (dats m 0 c).leavesExact 17 t := by
  have hN : t.val < 187 := lt_of_lt_of_eq t.isLt N_0
  have hi : cfg0.idle 17 (cfg0.grid.coords t) = true := by
    refine (idle17 t).trans ?_
    rw [← Bool.decide_and, decide_eq_false h]; rfl
  refine leaves_idle (dats m 0 c) 17 t hi (fun hf d => ?_) d
  have hf' := (flush17 t).symm.trans hf
  simp only [Bool.or_eq_true, Bool.and_eq_true, decide_eq_true_eq] at hf'
  refine (before_run (dats m 0 c) 17 ((cfg0.win 17).fetch_out rfl) (fun _ _ => rfl) (lastC t) t (by show min (t.val - (t.val % 11 - 7)) 172 < t.val; omega) ?_ (fun j h1 h2 => ?_) (fun j h1 h2 => ?_) d).trans ?_
  · refine (idle17 _).trans ?_
    rw [← Bool.decide_and, decide_eq_true (by show min (t.val - (t.val % 11 - 7)) 172 < 176 ∧ (min (t.val - (t.val % 11 - 7)) 172) % 11 < 8; omega)]; rfl
  · refine (idle17 _).trans ?_
    replace h1 : min (t.val - (t.val % 11 - 7)) 172 < j.val := h1
    rw [← Bool.decide_and, decide_eq_false (by omega)]; rfl
  · refine (flush17 _).trans ?_
    replace h1 : min (t.val - (t.val % 11 - 7)) 172 ≤ j.val := h1
    have hn : ¬ ((j.val < 176 ∧ cchunk j < 87) ∧ (j.val % 11 < 7 ∨ j.val % 11 = 10) ∨ j.val = 186) := by
      unfold cchunk; omega
    refine Bool.eq_false_iff.mpr (fun hh => hn ?_)
    simpa only [Bool.or_eq_true, Bool.and_eq_true, decide_eq_true_eq] using hh
  · rw [after17, after17]; exact o17_last m c t

theorem o18_last (c : Dev nD) (t : Fin grid0.N) : o18 m c (lastC t) = o18 m c t := by unfold o18; rw [lastC_lastC]
theorem o18_self (c : Dev nD) (t : Fin grid0.N) (h : t.val < 176 ∧ t.val % 11 < 8) : o18 m c t = cast18 (b9 m c t) := by unfold o18; rw [lastC_self t h]
theorem live18 (c : Dev nD) (t : Fin cfg0.N) (h : t.val < 176 ∧ t.val % 11 < 8) :
    owns (c : Thread nD τ) (st0_18 t) fullShare (cast18 (b9 m c t)) ⊢ (dats m 0 c).leavesExact 18 t := by
  have hi : cfg0.idle 18 (cfg0.grid.coords t) = false := by
    refine (idle18 t).trans ?_
    rw [← Bool.decide_and, decide_eq_true h]; rfl
  rw [← o18_self m c t h, ← after18]
  exact leaves_live (dats m 0 c) 18 t hi
theorem rest18 (c : Dev nD) (t : Fin cfg0.N) (h : ¬ (t.val < 176 ∧ t.val % 11 < 8)) (d) :
    owns (c : Thread nD τ) (st0_18 t) fullShare ((dats m 0 c).before 18 t d) ⊢ (dats m 0 c).leavesExact 18 t := by
  have hN : t.val < 187 := lt_of_lt_of_eq t.isLt N_0
  have hi : cfg0.idle 18 (cfg0.grid.coords t) = true := by
    refine (idle18 t).trans ?_
    rw [← Bool.decide_and, decide_eq_false h]; rfl
  refine leaves_idle (dats m 0 c) 18 t hi (fun hf d => ?_) d
  have hf' := (flush18 t).symm.trans hf
  simp only [Bool.or_eq_true, Bool.and_eq_true, decide_eq_true_eq] at hf'
  refine (before_run (dats m 0 c) 18 ((cfg0.win 18).fetch_out rfl) (fun _ _ => rfl) (lastC t) t (by show min (t.val - (t.val % 11 - 7)) 172 < t.val; omega) ?_ (fun j h1 h2 => ?_) (fun j h1 h2 => ?_) d).trans ?_
  · refine (idle18 _).trans ?_
    rw [← Bool.decide_and, decide_eq_true (by show min (t.val - (t.val % 11 - 7)) 172 < 176 ∧ (min (t.val - (t.val % 11 - 7)) 172) % 11 < 8; omega)]; rfl
  · refine (idle18 _).trans ?_
    replace h1 : min (t.val - (t.val % 11 - 7)) 172 < j.val := h1
    rw [← Bool.decide_and, decide_eq_false (by omega)]; rfl
  · refine (flush18 _).trans ?_
    replace h1 : min (t.val - (t.val % 11 - 7)) 172 ≤ j.val := h1
    have hn : ¬ ((j.val < 176 ∧ cchunk j < 127) ∧ (j.val % 11 < 7 ∨ j.val % 11 = 10) ∨ j.val = 186) := by
      unfold cchunk; omega
    refine Bool.eq_false_iff.mpr (fun hh => hn ?_)
    simpa only [Bool.or_eq_true, Bool.and_eq_true, decide_eq_true_eq] using hh
  · rw [after18, after18]; exact o18_last m c t

theorem o19_last (c : Dev nD) (t : Fin grid0.N) : o19 m c (lastC t) = o19 m c t := by unfold o19; rw [lastC_lastC]
theorem o19_self (c : Dev nD) (t : Fin grid0.N) (h : t.val < 176 ∧ t.val % 11 < 8) : o19 m c t = cast19 (b10 m c t) := by unfold o19; rw [lastC_self t h]
theorem live19 (c : Dev nD) (t : Fin cfg0.N) (h : t.val < 176 ∧ t.val % 11 < 8) :
    owns (c : Thread nD τ) (st0_19 t) fullShare (cast19 (b10 m c t)) ⊢ (dats m 0 c).leavesExact 19 t := by
  have hi : cfg0.idle 19 (cfg0.grid.coords t) = false := by
    refine (idle19 t).trans ?_
    rw [← Bool.decide_and, decide_eq_true h]; rfl
  rw [← o19_self m c t h, ← after19]
  exact leaves_live (dats m 0 c) 19 t hi
theorem rest19 (c : Dev nD) (t : Fin cfg0.N) (h : ¬ (t.val < 176 ∧ t.val % 11 < 8)) (d) :
    owns (c : Thread nD τ) (st0_19 t) fullShare ((dats m 0 c).before 19 t d) ⊢ (dats m 0 c).leavesExact 19 t := by
  have hN : t.val < 187 := lt_of_lt_of_eq t.isLt N_0
  have hi : cfg0.idle 19 (cfg0.grid.coords t) = true := by
    refine (idle19 t).trans ?_
    rw [← Bool.decide_and, decide_eq_false h]; rfl
  refine leaves_idle (dats m 0 c) 19 t hi (fun hf d => ?_) d
  have hf' := (flush19 t).symm.trans hf
  simp only [Bool.or_eq_true, Bool.and_eq_true, decide_eq_true_eq] at hf'
  refine (before_run (dats m 0 c) 19 ((cfg0.win 19).fetch_out rfl) (fun _ _ => rfl) (lastC t) t (by show min (t.val - (t.val % 11 - 7)) 172 < t.val; omega) ?_ (fun j h1 h2 => ?_) (fun j h1 h2 => ?_) d).trans ?_
  · refine (idle19 _).trans ?_
    rw [← Bool.decide_and, decide_eq_true (by show min (t.val - (t.val % 11 - 7)) 172 < 176 ∧ (min (t.val - (t.val % 11 - 7)) 172) % 11 < 8; omega)]; rfl
  · refine (idle19 _).trans ?_
    replace h1 : min (t.val - (t.val % 11 - 7)) 172 < j.val := h1
    rw [← Bool.decide_and, decide_eq_false (by omega)]; rfl
  · refine (flush19 _).trans ?_
    replace h1 : min (t.val - (t.val % 11 - 7)) 172 ≤ j.val := h1
    have hn : ¬ ((j.val < 176 ∧ cchunk j < 127) ∧ (j.val % 11 < 7 ∨ j.val % 11 = 10) ∨ j.val = 186) := by
      unfold cchunk; omega
    refine Bool.eq_false_iff.mpr (fun hh => hn ?_)
    simpa only [Bool.or_eq_true, Bool.and_eq_true, decide_eq_true_eq] using hh
  · rw [after19, after19]; exact o19_last m c t

theorem o20_last (c : Dev nD) (t : Fin grid0.N) : o20 m c (lastC t) = o20 m c t := by unfold o20; rw [lastC_lastC]
theorem o20_self (c : Dev nD) (t : Fin grid0.N) (h : t.val < 176 ∧ t.val % 11 < 8) : o20 m c t = cast20 (b11 m c t) := by unfold o20; rw [lastC_self t h]
theorem live20 (c : Dev nD) (t : Fin cfg0.N) (h : t.val < 176 ∧ t.val % 11 < 8) :
    owns (c : Thread nD τ) (st0_20 t) fullShare (cast20 (b11 m c t)) ⊢ (dats m 0 c).leavesExact 20 t := by
  have hi : cfg0.idle 20 (cfg0.grid.coords t) = false := by
    refine (idle20 t).trans ?_
    rw [← Bool.decide_and, decide_eq_true h]; rfl
  rw [← o20_self m c t h, ← after20]
  exact leaves_live (dats m 0 c) 20 t hi
theorem rest20 (c : Dev nD) (t : Fin cfg0.N) (h : ¬ (t.val < 176 ∧ t.val % 11 < 8)) (d) :
    owns (c : Thread nD τ) (st0_20 t) fullShare ((dats m 0 c).before 20 t d) ⊢ (dats m 0 c).leavesExact 20 t := by
  have hN : t.val < 187 := lt_of_lt_of_eq t.isLt N_0
  have hi : cfg0.idle 20 (cfg0.grid.coords t) = true := by
    refine (idle20 t).trans ?_
    rw [← Bool.decide_and, decide_eq_false h]; rfl
  refine leaves_idle (dats m 0 c) 20 t hi (fun hf d => ?_) d
  have hf' := (flush20 t).symm.trans hf
  simp only [Bool.or_eq_true, Bool.and_eq_true, decide_eq_true_eq] at hf'
  refine (before_run (dats m 0 c) 20 ((cfg0.win 20).fetch_out rfl) (fun _ _ => rfl) (lastC t) t (by show min (t.val - (t.val % 11 - 7)) 172 < t.val; omega) ?_ (fun j h1 h2 => ?_) (fun j h1 h2 => ?_) d).trans ?_
  · refine (idle20 _).trans ?_
    rw [← Bool.decide_and, decide_eq_true (by show min (t.val - (t.val % 11 - 7)) 172 < 176 ∧ (min (t.val - (t.val % 11 - 7)) 172) % 11 < 8; omega)]; rfl
  · refine (idle20 _).trans ?_
    replace h1 : min (t.val - (t.val % 11 - 7)) 172 < j.val := h1
    rw [← Bool.decide_and, decide_eq_false (by omega)]; rfl
  · refine (flush20 _).trans ?_
    replace h1 : min (t.val - (t.val % 11 - 7)) 172 ≤ j.val := h1
    have hn : ¬ ((j.val < 176 ∧ cchunk j < 63) ∧ (j.val % 11 < 7 ∨ j.val % 11 = 10) ∨ j.val = 186) := by
      unfold cchunk; omega
    refine Bool.eq_false_iff.mpr (fun hh => hn ?_)
    simpa only [Bool.or_eq_true, Bool.and_eq_true, decide_eq_true_eq] using hh
  · rw [after20, after20]; exact o20_last m c t

theorem o21_last (c : Dev nD) (t : Fin grid0.N) : o21 m c (lastC t) = o21 m c t := by unfold o21; rw [lastC_lastC]
theorem o21_self (c : Dev nD) (t : Fin grid0.N) (h : t.val < 176 ∧ t.val % 11 < 8) : o21 m c t = cast21 (b12 m c t) := by unfold o21; rw [lastC_self t h]
theorem live21 (c : Dev nD) (t : Fin cfg0.N) (h : t.val < 176 ∧ t.val % 11 < 8) :
    owns (c : Thread nD τ) (st0_21 t) fullShare (cast21 (b12 m c t)) ⊢ (dats m 0 c).leavesExact 21 t := by
  have hi : cfg0.idle 21 (cfg0.grid.coords t) = false := by
    refine (idle21 t).trans ?_
    rw [← Bool.decide_and, decide_eq_true h]; rfl
  rw [← o21_self m c t h, ← after21]
  exact leaves_live (dats m 0 c) 21 t hi
theorem rest21 (c : Dev nD) (t : Fin cfg0.N) (h : ¬ (t.val < 176 ∧ t.val % 11 < 8)) (d) :
    owns (c : Thread nD τ) (st0_21 t) fullShare ((dats m 0 c).before 21 t d) ⊢ (dats m 0 c).leavesExact 21 t := by
  have hN : t.val < 187 := lt_of_lt_of_eq t.isLt N_0
  have hi : cfg0.idle 21 (cfg0.grid.coords t) = true := by
    refine (idle21 t).trans ?_
    rw [← Bool.decide_and, decide_eq_false h]; rfl
  refine leaves_idle (dats m 0 c) 21 t hi (fun hf d => ?_) d
  have hf' := (flush21 t).symm.trans hf
  simp only [Bool.or_eq_true, Bool.and_eq_true, decide_eq_true_eq] at hf'
  refine (before_run (dats m 0 c) 21 ((cfg0.win 21).fetch_out rfl) (fun _ _ => rfl) (lastC t) t (by show min (t.val - (t.val % 11 - 7)) 172 < t.val; omega) ?_ (fun j h1 h2 => ?_) (fun j h1 h2 => ?_) d).trans ?_
  · refine (idle21 _).trans ?_
    rw [← Bool.decide_and, decide_eq_true (by show min (t.val - (t.val % 11 - 7)) 172 < 176 ∧ (min (t.val - (t.val % 11 - 7)) 172) % 11 < 8; omega)]; rfl
  · refine (idle21 _).trans ?_
    replace h1 : min (t.val - (t.val % 11 - 7)) 172 < j.val := h1
    rw [← Bool.decide_and, decide_eq_false (by omega)]; rfl
  · refine (flush21 _).trans ?_
    replace h1 : min (t.val - (t.val % 11 - 7)) 172 ≤ j.val := h1
    have hn : ¬ ((j.val < 176 ∧ cchunk j < 106) ∧ (j.val % 11 < 7 ∨ j.val % 11 = 10) ∨ j.val = 186) := by
      unfold cchunk; omega
    refine Bool.eq_false_iff.mpr (fun hh => hn ?_)
    simpa only [Bool.or_eq_true, Bool.and_eq_true, decide_eq_true_eq] using hh
  · rw [after21, after21]; exact o21_last m c t

/-- What the body is given at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t)

set_option maxHeartbeats 1600000 in
/-- The body at any point. (The raised limit is for carrying the buffers of twenty-two windows through the five cases.) -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12]
  rw [Phi_castSucc, Phi_succ, show (dats m 0 c).owesAt () t.succ = (dats m 0 c).owesAt () t.castSucc from rfl, after0, after1, after2, after3, after4, after5, after6, after7, after8, after9, after10, after11, after12]
  unfold PhiS
  have hN : t.val < 187 := lt_of_lt_of_eq t.isLt N_0
  iintro ⟨⟨⟨%X, %hX, HS⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  by_cases hA : t.val < 8
  · have hacc : acc m c (t.val + 1) = mm (BitVec.ofNat 32 (grid0.coords t 1).val) (slot t) (b0 m c t) (b2 m c t) (b3 m c t) (b4 m c t) (if w1 (grid0.coords t) = 1#1 then k0_pay46 else X) := by
      rw [acc_mm m c t (by omega)]
      congr 1
      by_cases h0 : t.val = 0
      · rw [if_pos ((w1_iff t).mpr h0), h0]; rfl
      · rw [if_neg (fun h => h0 ((w1_iff t).mp h)), hX h0]
    iapply (caseA c Set.univ (grid0.coords t) ((cond2_iff t).mpr (by omega)) (fun h => by have := (cond3_iff t).mp h; omega) (fun h => by have := (cond4_iff t).mp h; omega) (fun h => by have := (cond5_iff t).mp h; omega) (slot t) (oslot t) (chunk t) (off1_eq t) (off2_eq t) (st0_0 t) _ (st0_1 t) _ (st0_2 t) _ (st0_3 t) _ (st0_4 t) _ (st0_5 t) _ (st0_6 t) _ (st0_7 t) _ (st0_8 t) _ (st0_9 t) _ (st0_10 t) _ (st0_11 t) _ (st0_12 t) _ (st0_13 t) _ (st0_14 t) _ (st0_15 t) _ (st0_16 t) _ (st0_17 t) _ (st0_18 t) _ (st0_19 t) _ (st0_20 t) _ (st0_21 t) _ (b0 m c t) (b2 m c t) (b3 m c t) (b4 m c t) (b7 m c t) (b8 m c t) (b9 m c t) (b10 m c t) (b11 m c t) (b12 m c t) X _)
    isplitl [H0]; · iexact H0
    isplitl [H2]; · iexact H2
    isplitl [H3]; · iexact H3
    isplitl [H4]; · iexact H4
    isplitl [H7]; · iexact H7
    isplitl [H8]; · iexact H8
    isplitl [H9]; · iexact H9
    isplitl [H10]; · iexact H10
    isplitl [H11]; · iexact H11
    isplitl [H12]; · iexact H12
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [HS]; · iexact HS
    iintro ⟨H0, H2, H3, H4, H7, H8, H9, H10, H11, H12, H15, H16, H17, H18, H19, H20, H21, HS⟩
    isplitl [HS Hr]
    · isplitl [HS]
      · iexists _; isplitr
        · ipureintro; intro _; exact rfl
        · rw [hacc]; iexact HS
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iapply (rest13 m c t (by omega) d13); iexact H13
    isplitl [H14]; · iapply (rest14 m c t (by omega) d14); iexact H14
    isplitl [H15]; · iapply (live15 m c t (by omega)); iexact H15
    isplitl [H16]; · iapply (live16 m c t (by omega)); iexact H16
    isplitl [H17]; · iapply (live17 m c t (by omega)); iexact H17
    isplitl [H18]; · iapply (live18 m c t (by omega)); iexact H18
    isplitl [H19]; · iapply (live19 m c t (by omega)); iexact H19
    isplitl [H20]; · iapply (live20 m c t (by omega)); iexact H20
    iapply (live21 m c t (by omega)); iexact H21
  have h0 : t.val ≠ 0 := by omega
  obtain rfl := hX h0
  by_cases hT : t.val < 176
  · rw [acc_mm m c t hT]
    by_cases hD : 8 ≤ t.val % 11
    · iapply (caseD c Set.univ (grid0.coords t) (fun h => by have := (w1_iff t).mp h; omega) (fun h => by have := (cond2_iff t).mp h; omega) (fun h => by have := (cond3_iff t).mp h; omega) ((cond4_iff t).mpr (by omega)) (fun h => by have := (cond5_iff t).mp h; omega) (slot t) (oslot t) (chunk t) (off6_eq t) (off7_eq t) (st0_0 t) _ (st0_1 t) _ (st0_2 t) _ (st0_3 t) _ (st0_4 t) _ (st0_5 t) _ (st0_6 t) _ (st0_7 t) _ (st0_8 t) _ (st0_9 t) _ (st0_10 t) _ (st0_11 t) _ (st0_12 t) _ (st0_13 t) _ (st0_14 t) _ (st0_15 t) _ (st0_16 t) _ (st0_17 t) _ (st0_18 t) _ (st0_19 t) _ (st0_20 t) _ (st0_21 t) _ (b0 m c t) (b2 m c t) (b3 m c t) (b4 m c t) (acc m c t.val) _)
      isplitl [H0]; · iexact H0
      isplitl [H2]; · iexact H2
      isplitl [H3]; · iexact H3
      isplitl [H4]; · iexact H4
      isplitl [HS]; · iexact HS
      iintro ⟨H0, H2, H3, H4, HS⟩
      isplitl [HS Hr]
      · isplitl [HS]
        · iexists _; isplitr
          · ipureintro; intro _; exact rfl
          · iexact HS
        · iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iapply (rest13 m c t (by omega) d13); iexact H13
      isplitl [H14]; · iapply (rest14 m c t (by omega) d14); iexact H14
      isplitl [H15]; · iapply (rest15 m c t (by omega) d15); iexact H15
      isplitl [H16]; · iapply (rest16 m c t (by omega) d16); iexact H16
      isplitl [H17]; · iapply (rest17 m c t (by omega) d17); iexact H17
      isplitl [H18]; · iapply (rest18 m c t (by omega) d18); iexact H18
      isplitl [H19]; · iapply (rest19 m c t (by omega) d19); iexact H19
      isplitl [H20]; · iapply (rest20 m c t (by omega) d20); iexact H20
      iapply (rest21 m c t (by omega) d21); iexact H21
    · iapply (caseC c Set.univ (grid0.coords t) (fun h => by have := (w1_iff t).mp h; omega) (fun h => by have := (cond2_iff t).mp h; omega) ((cond3_iff t).mpr (by omega)) (fun h => by have := (cond4_iff t).mp h; omega) (fun h => by have := (cond5_iff t).mp h; omega) (slot t) (oslot t) (chunk t) (off3_eq t) (off4_eq t) (off5_eq t) (st0_0 t) _ (st0_1 t) _ (st0_2 t) _ (st0_3 t) _ (st0_4 t) _ (st0_5 t) _ (st0_6 t) _ (st0_7 t) _ (st0_8 t) _ (st0_9 t) _ (st0_10 t) _ (st0_11 t) _ (st0_12 t) _ (st0_13 t) _ (st0_14 t) _ (st0_15 t) _ (st0_16 t) _ (st0_17 t) _ (st0_18 t) _ (st0_19 t) _ (st0_20 t) _ (st0_21 t) _ (b0 m c t) (b1 m c t) (b2 m c t) (b3 m c t) (b4 m c t) (b5 m c t) (b6 m c t) (b7 m c t) (b8 m c t) (b9 m c t) (b10 m c t) (b11 m c t) (b12 m c t) (acc m c t.val) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [HS]; · iexact HS
      iintro ⟨H0, H1, H2, H3, H4, H5, H6, H7, H8, H9, H10, H11, H12, H13, H14, H15, H16, H17, H18, H19, H20, H21, HS⟩
      isplitl [HS Hr]
      · isplitl [HS]
        · iexists _; isplitr
          · ipureintro; intro _; exact rfl
          · iexact HS
        · iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iapply (live13 m c t (by omega)); iexact H13
      isplitl [H14]; · iapply (live14 m c t (by omega)); iexact H14
      isplitl [H15]; · iapply (live15 m c t (by omega)); iexact H15
      isplitl [H16]; · iapply (live16 m c t (by omega)); iexact H16
      isplitl [H17]; · iapply (live17 m c t (by omega)); iexact H17
      isplitl [H18]; · iapply (live18 m c t (by omega)); iexact H18
      isplitl [H19]; · iapply (live19 m c t (by omega)); iexact H19
      isplitl [H20]; · iapply (live20 m c t (by omega)); iexact H20
      iapply (live21 m c t (by omega)); iexact H21
  · rw [acc_idle m c t hT]
    by_cases hE : t.val % 11 < 8
    · iapply (caseE c Set.univ (grid0.coords t) (fun h => by have := (w1_iff t).mp h; omega) (fun h => by have := (cond2_iff t).mp h; omega) (fun h => by have := (cond3_iff t).mp h; omega) (fun h => by have := (cond4_iff t).mp h; omega) ((cond5_iff t).mpr (by omega)) (slot t) (oslot t) (chunk t) (off8_eq t) (st0_0 t) _ (st0_1 t) _ (st0_2 t) _ (st0_3 t) _ (st0_4 t) _ (st0_5 t) _ (st0_6 t) _ (st0_7 t) _ (st0_8 t) _ (st0_9 t) _ (st0_10 t) _ (st0_11 t) _ (st0_12 t) _ (st0_13 t) _ (st0_14 t) _ (st0_15 t) _ (st0_16 t) _ (st0_17 t) _ (st0_18 t) _ (st0_19 t) _ (st0_20 t) _ (st0_21 t) _ (b1 m c t) (b5 m c t) (b6 m c t) (acc m c t.val) _)
      isplitl [H1]; · iexact H1
      isplitl [H5]; · iexact H5
      isplitl [H6]; · iexact H6
      isplitl [H13]; · iexists _; iexact H13
      isplitl [H14]; · iexists _; iexact H14
      isplitl [HS]; · iexact HS
      iintro ⟨H1, H5, H6, H13, H14, HS⟩
      isplitl [HS Hr]
      · isplitl [HS]
        · iexists _; isplitr
          · ipureintro; intro _; exact rfl
          · iexact HS
        · iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iapply (live13 m c t (by omega)); iexact H13
      isplitl [H14]; · iapply (live14 m c t (by omega)); iexact H14
      isplitl [H15]; · iapply (rest15 m c t (by omega) d15); iexact H15
      isplitl [H16]; · iapply (rest16 m c t (by omega) d16); iexact H16
      isplitl [H17]; · iapply (rest17 m c t (by omega) d17); iexact H17
      isplitl [H18]; · iapply (rest18 m c t (by omega) d18); iexact H18
      isplitl [H19]; · iapply (rest19 m c t (by omega) d19); iexact H19
      isplitl [H20]; · iapply (rest20 m c t (by omega) d20); iexact H20
      iapply (rest21 m c t (by omega) d21); iexact H21
    · iapply (caseZ c Set.univ (grid0.coords t) (fun h => by have := (w1_iff t).mp h; omega) (fun h => by have := (cond2_iff t).mp h; omega) (fun h => by have := (cond3_iff t).mp h; omega) (fun h => by have := (cond4_iff t).mp h; omega) (fun h => by have := (cond5_iff t).mp h; omega) (slot t) (oslot t) (chunk t)  (st0_0 t) _ (st0_1 t) _ (st0_2 t) _ (st0_3 t) _ (st0_4 t) _ (st0_5 t) _ (st0_6 t) _ (st0_7 t) _ (st0_8 t) _ (st0_9 t) _ (st0_10 t) _ (st0_11 t) _ (st0_12 t) _ (st0_13 t) _ (st0_14 t) _ (st0_15 t) _ (st0_16 t) _ (st0_17 t) _ (st0_18 t) _ (st0_19 t) _ (st0_20 t) _ (st0_21 t) _  (acc m c t.val) _)
      isplitl [HS]; · iexact HS
      iintro HS
      isplitl [HS Hr]
      · isplitl [HS]
        · iexists _; isplitr
          · ipureintro; intro _; exact rfl
          · iexact HS
        · iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iapply (rest13 m c t (by omega) d13); iexact H13
      isplitl [H14]; · iapply (rest14 m c t (by omega) d14); iexact H14
      isplitl [H15]; · iapply (rest15 m c t (by omega) d15); iexact H15
      isplitl [H16]; · iapply (rest16 m c t (by omega) d16); iexact H16
      isplitl [H17]; · iapply (rest17 m c t (by omega) d17); iexact H17
      isplitl [H18]; · iapply (rest18 m c t (by omega) d18); iexact H18
      isplitl [H19]; · iapply (rest19 m c t (by omega) d19); iexact H19
      isplitl [H20]; · iapply (rest20 m c t (by omega) d20); iexact H20
      iapply (rest21 m c t (by omega) d21); iexact H21

/-- The body table's row at point `t`'s slots is the body. -/
theorem row (t : Fin cfg0.N) : defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

/-- What the launch hands over is the invariant before the first point. -/
theorem phi_in (c : Dev nD) : Pipeline.ΦA spec0 c ⊢ (dats (F := F) m 0 c).Φ 0 := by
  rw [show (dats (F := F) m 0 c).Φ 0 = PhiS m c 0 (Nat.zero_le _) from by dsimp only [dats]; rfl]
  unfold Pipeline.ΦA PhiS
  rw [scopedRest0_eq]
  iintro ⟨⟨%f, H⟩, Hr⟩
  isplitl [H]
  · iexists f; isplitr
    · ipureintro; intro h; exact absurd rfl h
    · rw [owns_whole]; iexact H
  · iexact Hr

/-- The invariant after the last point is what the launch gives back. -/
theorem phi_out (c : Dev nD) : (dats (F := F) m 0 c).Φ (Fin.last cfg0.N) ⊢ Pipeline.ΦA spec0 c := by
  rw [show (dats (F := F) m 0 c).Φ (Fin.last cfg0.N) = PhiS m c cfg0.N (le_refl _) from by dsimp only [dats]; rfl]
  unfold Pipeline.ΦA PhiS
  rw [scopedRest0_eq]
  iintro ⟨⟨%X, %hX, H⟩, Hr⟩
  isplitl [H]
  · iexists X; rw [← owns_whole]; iexact H
  · iexact Hr

set_option backward.isDefEq.respectTransparency.types false in
set_option maxHeartbeats 800000 in
/-- The run: it ends, the result is what the write-backs left, and every counter is zero. (The raised limit is for
    unifying with the region of 187 points and twenty-two windows.) -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main (hbody := fun c => (body_obligation m c).loose)
    (hshare := fun c => (dats m 0 c).share_full fun _ => rfl) (howed := fun _ _ => rfl) (V := V m) (hmain := hmain m Variants.none) (hA := A_eq m)
    (hin := phi_in m) (hout := phi_out m)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the run ends, the argument arrays are unchanged and every counter is zero. -/
theorem frame_post : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (dats m) (A_eq m) (run_main m ρ)) ((θ_run defs _ _).mono (fun _ h => h.2) (run_main_quiescent m ρ))

end Cert.Kernel7Ideal.Hand

end
-- ==== Proof.Ffn1Frame.lean ====
module

public import proofs.«01_k».proof.Defs
public import proofs.«01_k».proof.Proof.Ffn1Run
public import proofs.«01_k».proof.Proof.Gen.Kernel7

@[expose] public section

set_option maxRecDepth 16384

noncomputable section

namespace Cert.Ffn1

open Idealize.ShloMosaic Idealize.ShloMosaic.TcCoe

instance : Cert.Kernel7.Facts := Cert.Kernel7.Gen.facts
instance : Cert.Kernel7Ideal.Facts := Cert.Kernel7Ideal.Gen.facts

/-- `Kernel7Ideal` runs to its end on ideal numbers, leaves its arguments as they were and every counter at zero. -/
theorem frame_Kernel7Ideal : Cert.quiescent_Kernel7Ideal := fun m ρ _ =>
  Cert.Kernel7Ideal.Hand.frame_post (F := Ideal) m ρ

set_option maxHeartbeats 8000000 in
/-- The two programs' kernels are one text. (The raised limit is for the length of that text.) -/
theorem defs₀_eq : Cert.Kernel7.defs₀ (F := Bits) = Cert.Kernel7Ideal.defs₀ (F := Bits) := by
  unfold Cert.Kernel7.defs₀ Cert.Kernel7Ideal.defs₀
  refine congrArg Defs.onTc ?_
  funext l x
  match l, x with
  | ⟨0, _⟩, (t, s) => rfl
  | ⟨_ + 1, h⟩, _ => exact absurd h (Nat.not_lt.2 (Nat.le_add_left _ _))

set_option maxHeartbeats 8000000 in
/-- So are their body tables. (The raised limit is for the twenty-two windows.) -/
theorem defs_eq : Cert.Kernel7.defs (F := Bits) = Cert.Kernel7Ideal.defs (F := Bits) := by
  unfold Cert.Kernel7.defs Cert.Kernel7Ideal.defs
  rw [defs₀_eq]
  rfl

set_option maxHeartbeats 4000000 in
/-- `Kernel7` runs to its end on machine numbers, leaves its arguments as they were and every counter at zero: the two
    programs have one text, so the run above at machine numbers is its run. -/
theorem frame_Kernel7 : Cert.quiescent_Kernel7 := fun m ρ _ => by
  rw [defs_eq]
  exact Cert.Kernel7Ideal.Hand.frame_post (F := Bits) m ρ

end Cert.Ffn1

end
-- ==== Proof.Ffn1Spec.lean ====
/- The opening feed-forward block and the modulated norm that follows it, entry by entry: what the kernel's run and the reference's run are compared by. -/
module

public import proofs.«01_k».proof.Proof.FfnSpec

@[expose] public section

noncomputable section

namespace Cert.Spec

open Idealize.ShloMosaic Idealize.ShloMosaic.ValueIdx

variable (h x : (⟨3, ![2, 8192, 2048]⟩ : Shape).Idx → EReal) (w : (⟨3, ![1, 2048, 11008]⟩ : Shape).Idx → EReal)
  (wo : (⟨3, ![1, 5504, 2048]⟩ : Shape).Idx → EReal) (mods : (⟨2, ![2, 18432]⟩ : Shape).Idx → EReal)
  (nw : (⟨2, ![1, 2048]⟩ : Shape).Idx → EReal)

/-- Entry `d` of slab `s` of the modulation of the sequence row `r` belongs to. -/
def slab (s : Fin 9) (r : Fin 16384) (d : Fin 2048) : EReal := mods (ix2 ⟨r.val / 8192, by omega⟩ ⟨2048 * s.val + d.val, by omega⟩)

/-- The rows with half of the gated block added: the gate is the third slab of the modulation. -/
def ffn1Res (r : Fin 16384) (d : Fin 2048) : EReal :=
  x (hidx r d) + (Ideal.ofBits .f32 0x3F000000#32 * slab mods 2 r d) * ffnSum h w wo r d

/-- A row's norm, scaled by one more than the scale and shifted. -/
def modulated (R W scale shift : Fin 2048 → EReal) (d : Fin 2048) : EReal :=
  rms R W d * (Ideal.ofBits .f32 0x3F800000#32 + scale d) + shift d

/-- The second result: the norm of those rows, shifted by the fourth slab and scaled by the fifth. -/
def ffn1Out (r : Fin 16384) (d : Fin 2048) : EReal :=
  modulated (ffn1Res h x w wo mods r) (fun k => nw (ix2 0 k)) (slab mods 4 r) (slab mods 3 r) d

end Cert.Spec

end
-- ==== Proof.Ffn1Host.lean ====
/- The operands the opening feed-forward kernel is called with, entry by entry, from the arguments as launched. -/
module

public import proofs.«01_k».proof.Proof.Ffn1Run
public import proofs.«01_k».proof.Proof.Ffn1Spec
public import Idealize.ShloMosaic.Lib.StableHlo.Run
public import Idealize.ShloMosaic.Lib.KernelVsHost

@[expose] public section

noncomputable section

namespace Cert.Kernel7Ideal.Hand

open Cert.Kernel7Ideal Cert.Kernel7Ideal.Gen Idealize.ShloMosaic.ValueIdx Idealize.ShloMosaic.TcCoe Idealize.SL.Sem
open Idealize.ShloMosaic hiding ix1 ix2 ix3 addf_apply mulf_apply truncf_apply constant_apply

variable (m : (ℓ : Loc nD τ sig) → Buf (Elt Ideal) ℓ) (c : Dev nD)

/-- The hidden states as launched. -/
abbrev aH : (⟨3, ![2, 8192, 2048]⟩ : Shape).Idx → EReal := m ((c : Thread nD τ).loc main_arg0)
/-- The rows the block's output is added to, as launched. -/
abbrev aX : (⟨3, ![2, 8192, 2048]⟩ : Shape).Idx → EReal := m ((c : Thread nD τ).loc main_arg1)
/-- The block's input weights as launched. -/
abbrev aW : (⟨3, ![1, 2048, 11008]⟩ : Shape).Idx → EReal := m ((c : Thread nD τ).loc main_arg2)
/-- The block's output weights as launched. -/
abbrev aO : (⟨3, ![1, 5504, 2048]⟩ : Shape).Idx → EReal := m ((c : Thread nD τ).loc main_arg3)
/-- The modulation as launched. -/
abbrev aM : (⟨2, ![2, 18432]⟩ : Shape).Idx → EReal := m ((c : Thread nD τ).loc main_arg4)
/-- The norm's weights as launched. -/
abbrev aN : (⟨2, ![1, 2048]⟩ : Shape).Idx → EReal := m ((c : Thread nD τ).loc main_arg5)

/-- The value padded with, a converted integer zero, is zero. -/
theorem pad_zero (i : S_.Idx) : (sitofp (F := Ideal) .f32 (constantI S_ 32 0#32) : FVec Ideal S_ .f32) i = (0 : EReal) := by
  show ((((0#32 : BitVec 32).toInt : ℤ) : ℝ) : EReal) = 0
  simp

/-- Two sequences laid one after the other, at row `r` and column `k`. -/
theorem rows_apply (v : (⟨3, ![2, 8192, 2048]⟩ : Shape).Idx → EReal) (r : Fin 16384) (k : Fin 2048) :
    shapeCast S16384x2048 v shapeCasts_S2x8192x2048_S16384x2048 (ix2 r k) = v (Spec.hidx r k) := by
  refine shapeCast_apply _ _ _ _ ?_
  rw [Shape.rowMajor_val_three, Shape.rowMajor_val_two]
  show ((r.val / 8192) * 8192 + r.val % 8192) * 2048 + k.val = r.val * 2048 + k.val
  omega

theorem V_h (r : Fin 16384) (k : Fin 2048) : V m c main_v1 (ix2 r k) = aH m c (Spec.hidx r k) := by
  have e : (V m c main_v1 : S16384x2048.Idx → EReal)
      = truncf (F := Ideal) .bf16 (shapeCast S16384x2048 (aH m c) shapeCasts_S2x8192x2048_S16384x2048 : FVec Ideal S16384x2048 .f32) bitsLt_bf16_f32 := by
    unfold_abbrev_sides
    simp only [List.flatten_cons, List.flatten_nil, List.cons_append, List.nil_append, List.append_nil]
    after_results
    rfl
  rw [e, truncf_apply, rows_apply]

theorem V_x (r : Fin 16384) (k : Fin 2048) : V m c main_v2 (ix2 r k) = aX m c (Spec.hidx r k) := by
  have e : (V m c main_v2 : S16384x2048.Idx → EReal) = shapeCast S16384x2048 (aX m c) shapeCasts_S2x8192x2048_S16384x2048 := by
    unfold_abbrev_sides
    simp only [List.flatten_cons, List.flatten_nil, List.cons_append, List.nil_append, List.append_nil]
    after_results
    rfl
  rw [e, rows_apply]

/-- The input weights without their leading axis. -/
theorem w_apply (k : Fin 2048) (n : Fin 11008) :
    shapeCast S2048x11008 (aW m c) shapeCasts_S1x2048x11008_S2048x11008 (ix2 k n) = aW m c (ix3 0 k n) := by
  refine shapeCast_apply _ _ _ _ ?_
  rw [Shape.rowMajor_val_three, Shape.rowMajor_val_two]
  show (0 * 2048 + k.val) * 11008 + n.val = k.val * 11008 + n.val
  omega

/-- Columns padded on the right with zeros. -/
theorem padc_apply (v : S2048x5504.Idx → EReal) (z : S_.Idx → EReal) (hz : ∀ i, z i = 0) (k : Fin 2048) (n : Fin 5632) :
    pad S2048x5632 ![0, 0] ![0, 128] ![0, 0] v z pads_S2048x5504_S2048x5632_000_01280 h_S_ (ix2 k n)
      = if hn : n.val < 5504 then v (ix2 k ⟨n.val, hn⟩) else 0 := by
  by_cases hn : n.val < 5504
  · rw [dif_pos hn]
    refine pad_apply_of_inside _ _ _ _ _ _ _ _ (ix2 k ⟨n.val, hn⟩) fun a => ?_
    match a with
    | ⟨0, _⟩ => show k.val = 0 + k.val * (0 + 1); omega
    | ⟨1, _⟩ => show n.val = 0 + n.val * (0 + 1); omega
  · rw [dif_neg hn]
    refine (pad_apply_of_not_inside _ _ _ _ _ _ _ _ 1 ?_).trans (hz _)
    intro hh
    have : (n.val - 0) / (0 + 1) < 5504 := hh.2.2
    omega

theorem V_a (k : Fin 2048) (n : Fin 5632) :
    V m c main_v6 (ix2 k n) = if hn : n.val < 5504 then aW m c (ix3 0 k ⟨n.val, by omega⟩) else 0 := by
  have e : (V m c main_v6 : S2048x5632.Idx → EReal)
      = truncf (F := Ideal) .bf16 (pad S2048x5632 ![0, 0] ![0, 128] ![0, 0]
          (extractStridedSlice S2048x5504 ![0, 0] (shapeCast S2048x11008 (aW m c) shapeCasts_S1x2048x11008_S2048x11008) slices_S2048x11008_S2048x5504_0_0)
          (sitofp (F := Ideal) .f32 (constantI S_ 32 0#32)) pads_S2048x5504_S2048x5632_000_01280 h_S_ : FVec Ideal S2048x5632 .f32) bitsLt_bf16_f32 := by
    unfold_abbrev_sides
    simp only [List.flatten_cons, List.flatten_nil, List.cons_append, List.nil_append, List.append_nil]
    after_results
    rfl
  rw [e, truncf_apply, padc_apply _ _ pad_zero]
  refine dite_congr rfl (fun hn => ?_) (fun _ => rfl)
  rw [← w_apply]
  refine extractStridedSlice_apply _ _ _ _ _ fun a => ?_
  match a with
  | ⟨0, _⟩ => show k.val = 0 + k.val; omega
  | ⟨1, _⟩ => show n.val = 0 + n.val; omega

theorem V_b (k : Fin 2048) (n : Fin 5632) :
    V m c main_v10 (ix2 k n) = if hn : n.val < 5504 then aW m c (ix3 0 k ⟨5504 + n.val, by omega⟩) else 0 := by
  have e : (V m c main_v10 : S2048x5632.Idx → EReal)
      = truncf (F := Ideal) .bf16 (pad S2048x5632 ![0, 0] ![0, 128] ![0, 0]
          (extractStridedSlice S2048x5504 ![0, 5504] (shapeCast S2048x11008 (aW m c) shapeCasts_S1x2048x11008_S2048x11008) slices_S2048x11008_S2048x5504_0_5504)
          (sitofp (F := Ideal) .f32 (constantI S_ 32 0#32)) pads_S2048x5504_S2048x5632_000_01280 h_S_ : FVec Ideal S2048x5632 .f32) bitsLt_bf16_f32 := by
    unfold_abbrev_sides
    simp only [List.flatten_cons, List.flatten_nil, List.cons_append, List.nil_append, List.append_nil]
    after_results
    rfl
  rw [e, truncf_apply, padc_apply _ _ pad_zero]
  refine dite_congr rfl (fun hn => ?_) (fun _ => rfl)
  rw [← w_apply]
  refine extractStridedSlice_apply _ _ _ _ _ fun a => ?_
  match a with
  | ⟨0, _⟩ => show k.val = 0 + k.val; omega
  | ⟨1, _⟩ => show 5504 + n.val = 5504 + n.val; rfl

theorem V_o (n : Fin 5632) (d : Fin 2048) :
    V m c main_v13 (ix2 n d) = if hn : n.val < 5504 then aO m c (ix3 0 ⟨n.val, hn⟩ d) else 0 := by
  have e : (V m c main_v13 : S5632x2048.Idx → EReal)
      = truncf (F := Ideal) .bf16 (pad S5632x2048 ![0, 0] ![128, 0] ![0, 0] (shapeCast S5504x2048 (aO m c) shapeCasts_S1x5504x2048_S5504x2048)
          (sitofp (F := Ideal) .f32 (constantI S_ 32 0#32)) pads_S5504x2048_S5632x2048_01280_000 h_S_ : FVec Ideal S5632x2048 .f32) bitsLt_bf16_f32 := by
    unfold_abbrev_sides
    simp only [List.flatten_cons, List.flatten_nil, List.cons_append, List.nil_append, List.append_nil]
    after_results
    rfl
  rw [e, truncf_apply]
  by_cases hn : n.val < 5504
  · rw [dif_pos hn]
    refine (pad_apply_of_inside _ _ _ _ _ _ _ _ (ix2 ⟨n.val, hn⟩ d) fun a => ?_).trans ?_
    · match a with
      | ⟨0, _⟩ => show n.val = 0 + n.val * (0 + 1); omega
      | ⟨1, _⟩ => show d.val = 0 + d.val * (0 + 1); omega
    · refine shapeCast_apply _ _ _ _ ?_
      rw [Shape.rowMajor_val_three, Shape.rowMajor_val_two]
      show (0 * 5504 + n.val) * 2048 + d.val = n.val * 2048 + d.val
      omega
  · rw [dif_neg hn]
    refine (pad_apply_of_not_inside _ _ _ _ _ _ _ _ 0 ?_).trans (pad_zero _)
    intro hh
    have : (n.val - 0) / (0 + 1) < 5504 := hh.2.2
    omega

theorem V_m (b : Fin 2) (s : Fin 9) (d : Fin 2048) : V m c main_v14 (ix3 b s d) = aM m c (ix2 b ⟨2048 * s.val + d.val, by omega⟩) := by
  have e : (V m c main_v14 : S2x9x2048.Idx → EReal) = shapeCast S2x9x2048 (aM m c) shapeCasts_S2x18432_S2x9x2048 := by
    unfold_abbrev_sides
    simp only [List.flatten_cons, List.flatten_nil, List.cons_append, List.nil_append, List.append_nil]
    after_results
    rfl
  rw [e]
  refine shapeCast_apply _ _ _ _ ?_
  rw [Shape.rowMajor_val_three, Shape.rowMajor_val_two]
  show b.val * 18432 + (2048 * s.val + d.val) = (b.val * 9 + s.val) * 2048 + d.val
  omega

theorem V_n (d : Fin 2048) : V m c main_v26 (ix2 0 d) = aN m c (ix2 0 d) := by
  have e : (V m c main_v26 : S1x2048.Idx → EReal)
      = shapeCast S1x2048 (shapeCast S2048 (aN m c) shapeCasts_S1x2048_S2048 : FVec Ideal S2048 .f32) shapeCasts_S2048_S1x2048 := by
    unfold_abbrev_sides
    simp only [List.flatten_cons, List.flatten_nil, List.cons_append, List.nil_append, List.append_nil]
    after_results
    rfl
  rw [e]
  refine (shapeCast_apply _ _ _ (ix1 d) ?_).trans (shapeCast_apply _ _ _ _ ?_)
  · rw [Shape.rowMajor_val_one, Shape.rowMajor_val_two]
    show d.val = 0 * 2048 + d.val
    omega
  · rw [Shape.rowMajor_val_one, Shape.rowMajor_val_two]
    show 0 * 2048 + d.val = d.val
    omega

end Cert.Kernel7Ideal.Hand

end
-- ==== Proof.Ffn1Pay.lean ====
/- What one point of the opening feed-forward kernel computes, entry by entry: the rows it finishes and their modulated norm. -/
module

public import proofs.«01_k».proof.Proof.Ffn1Body
public import proofs.«01_k».proof.Proof.Ffn1Spec
public import proofs.«01_k».proof.Proof.FfnPay

@[expose] public section

noncomputable section

namespace Cert.Kernel7Ideal.Hand

open Cert.Kernel7Ideal Cert.Kernel7Ideal.Gen Idealize.ShloMosaic.ValueIdx
open Idealize.ShloMosaic hiding ix1 ix2 ix3 addf_apply mulf_apply truncf_apply constant_apply
open Cert.Kernel6Ideal.Hand (inc)

/-- Both feed-forward kernels add the same products. -/
theorem mm_eq : @mm Ideal _ = @Cert.Kernel6Ideal.Hand.mm Ideal _ := rfl

/-- In the slot it works on, a point adds the hidden block's products (or begins the sum with them). -/
theorem mm_same (a1 : BitVec 32) (s : Fin 2) (x0 : Vec Ideal S1024x2048 .bf16) (x2 x3 : Vec Ideal S2048x512 .bf16)
    (x4 : Vec Ideal S512x2048 .bf16) (X : Vec Ideal S2x1024x2048 .f32) (p : Fin 1024) (d : Fin 2048) :
    mm (F := Ideal) a1 s x0 x2 x3 x4 X (ix3 s p d) = (if a1 = 0#32 then 0 else X (ix3 s p d)) + inc x0 x2 x3 x4 p d := by
  rw [mm_eq]
  exact Cert.Kernel6Ideal.Hand.mm_same a1 s x0 x2 x3 x4 X p d

/-- The other slot a point leaves as it was. -/
theorem mm_other (a1 : BitVec 32) (s : Fin 2) (x0 : Vec Ideal S1024x2048 .bf16) (x2 x3 : Vec Ideal S2048x512 .bf16)
    (x4 : Vec Ideal S512x2048 .bf16) (X : Vec Ideal S2x1024x2048 .f32) (s' : Fin 2) (hs : s' ≠ s) (p : Fin 1024) (d : Fin 2048) :
    mm (F := Ideal) a1 s x0 x2 x3 x4 X (ix3 s' p d) = X (ix3 s' p d) := by
  rw [mm_eq]
  exact Cert.Kernel6Ideal.Hand.mm_other a1 s x0 x2 x3 x4 X s' hs p d

/-- One plane of the modulation as a row. -/
theorem plane_apply (g : FVec Ideal S1x1x2048 .f32) (k : Fin 2048) :
    shapeCast S1x2048 g shapeCasts_S1x1x2048_S1x2048 (ix2 0 k) = g (ix3 0 0 k) :=
  shapeCast_apply _ _ _ _ (by
    rw [Shape.rowMajor_val_two, Shape.rowMajor_val_three]
    show (0 * 1 + 0) * 2048 + k.val = 0 * 2048 + k.val
    omega)

/-- A row repeated down a block. -/
theorem row_apply (V : FVec Ideal S1x2048 .f32) (p : Fin 128) (k : Fin 2048) :
    broadcastTo S128x2048 V broadcasts_S1x2048_S128x2048 (ix2 p k) = V (ix2 0 k) := broadcastTo_1b_ab_apply V _ p k

/-- A finished row, at an index: half the gate times the sums added. -/
theorem pay42_apply (Y : FVec Ideal S1x128x2048 .f32) (x1 : FVec Ideal S128x2048 .f32) (g : FVec Ideal S1x1x2048 .f32)
    (p : Fin 128) (k : Fin 2048) :
    k0_pay42 (F := Ideal) Y x1 g (ix2 p k) = x1 (ix2 p k) + (Ideal.ofBits .f32 0x3F000000#32 * g (ix3 0 0 k)) * Y (ix3 0 p k) := by
  have hy : shapeCast S128x2048 Y shapeCasts_S1x128x2048_S128x2048 (ix2 p k) = Y (ix3 0 p k) :=
    shapeCast_apply _ _ _ _ (by
      rw [Shape.rowMajor_val_two, Shape.rowMajor_val_three]
      show (0 * 128 + p.val) * 2048 + k.val = p.val * 2048 + k.val
      omega)
  unfold k0_pay42
  rw [shapeCast_self, addf_apply, mulf_apply, row_apply, mulf_apply, plane_apply, hy]
  rfl

/-- Its norm. -/
theorem pay45_apply (Y : FVec Ideal S1x128x2048 .f32) (x1 : FVec Ideal S128x2048 .f32) (g : FVec Ideal S1x1x2048 .f32)
    (n : FVec Ideal S1x2048 .f32) (p : Fin 128) (d : Fin 2048) :
    k0_pay45 (F := Ideal) Y x1 g n (ix2 p d)
      = Spec.rms (fun k => x1 (ix2 p k) + (Ideal.ofBits .f32 0x3F000000#32 * g (ix3 0 0 k)) * Y (ix3 0 p k)) (fun k => n (ix2 0 k)) d := by
  have hr : ∀ V : FVec Ideal S128x2048 .f32,
      shapeCast S128x1 (multiReduction (F := Ideal) .add [1] S128 V 0x00000000#32 reduces_S128x2048_S128 (.inl rfl) rfl) shapeCasts_S128_S128x1 (ix2 p 0)
        = ∑ k : Fin 2048, V (ix2 p k) := by
    intro V
    refine (shapeCast_apply _ _ _ (ix1 p) (by
      rw [Shape.rowMajor_val_two, Shape.rowMajor_val_one]
      show p.val = p.val * 1 + 0
      omega)).trans ?_
    refine (Ideal.multiReduction_add_single V _ _ _ _ _).trans ?_
    refine Finset.sum_congr rfl fun k _ => congrArg V ?_
    refine Spec.ext2 ?_ ?_ <;> rfl
  have hb : ∀ V : FVec Ideal S128x1 .f32, broadcastTo S128x2048 V broadcasts_S128x1_S128x2048 (ix2 p d) = V (ix2 p 0) := fun V =>
    broadcastTo_apply _ _ _ _ fun a => match a with
      | ⟨0, _⟩ => rfl
      | ⟨1, _⟩ => rfl
  unfold k0_pay45
  rw [shapeCast_self]
  rw [mulf_apply, mulf_apply, row_apply, hb, pay42_apply]
  unfold Spec.rms
  refine congrArg₂ (fun a b => a * b * _) ?_ ?_
  · rfl
  · refine congrArg Ideal.rsqrt ?_
    refine congrArg (· + _) ?_
    refine congrArg (Ideal.div · _) ?_
    refine (hr _).trans ?_
    refine Finset.sum_congr rfl fun k _ => ?_
    rw [mulf_apply, pay42_apply]

/-- The norm scaled and shifted. -/
theorem pay1_apply (sh sc : FVec Ideal S1x1x2048 .f32) (V : FVec Ideal S128x2048 .f32) (p : Fin 128) (d : Fin 2048) :
    k0_pay1 (F := Ideal) (k0_pay43 sh) (k0_pay44 sc) V (ix2 p d)
      = V (ix2 p d) * (Ideal.ofBits .f32 0x3F800000#32 + sc (ix3 0 0 d)) + sh (ix3 0 0 d) := by
  unfold k0_pay1 k0_pay43 k0_pay44
  rw [truncf_apply, addf_apply, mulf_apply, row_apply, row_apply, addf_apply, plane_apply, plane_apply]
  rfl

section
variable (s : Fin 2) (q : Fin 8) (x1 : Vec Ideal S128x2048 .f32) (x5 : Vec Ideal S1x9x2048 .f32) (x6 : Vec Ideal S1x2048 .f32)
  (X : Vec Ideal S2x1024x2048 .f32) (p : Fin 128) (k d : Fin 2048)

theorem ld_chunk : View.ld (Val := Elt Ideal) (e' := .f32) X (rChunk s q) (ix3 (0 : Fin 1) p k) = X (ix3 s ⟨128 * q.val + p.val, by omega⟩ k) :=
  View.ld_unit_apply_of (S := S2x1024x2048) X ![s.val, 128 * q.val, 0] S1x128x2048.size (inbChunk s q) (ix3 (0 : Fin 1) p k) (ix3 s ⟨128 * q.val + p.val, by omega⟩ k)
    fun a => match a with
    | ⟨0, _⟩ => rfl
    | ⟨1, _⟩ => rfl
    | ⟨2, _⟩ => (Nat.zero_add _).symm
theorem ld_gain : View.ld (Val := Elt Ideal) (e' := .f32) x5 rG (ix3 (0 : Fin 1) (0 : Fin 1) k) = x5 (ix3 0 2 k) :=
  View.ld_unit_apply_of (S := S1x9x2048) x5 ![0, 2, 0] S1x1x2048.size inb_S1x9x2048_S1x1x2048_0_2_0 (ix3 (0 : Fin 1) (0 : Fin 1) k) (ix3 0 2 k)
    fun a => match a with
    | ⟨0, _⟩ => rfl
    | ⟨1, _⟩ => rfl
    | ⟨2, _⟩ => (Nat.zero_add _).symm
theorem ld_shift : View.ld (Val := Elt Ideal) (e' := .f32) x5 rS (ix3 (0 : Fin 1) (0 : Fin 1) k) = x5 (ix3 0 3 k) :=
  View.ld_unit_apply_of (S := S1x9x2048) x5 ![0, 3, 0] S1x1x2048.size inb_S1x9x2048_S1x1x2048_0_3_0 (ix3 (0 : Fin 1) (0 : Fin 1) k) (ix3 0 3 k)
    fun a => match a with
    | ⟨0, _⟩ => rfl
    | ⟨1, _⟩ => rfl
    | ⟨2, _⟩ => (Nat.zero_add _).symm
theorem ld_scale : View.ld (Val := Elt Ideal) (e' := .f32) x5 rC (ix3 (0 : Fin 1) (0 : Fin 1) k) = x5 (ix3 0 4 k) :=
  View.ld_unit_apply_of (S := S1x9x2048) x5 ![0, 4, 0] S1x1x2048.size inb_S1x9x2048_S1x1x2048_0_4_0 (ix3 (0 : Fin 1) (0 : Fin 1) k) (ix3 0 4 k)
    fun a => match a with
    | ⟨0, _⟩ => rfl
    | ⟨1, _⟩ => rfl
    | ⟨2, _⟩ => (Nat.zero_add _).symm

/-- A row of the block of new rows a finishing point stores. -/
theorem epx_apply :
    epx (F := Ideal) s q x1 x5 X (ix2 p d)
      = x1 (ix2 p d) + (Ideal.ofBits .f32 0x3F000000#32 * x5 (ix3 0 2 d)) * X (ix3 s ⟨128 * q.val + p.val, by omega⟩ d) := by
  unfold epx
  rw [View.canon_unit_zero (by decide), pay42_apply, View.ld_unit_zero (S := S128x2048) (by decide), ld_chunk, ld_gain]

/-- A row of the block of their modulated norms. -/
theorem eph_apply :
    eph (F := Ideal) s q x1 x5 x6 X (ix2 p d)
      = Spec.modulated (fun k => x1 (ix2 p k) + (Ideal.ofBits .f32 0x3F000000#32 * x5 (ix3 0 2 k)) * X (ix3 s ⟨128 * q.val + p.val, by omega⟩ k))
          (fun k => x6 (ix2 0 k)) (fun k => x5 (ix3 0 4 k)) (fun k => x5 (ix3 0 3 k)) d := by
  unfold eph Spec.modulated
  rw [View.canon_unit_zero (by decide), pay1_apply, pay45_apply, View.ld_unit_zero (S := S128x2048) (by decide), View.ld_unit_zero (S := S1x2048) (by decide)]
  refine congrArg₂ (· + ·) (congrArg₂ (· * ·) (congrArg (fun R => Spec.rms R _ d) (funext fun k => ?_)) (congrArg (_ + ·) (ld_scale x5 d))) (ld_shift x5 d)
  exact congrArg₂ (· + ·) rfl (congrArg₂ (· * ·) (congrArg (_ * ·) (ld_gain x5 k)) (ld_chunk s q X p k))

end

end Cert.Kernel7Ideal.Hand

end
-- ==== Proof.Ffn1Value.lean ====
/- The opening feed-forward kernel's two results of the layer: the accumulator row tile by row tile, the rows each point finishes, the final arrays. -/
module

public import proofs.«01_k».proof.Proof.Ffn1Host
public import proofs.«01_k».proof.Proof.Ffn1Pay

@[expose] public section

noncomputable section

namespace Cert.Kernel7Ideal.Hand

open Cert.Kernel7Ideal Cert.Kernel7Ideal.Gen Idealize.ShloMosaic.ValueIdx Idealize.ShloMosaic.TcCoe Idealize.SL.Sem
open Idealize.ShloMosaic hiding ix1 ix2 ix3 eq_ix2 addf_apply mulf_apply truncf_apply constant_apply
open Idealize.ShloMosaic.Pipeline (Dat)
open Cert.Kernel6Ideal.Hand (inc)

variable (m : (ℓ : Loc nD τ sig) → Buf (Elt Ideal) ℓ) (c : Dev nD)

/-! ## The blocks -/

/-- There are 187 grid points. -/
theorem lt187 (t : Fin grid0.N) : t.val < 187 := lt_of_lt_of_eq t.isLt N_0

/-- The 128 rows a point of the second or a later row tile finishes, counted in blocks of 128. -/
def dchunk (t : Fin grid0.N) : ℕ := 8 * (t.val / 11 - 1) + min (t.val % 11) 7

theorem index0 : ∀ t : Fin grid0.N, win0_0.index t 0 = min (t.val / 11) 15 ∧ win0_0.index t 1 = 0 := by decide +kernel
theorem index1 : ∀ t : Fin grid0.N, 11 ≤ t.val → win0_1.index t 0 = 8 * (t.val / 11 - 1) + min (t.val % 11) 7 ∧ win0_1.index t 1 = 0 := by
  decide +kernel
theorem index2 : ∀ t : Fin grid0.N, t.val < 176 → win0_2.index t 0 = 0 ∧ win0_2.index t 1 = t.val % 11 := by decide +kernel
theorem index3 : ∀ t : Fin grid0.N, t.val < 176 → win0_3.index t 0 = 0 ∧ win0_3.index t 1 = t.val % 11 := by decide +kernel
theorem index4 : ∀ t : Fin grid0.N, t.val < 176 → win0_4.index t 0 = t.val % 11 ∧ win0_4.index t 1 = 0 := by decide +kernel
theorem index5 : ∀ t : Fin grid0.N, win0_5.index t 0 = (t.val / 11 - 1) / 8 ∧ win0_5.index t 1 = 0 ∧ win0_5.index t 2 = 0 := by decide +kernel
theorem index6 : ∀ t : Fin grid0.N, win0_6.index t 0 = 0 ∧ win0_6.index t 1 = 0 := by decide +kernel
theorem index13 : ∀ t : Fin grid0.N, 11 ≤ t.val → win0_13.index t 0 = 8 * (t.val / 11 - 1) + min (t.val % 11) 7 ∧ win0_13.index t 1 = 0 := by
  decide +kernel
theorem index14 : ∀ t : Fin grid0.N, 11 ≤ t.val → win0_14.index t 0 = 8 * (t.val / 11 - 1) + min (t.val % 11) 7 ∧ win0_14.index t 1 = 0 := by
  decide +kernel

theorem b0_apply (t : Fin grid0.N) (ht : t.val < 176) (p : Fin 1024) (k : Fin 2048) :
    b0 m c t (ix2 p k) = aH m c (Spec.hidx ⟨1024 * (t.val / 11) + p.val, by omega⟩ k) := by
  rw [← V_h]
  show V m c main_v1 ((win0_0.rect t).emb (ix2 p k)) = _
  congr 1
  obtain ⟨h0, h1⟩ := index0 t
  refine Spec.ext2 ?_ ?_
  · rw [Pipeline.Window.rect_emb_val_off, h0]
    show min (t.val / 11) 15 * 1024 + p.val = 1024 * (t.val / 11) + p.val
    omega
  · rw [Pipeline.Window.rect_emb_val_off, h1]
    show 0 * 2048 + k.val = k.val
    omega

theorem b1_apply (t : Fin grid0.N) (ht : 11 ≤ t.val) (p : Fin 128) (k : Fin 2048) (r : Fin 16384) (hr : r.val = 128 * dchunk t + p.val) :
    b1 m c t (ix2 p k) = aX m c (Spec.hidx r k) := by
  rw [← V_x]
  show V m c main_v2 ((win0_1.rect t).emb (ix2 p k)) = _
  congr 1
  obtain ⟨h0, h1⟩ := index1 t ht
  unfold dchunk at hr
  refine Spec.ext2 ?_ ?_
  · rw [Pipeline.Window.rect_emb_val_off, h0]
    show (8 * (t.val / 11 - 1) + min (t.val % 11) 7) * 128 + p.val = r.val
    omega
  · rw [Pipeline.Window.rect_emb_val_off, h1]
    show 0 * 2048 + k.val = k.val
    omega

theorem b2_apply (t : Fin grid0.N) (ht : t.val < 176) (k : Fin 2048) (q : Fin 512) :
    b2 m c t (ix2 k q) = V m c main_v6 (ix2 k ⟨512 * (t.val % 11) + q.val, by omega⟩) := by
  show V m c main_v6 ((win0_2.rect t).emb (ix2 k q)) = _
  congr 1
  obtain ⟨h0, h1⟩ := index2 t ht
  refine Spec.ext2 ?_ ?_
  · rw [Pipeline.Window.rect_emb_val_off, h0]
    show 0 * 2048 + k.val = k.val
    omega
  · rw [Pipeline.Window.rect_emb_val_off, h1]
    show t.val % 11 * 512 + q.val = 512 * (t.val % 11) + q.val
    omega

theorem b3_apply (t : Fin grid0.N) (ht : t.val < 176) (k : Fin 2048) (q : Fin 512) :
    b3 m c t (ix2 k q) = V m c main_v10 (ix2 k ⟨512 * (t.val % 11) + q.val, by omega⟩) := by
  show V m c main_v10 ((win0_3.rect t).emb (ix2 k q)) = _
  congr 1
  obtain ⟨h0, h1⟩ := index3 t ht
  refine Spec.ext2 ?_ ?_
  · rw [Pipeline.Window.rect_emb_val_off, h0]
    show 0 * 2048 + k.val = k.val
    omega
  · rw [Pipeline.Window.rect_emb_val_off, h1]
    show t.val % 11 * 512 + q.val = 512 * (t.val % 11) + q.val
    omega

theorem b4_apply (t : Fin grid0.N) (ht : t.val < 176) (q : Fin 512) (d : Fin 2048) :
    b4 m c t (ix2 q d) = V m c main_v13 (ix2 ⟨512 * (t.val % 11) + q.val, by omega⟩ d) := by
  show V m c main_v13 ((win0_4.rect t).emb (ix2 q d)) = _
  congr 1
  obtain ⟨h0, h1⟩ := index4 t ht
  refine Spec.ext2 ?_ ?_
  · rw [Pipeline.Window.rect_emb_val_off, h0]
    show t.val % 11 * 512 + q.val = 512 * (t.val % 11) + q.val
    omega
  · rw [Pipeline.Window.rect_emb_val_off, h1]
    show 0 * 2048 + d.val = d.val
    omega

theorem b5_apply (t : Fin grid0.N) (s : Fin 9) (d : Fin 2048) :
    b5 m c t (ix3 0 s d) = aM m c (ix2 ⟨(t.val / 11 - 1) / 8, by have := lt187 t; omega⟩ ⟨2048 * s.val + d.val, by omega⟩) := by
  rw [← V_m]
  show V m c main_v14 ((win0_5.rect t).emb (ix3 0 s d)) = _
  congr 1
  obtain ⟨h0, h1, h2⟩ := index5 t
  refine Spec.ext3 ?_ ?_ ?_
  · rw [Pipeline.Window.rect_emb_val_off, h0]
    show (t.val / 11 - 1) / 8 * 1 + 0 = (t.val / 11 - 1) / 8
    omega
  · rw [Pipeline.Window.rect_emb_val_off, h1]
    show 0 * 9 + s.val = s.val
    omega
  · rw [Pipeline.Window.rect_emb_val_off, h2]
    show 0 * 2048 + d.val = d.val
    omega

theorem b6_apply (t : Fin grid0.N) (d : Fin 2048) : b6 m c t (ix2 0 d) = aN m c (ix2 0 d) := by
  rw [← V_n]
  show V m c main_v26 ((win0_6.rect t).emb (ix2 0 d)) = _
  congr 1
  obtain ⟨h0, h1⟩ := index6 t
  refine Spec.ext2 ?_ ?_
  · rw [Pipeline.Window.rect_emb_val_off, h0]
    show 0 * 1 + 0 = 0
    omega
  · rw [Pipeline.Window.rect_emb_val_off, h1]
    show 0 * 2048 + d.val = d.val
    omega

/-! ## The accumulator -/

/-- A point of row tile `t / 11` adds the 512 terms of its hidden block; the padded features add zero. -/
theorem inc_eq (t : Fin grid0.N) (ht : t.val < 176) (p : Fin 1024) (d : Fin 2048) (r : Fin 16384) (hr : r.val = 1024 * (t.val / 11) + p.val) :
    inc (b0 m c t) (b2 m c t) (b3 m c t) (b4 m c t) p d
      = ∑ q : Fin 512, Spec.ffnTerm (aH m c) (aW m c) (aO m c) r d (512 * (t.val % 11) + q.val) := by
  unfold inc
  refine Finset.sum_congr rfl fun q _ => ?_
  have er : (⟨1024 * (t.val / 11) + p.val, by omega⟩ : Fin 16384) = r := Fin.ext hr.symm
  unfold Spec.ffnTerm
  by_cases hn : 512 * (t.val % 11) + q.val < 5504
  · rw [dif_pos hn, b4_apply m c t ht, V_o, dif_pos hn]
    refine congrArg (· * _) ?_
    unfold Spec.ffnAct Spec.ffnHid
    refine congrArg₂ Spec.gated ?_ ?_
    · refine Finset.sum_congr rfl fun k _ => ?_
      rw [b0_apply m c t ht, b2_apply m c t ht, V_a, dif_pos hn, er]
    · refine Finset.sum_congr rfl fun k _ => ?_
      rw [b0_apply m c t ht, b3_apply m c t ht, V_b, dif_pos hn, er]
  · rw [dif_neg hn, b4_apply m c t ht, V_o, dif_neg hn, mul_zero]

/-- Within a row tile: after hidden block `j` the tile's slot holds the sum over the blocks up to `j`. -/
theorem acc_run (i : ℕ) (hi : i < 16) (p : Fin 1024) (d : Fin 2048) (r : Fin 16384) (hr : r.val = 1024 * i + p.val)
    (s : Fin 2) (hs : s.val = i % 2) :
    ∀ j : ℕ, j < 11 → acc m c (11 * i + j + 1) (ix3 s p d) = Spec.ffnPart (aH m c) (aW m c) (aO m c) r d (j + 1)
  | j, hj => by
    have hN : 11 * i + j < grid0.N := by rw [N_0]; omega
    have hd : (11 * i + j) / 11 = i := by omega
    have hm : (11 * i + j) % 11 = j := by omega
    have ht : (11 * i + j) < 176 := by omega
    have es : slot ⟨11 * i + j, hN⟩ = s := Fin.ext (by show (11 * i + j) / 11 % 2 = s.val; omega)
    have e1 : (grid0.coords ⟨11 * i + j, hN⟩ 1).val = j := (coords1 _).trans hm
    refine (congrFun (acc_mm m c ⟨11 * i + j, hN⟩ ht) _).trans ?_
    rw [es, e1]
    refine (mm_same _ s _ _ _ _ _ p d).trans ?_
    rw [inc_eq m c ⟨11 * i + j, hN⟩ ht p d r (by show r.val = 1024 * ((11 * i + j) / 11) + p.val; rw [hd, hr]), Spec.ffnPart_succ]
    show _ + ∑ q : Fin 512, Spec.ffnTerm _ _ _ r d (512 * ((11 * i + j) % 11) + q.val) = _
    rw [hm]
    refine congrArg (· + _) ?_
    match j, hj with
    | 0, _ => rw [if_pos rfl, Spec.ffnPart_zero]
    | j + 1, hj =>
      rw [if_neg (by
        intro h
        have h := congrArg BitVec.toNat h
        rw [BitVec.toNat_ofNat] at h
        have : (j + 1) % 2 ^ 32 = 0 := h
        omega)]
      exact acc_run i hi p d r hr s hs j (by omega)

/-- While the next row tile runs, the slot of the tile before keeps its finished sums. -/
theorem acc_done (i : ℕ) (hi : i < 16) (p : Fin 1024) (d : Fin 2048) (r : Fin 16384) (hr : r.val = 1024 * i + p.val)
    (s : Fin 2) (hs : s.val = i % 2) :
    ∀ j : ℕ, j < 11 → acc m c (11 * (i + 1) + j) (ix3 s p d) = Spec.ffnSum (aH m c) (aW m c) (aO m c) r d
  | 0, _ => by
    rw [← Spec.ffnPart_all]
    exact acc_run m c i hi p d r hr s hs 10 (by omega)
  | j + 1, hj => by
    rw [← acc_done i hi p d r hr s hs j (by omega)]
    have hN : 11 * (i + 1) + j < grid0.N := by rw [N_0]; omega
    by_cases ht : 11 * (i + 1) + j < 176
    · refine (congrFun (acc_mm m c ⟨11 * (i + 1) + j, hN⟩ ht) _).trans ?_
      refine mm_other _ _ _ _ _ _ _ s ?_ p d
      intro h
      have : s.val = (11 * (i + 1) + j) / 11 % 2 := congrArg Fin.val h
      omega
    · exact congrFun (acc_idle m c ⟨11 * (i + 1) + j, hN⟩ ht) _

/-! ## The results -/

/-- The first result: the rows with the block added, at the index's row and column. -/
def G13 (i : S16384x2048.Idx) : EReal := Spec.ffn1Res (aH m c) (aX m c) (aW m c) (aO m c) (aM m c) (i 0) (i 1)

/-- The second: their modulated norm. -/
def G14 (i : S16384x2048.Idx) : EReal := Spec.ffn1Out (aH m c) (aX m c) (aW m c) (aO m c) (aM m c) (aN m c) (i 0) (i 1)

section
variable (t : Fin grid0.N) (ht : 11 ≤ t.val) (p : Fin 128) (k d : Fin 2048) (r : Fin 16384) (hr : r.val = 128 * dchunk t + p.val)
include ht hr

/-- A slab of the modulation, as the block the last storing point was given holds it. -/
theorem b5_slab (s : Fin 9) : b5 m c (lastPt t) (ix3 0 s k) = Spec.slab (aM m c) s r k := by
  have hlt := lt187 t
  have hl : (lastPt t).val = t.val - (t.val % 11 - 7) := rfl
  unfold dchunk at hr
  refine (b5_apply m c (lastPt t) s k).trans ?_
  unfold Spec.slab
  congr 1
  refine Spec.ext2 ?_ rfl
  show ((lastPt t).val / 11 - 1) / 8 = r.val / 8192
  omega

/-- A new row, from the last storing point's blocks and the finished sums. -/
theorem res_eq :
    b1 m c (lastPt t) (ix2 p k) + (Ideal.ofBits .f32 0x3F000000#32 * b5 m c (lastPt t) (ix3 0 2 k))
        * acc m c (lastPt t).val (ix3 (oslot (lastPt t)) ⟨128 * (chunk (lastPt t)).val + p.val, by omega⟩ k)
      = Spec.ffn1Res (aH m c) (aX m c) (aW m c) (aO m c) (aM m c) r k := by
  rw [b5_slab m c t ht p k r hr]
  have hlt := lt187 t
  have hl : (lastPt t).val = t.val - (t.val % 11 - 7) := rfl
  unfold dchunk at hr
  have hl11 : 11 ≤ (lastPt t).val := by omega
  have hq : (chunk (lastPt t)).val = min (t.val % 11) 7 := by
    show min ((lastPt t).val % 11) 7 = _
    omega
  have hs : (oslot (lastPt t)).val = (t.val / 11 - 1) % 2 := by
    show 1 - (lastPt t).val / 11 % 2 = _
    omega
  unfold Spec.ffn1Res
  refine congrArg₂ (· + ·) ?_ (congrArg₂ (· * ·) rfl ?_)
  · refine b1_apply m c (lastPt t) hl11 p k r ?_
    unfold dchunk
    omega
  · have e := acc_done m c (t.val / 11 - 1) (by omega) ⟨128 * (chunk (lastPt t)).val + p.val, by omega⟩ k r
      (by show r.val = 1024 * (t.val / 11 - 1) + (128 * (chunk (lastPt t)).val + p.val); omega) (oslot (lastPt t)) hs (min (t.val % 11) 7) (by omega)
    rw [← e]
    have e2 : (lastPt t).val = 11 * (t.val / 11 - 1 + 1) + min (t.val % 11) 7 := by omega
    rw [e2]

/-- A row of the block a point leaves in the first result's staging buffer, -/
theorem o13_apply : o13 m c t (ix2 p d) = Spec.ffn1Res (aH m c) (aX m c) (aW m c) (aO m c) (aM m c) r d := by
  unfold o13
  refine (epx_apply _ _ _ _ _ p d).trans ?_
  exact res_eq m c t ht p d r hr

/-- and in the second's. -/
theorem o14_apply : o14 m c t (ix2 p d) = Spec.ffn1Out (aH m c) (aX m c) (aW m c) (aO m c) (aM m c) (aN m c) r d := by
  unfold o14
  refine (eph_apply _ _ _ _ _ _ p d).trans ?_
  unfold Spec.ffn1Out
  have e1 := funext fun k => res_eq m c t ht p k r hr
  have e2 := funext fun k => b6_apply m c (lastPt t) k
  have e3 := funext fun k => b5_slab m c t ht p k r hr 4
  have e4 := funext fun k => b5_slab m c t ht p k r hr 3
  rw [e1, e2, e3, e4]

end

/-- What a point that writes back to window 13 writes is its block of the result. -/
theorem flushed13_eq (t : Fin cfg0.N) (hf : (cfg0.win 13).flush t = true) :
    (dats m 0 c).flushed 13 t = ((cfg0.win 13).blk t).view.read (Elt Ideal) (G13 m c) := by
  have hlt := lt187 t
  have ht : 11 ≤ t.val := by
    rw [flush13] at hf
    simp only [Bool.or_eq_true, Bool.and_eq_true, decide_eq_true_eq] at hf
    omega
  show (cfg0.win 13).cut (grid0.coords t) ((dats m 0 c).after 13 t) = _
  rw [after13]
  show o13 m c t = fun y => G13 m c ((win0_13.rect t).emb y)
  funext y
  obtain ⟨p, d, rfl⟩ : ∃ p d, y = ix2 p d := ⟨y 0, y 1, eq_ix2 y⟩
  obtain ⟨h0, h1⟩ := index13 t ht
  have e0 : ((win0_13.rect t).emb (ix2 p d) 0).val = 128 * dchunk t + p.val := by
    rw [Pipeline.Window.rect_emb_val_off, h0]
    unfold dchunk
    show (8 * (t.val / 11 - 1) + min (t.val % 11) 7) * 128 + p.val = 128 * (8 * (t.val / 11 - 1) + min (t.val % 11) 7) + p.val
    omega
  have e1 : (win0_13.rect t).emb (ix2 p d) 1 = d := Fin.ext (by
    rw [Pipeline.Window.rect_emb_val_off, h1]
    show 0 * 2048 + d.val = d.val
    omega)
  refine (o13_apply m c t ht p d ((win0_13.rect t).emb (ix2 p d) 0) e0).trans ?_
  unfold G13
  rw [e1]

/-- The blocks written back there cover the result. -/
theorem cover13 (i : S16384x2048.Idx) : ∃ t : Fin cfg0.N, (cfg0.win 13).flush t = true ∧ i ∈ ((cfg0.win 13).blk t).view.set := by
  have hi0 : (i 0).val < 16384 := (i 0).isLt
  have hi1 : (i 1).val < 2048 := (i 1).isLt
  let q := (i 0).val % 1024 / 128
  have hq : q = (i 0).val % 1024 / 128 := rfl
  let t : Fin cfg0.N := ⟨11 * ((i 0).val / 1024 + 1) + if q < 7 then q else 10, by
    have : cfg0.N = 187 := N_0
    split <;> omega⟩
  have ht : t.val = 11 * ((i 0).val / 1024 + 1) + if q < 7 then q else 10 := rfl
  have h11 : 11 ≤ t.val := by omega
  have hd : t.val / 11 = (i 0).val / 1024 + 1 := by rw [ht]; split <;> omega
  have hm : min (t.val % 11) 7 = q ∧ (t.val % 11 < 7 ∨ t.val % 11 = 10) := by rw [ht]; split <;> omega
  refine ⟨t, ?_, ?_⟩
  · rw [flush13]
    simp only [Bool.or_eq_true, Bool.and_eq_true, decide_eq_true_eq]
    exact .inl ⟨h11, hm.2⟩
  · show i ∈ ((View.whole main_v27_0).slice (win0_13.rect t)).set
    rw [View.set_slice_whole, Rect.mem_set_unit]
    obtain ⟨h0, h1⟩ := index13 t h11
    rw [hd, hm.1] at h0
    intro a
    match a with
    | ⟨0, _⟩ =>
      show win0_13.index t 0 * 128 ≤ (i 0).val ∧ (i 0).val < win0_13.index t 0 * 128 + 128
      rw [h0]; omega
    | ⟨1, _⟩ =>
      show win0_13.index t 1 * 2048 ≤ (i 1).val ∧ (i 1).val < win0_13.index t 1 * 2048 + 2048
      rw [h1]; omega

theorem final13 : (dats m 0 c).arrAt 13 cfg0.N = G13 m c :=
  (dats m 0 c).arrAt_eq_of_cover 13 (G13 m c) (fun t hf => flushed13_eq m c t hf) cover13

/-- What a point that writes back to window 14 writes is its block of the result. -/
theorem flushed14_eq (t : Fin cfg0.N) (hf : (cfg0.win 14).flush t = true) :
    (dats m 0 c).flushed 14 t = ((cfg0.win 14).blk t).view.read (Elt Ideal) (G14 m c) := by
  have hlt := lt187 t
  have ht : 11 ≤ t.val := by
    rw [flush14] at hf
    simp only [Bool.or_eq_true, Bool.and_eq_true, decide_eq_true_eq] at hf
    omega
  show (cfg0.win 14).cut (grid0.coords t) ((dats m 0 c).after 14 t) = _
  rw [after14]
  show o14 m c t = fun y => G14 m c ((win0_14.rect t).emb y)
  funext y
  obtain ⟨p, d, rfl⟩ : ∃ p d, y = ix2 p d := ⟨y 0, y 1, eq_ix2 y⟩
  obtain ⟨h0, h1⟩ := index14 t ht
  have e0 : ((win0_14.rect t).emb (ix2 p d) 0).val = 128 * dchunk t + p.val := by
    rw [Pipeline.Window.rect_emb_val_off, h0]
    unfold dchunk
    show (8 * (t.val / 11 - 1) + min (t.val % 11) 7) * 128 + p.val = 128 * (8 * (t.val / 11 - 1) + min (t.val % 11) 7) + p.val
    omega
  have e1 : (win0_14.rect t).emb (ix2 p d) 1 = d := Fin.ext (by
    rw [Pipeline.Window.rect_emb_val_off, h1]
    show 0 * 2048 + d.val = d.val
    omega)
  refine (o14_apply m c t ht p d ((win0_14.rect t).emb (ix2 p d) 0) e0).trans ?_
  unfold G14
  rw [e1]

/-- The blocks written back there cover the result. -/
theorem cover14 (i : S16384x2048.Idx) : ∃ t : Fin cfg0.N, (cfg0.win 14).flush t = true ∧ i ∈ ((cfg0.win 14).blk t).view.set := by
  have hi0 : (i 0).val < 16384 := (i 0).isLt
  have hi1 : (i 1).val < 2048 := (i 1).isLt
  let q := (i 0).val % 1024 / 128
  have hq : q = (i 0).val % 1024 / 128 := rfl
  let t : Fin cfg0.N := ⟨11 * ((i 0).val / 1024 + 1) + if q < 7 then q else 10, by
    have : cfg0.N = 187 := N_0
    split <;> omega⟩
  have ht : t.val = 11 * ((i 0).val / 1024 + 1) + if q < 7 then q else 10 := rfl
  have h11 : 11 ≤ t.val := by omega
  have hd : t.val / 11 = (i 0).val / 1024 + 1 := by rw [ht]; split <;> omega
  have hm : min (t.val % 11) 7 = q ∧ (t.val % 11 < 7 ∨ t.val % 11 = 10) := by rw [ht]; split <;> omega
  refine ⟨t, ?_, ?_⟩
  · rw [flush14]
    simp only [Bool.or_eq_true, Bool.and_eq_true, decide_eq_true_eq]
    exact .inl ⟨h11, hm.2⟩
  · show i ∈ ((View.whole main_v27_1).slice (win0_14.rect t)).set
    rw [View.set_slice_whole, Rect.mem_set_unit]
    obtain ⟨h0, h1⟩ := index14 t h11
    rw [hd, hm.1] at h0
    intro a
    match a with
    | ⟨0, _⟩ =>
      show win0_14.index t 0 * 128 ≤ (i 0).val ∧ (i 0).val < win0_14.index t 0 * 128 + 128
      rw [h0]; omega
    | ⟨1, _⟩ =>
      show win0_14.index t 1 * 2048 ≤ (i 1).val ∧ (i 1).val < win0_14.index t 1 * 2048 + 2048
      rw [h1]; omega

theorem final14 : (dats m 0 c).arrAt 14 cfg0.N = G14 m c :=
  (dats m 0 c).arrAt_eq_of_cover 14 (G14 m c) (fun t hf => flushed14_eq m c t hf) cover14

end Cert.Kernel7Ideal.Hand

end
-- ==== Proof.Ffn1Cast.lean ====
/- The weights the opening feed-forward kernel casts for the later kernels: what each of its seven cast results holds, entry by entry. -/
module

public import proofs.«01_k».proof.Proof.Ffn1Value

@[expose] public section

noncomputable section

namespace Cert.Spec

open Idealize.ShloMosaic.ValueIdx
open Idealize.ShloMosaic hiding ix1 ix2 ix3

/-- The left half of the second block's input weights, with 128 columns of zeros after it. -/
def padL (x : (⟨3, ![1, 2048, 11008]⟩ : Shape).Idx → EReal) (k : Fin 2048) (n : Fin 5632) : EReal :=
  if hn : n.val < 5504 then x (ix3 0 k ⟨n.val, by omega⟩) else 0
/-- The right half, likewise. -/
def padR (x : (⟨3, ![1, 2048, 11008]⟩ : Shape).Idx → EReal) (k : Fin 2048) (n : Fin 5632) : EReal :=
  if hn : n.val < 5504 then x (ix3 0 k ⟨5504 + n.val, by omega⟩) else 0
/-- The second block's output weights, with 128 rows of zeros after them. -/
def padO (x : (⟨3, ![1, 5504, 2048]⟩ : Shape).Idx → EReal) (n : Fin 5632) (d : Fin 2048) : EReal :=
  if hn : n.val < 5504 then x (ix3 0 ⟨n.val, hn⟩ d) else 0

end Cert.Spec

namespace Cert.Kernel7Ideal.Hand

open Cert.Kernel7Ideal Cert.Kernel7Ideal.Gen Idealize.ShloMosaic.ValueIdx Idealize.ShloMosaic.TcCoe Idealize.SL.Sem
open Idealize.ShloMosaic hiding ix1 ix2 ix3 eq_ix2 addf_apply mulf_apply truncf_apply constant_apply
open Idealize.ShloMosaic.Pipeline (Dat)

/-! ## The weights prepared on the host, from the arrays given -/

/-- Two matrices are equal when they agree at every row and column. -/
theorem ext_pair {a b : ℕ} {x y : (⟨2, ![a, b]⟩ : Shape).Idx → EReal} (h : ∀ (k : Fin a) (n : Fin b), x (ix2 k n) = y (ix2 k n)) : x = y := by
  funext i
  rw [eq_ix2 i]
  exact h _ _

/-- Weights without their leading axis. -/
theorem flat_apply {a b : ℕ} (x : (⟨3, ![1, a, b]⟩ : Shape).Idx → EReal) (h : (⟨3, ![1, a, b]⟩ : Shape).ShapeCasts ⟨2, ![a, b]⟩) (k : Fin a) (n : Fin b) :
    shapeCast (⟨2, ![a, b]⟩ : Shape) x h (ix2 k n) = x (ix3 0 k n) := by
  refine shapeCast_apply _ _ _ _ ?_
  rw [Shape.rowMajor_val_three, Shape.rowMajor_val_two]
  show (0 * a + k.val) * b + n.val = k.val * b + n.val
  rw [Nat.zero_mul, Nat.zero_add]

/-- The left half, padded and cast. -/
theorem castL_apply (x : (⟨3, ![1, 2048, 11008]⟩ : Shape).Idx → EReal) (k : Fin 2048) (n : Fin 5632) :
    (truncf (F := Ideal) .bf16 (pad S2048x5632 ![0, 0] ![0, 128] ![0, 0]
        (extractStridedSlice S2048x5504 ![0, 0] (shapeCast S2048x11008 x shapeCasts_S1x2048x11008_S2048x11008) slices_S2048x11008_S2048x5504_0_0)
        (sitofp (F := Ideal) .f32 (constantI S_ 32 0#32)) pads_S2048x5504_S2048x5632_000_01280 h_S_ : FVec Ideal S2048x5632 .f32) bitsLt_bf16_f32
      : FVec Ideal S2048x5632 .bf16) (ix2 k n) = Spec.padL x k n := by
  rw [truncf_apply, padc_apply _ _ pad_zero]
  refine dite_congr rfl (fun hn => ?_) (fun _ => rfl)
  refine Eq.trans ?_ (flat_apply x shapeCasts_S1x2048x11008_S2048x11008 k ⟨n.val, _⟩)
  refine extractStridedSlice_apply _ _ _ _ _ fun a => ?_
  match a with
  | ⟨0, _⟩ => show k.val = 0 + k.val; omega
  | ⟨1, _⟩ => show n.val = 0 + n.val; omega

/-- The right half, padded and cast. -/
theorem castR_apply (x : (⟨3, ![1, 2048, 11008]⟩ : Shape).Idx → EReal) (k : Fin 2048) (n : Fin 5632) :
    (truncf (F := Ideal) .bf16 (pad S2048x5632 ![0, 0] ![0, 128] ![0, 0]
        (extractStridedSlice S2048x5504 ![0, 5504] (shapeCast S2048x11008 x shapeCasts_S1x2048x11008_S2048x11008) slices_S2048x11008_S2048x5504_0_5504)
        (sitofp (F := Ideal) .f32 (constantI S_ 32 0#32)) pads_S2048x5504_S2048x5632_000_01280 h_S_ : FVec Ideal S2048x5632 .f32) bitsLt_bf16_f32
      : FVec Ideal S2048x5632 .bf16) (ix2 k n) = Spec.padR x k n := by
  rw [truncf_apply, padc_apply _ _ pad_zero]
  refine dite_congr rfl (fun hn => ?_) (fun _ => rfl)
  refine Eq.trans ?_ (flat_apply x shapeCasts_S1x2048x11008_S2048x11008 k ⟨5504 + n.val, _⟩)
  refine extractStridedSlice_apply _ _ _ _ _ fun a => ?_
  match a with
  | ⟨0, _⟩ => show k.val = 0 + k.val; omega
  | ⟨1, _⟩ => show 5504 + n.val = 5504 + n.val; rfl

/-- The output weights, padded and cast. -/
theorem castO_apply (x : (⟨3, ![1, 5504, 2048]⟩ : Shape).Idx → EReal) (n : Fin 5632) (d : Fin 2048) :
    (truncf (F := Ideal) .bf16 (pad S5632x2048 ![0, 0] ![128, 0] ![0, 0] (shapeCast S5504x2048 x shapeCasts_S1x5504x2048_S5504x2048)
        (sitofp (F := Ideal) .f32 (constantI S_ 32 0#32)) pads_S5504x2048_S5632x2048_01280_000 h_S_ : FVec Ideal S5632x2048 .f32) bitsLt_bf16_f32
      : FVec Ideal S5632x2048 .bf16) (ix2 n d) = Spec.padO x n d := by
  rw [truncf_apply]
  unfold Spec.padO
  by_cases hn : n.val < 5504
  · rw [dif_pos hn]
    refine (pad_apply_of_inside _ _ _ _ _ _ _ _ (ix2 ⟨n.val, hn⟩ d) fun a => ?_).trans (flat_apply x shapeCasts_S1x5504x2048_S5504x2048 ⟨n.val, hn⟩ d)
    match a with
    | ⟨0, _⟩ => show n.val = 0 + n.val * (0 + 1); omega
    | ⟨1, _⟩ => show d.val = 0 + d.val * (0 + 1); omega
  · rw [dif_neg hn]
    refine (pad_apply_of_not_inside _ _ _ _ _ _ _ _ 0 ?_).trans (pad_zero _)
    intro hh
    have : (n.val - 0) / (0 + 1) < 5504 := hh.2.2
    omega

/-- The input weights of the next kernel, turned over. -/
theorem turn_apply (x : (⟨3, ![1, 2048, 10272]⟩ : Shape).Idx → EReal) (k : Fin 10272) (n : Fin 2048) :
    transpose S10272x2048 [1, 0] (shapeCast S2048x10272 x shapeCasts_S1x2048x10272_S2048x10272) transposes_S2048x10272_S10272x2048_1_0 (ix2 k n)
      = x (ix3 0 n k) := by
  rw [transpose_apply _ _ _ _ (ix2 n k) (by intro a; match a with | ⟨0, _⟩ => rfl | ⟨1, _⟩ => rfl)]
  exact flat_apply x shapeCasts_S1x2048x10272_S2048x10272 n k

variable (m : (ℓ : Loc nD τ sig) → Buf (Elt Ideal) ℓ) (c : Dev nD)

/-! ## The arrays the kernel is called with -/

/-- The second block's input weights as launched. -/
abbrev a6 : (⟨3, ![1, 2048, 11008]⟩ : Shape).Idx → EReal := m ((c : Thread nD τ).loc main_arg6)
/-- The second block's output weights as launched. -/
abbrev a7 : (⟨3, ![1, 5504, 2048]⟩ : Shape).Idx → EReal := m ((c : Thread nD τ).loc main_arg7)
/-- The first projection's weights as launched. -/
abbrev a8 : (⟨3, ![1, 2048, 2048]⟩ : Shape).Idx → EReal := m ((c : Thread nD τ).loc main_arg8)
/-- The output projection's weights as launched. -/
abbrev a9 : (⟨3, ![1, 2048, 2048]⟩ : Shape).Idx → EReal := m ((c : Thread nD τ).loc main_arg9)
/-- The gated unit's weights as launched. -/
abbrev a10 : (⟨3, ![1, 1024, 4096]⟩ : Shape).Idx → EReal := m ((c : Thread nD τ).loc main_arg10)
/-- The input projection's weights as launched. -/
abbrev a11 : (⟨3, ![1, 2048, 10272]⟩ : Shape).Idx → EReal := m ((c : Thread nD τ).loc main_arg11)

theorem V_7 (k : Fin 2048) (n : Fin 11008) : V m c main_v15 (ix2 k n) = a6 m c (ix3 0 k n) := by
  have e : (V m c main_v15 : S2048x11008.Idx → EReal) = shapeCast S2048x11008 (a6 m c) shapeCasts_S1x2048x11008_S2048x11008 := by
    unfold_abbrev_sides
    simp only [List.flatten_cons, List.flatten_nil, List.cons_append, List.nil_append, List.append_nil]
    after_results
    rfl
  rw [e]
  exact flat_apply (a6 m c) shapeCasts_S1x2048x11008_S2048x11008 k n

theorem V_8 (k : Fin 5504) (n : Fin 2048) : V m c main_v16 (ix2 k n) = a7 m c (ix3 0 k n) := by
  have e : (V m c main_v16 : S5504x2048.Idx → EReal) = shapeCast S5504x2048 (a7 m c) shapeCasts_S1x5504x2048_S5504x2048 := by
    unfold_abbrev_sides
    simp only [List.flatten_cons, List.flatten_nil, List.cons_append, List.nil_append, List.append_nil]
    after_results
    rfl
  rw [e]
  exact flat_apply (a7 m c) shapeCasts_S1x5504x2048_S5504x2048 k n

theorem V_9 (k : Fin 2048) (n : Fin 2048) : V m c main_v17 (ix2 k n) = a8 m c (ix3 0 k n) := by
  have e : (V m c main_v17 : S2048x2048.Idx → EReal) = shapeCast S2048x2048 (a8 m c) shapeCasts_S1x2048x2048_S2048x2048 := by
    unfold_abbrev_sides
    simp only [List.flatten_cons, List.flatten_nil, List.cons_append, List.nil_append, List.append_nil]
    after_results
    rfl
  rw [e]
  exact flat_apply (a8 m c) shapeCasts_S1x2048x2048_S2048x2048 k n

theorem V_10 (k : Fin 2048) (n : Fin 2048) : V m c main_v19 (ix2 k n) = a9 m c (ix3 0 k n) := by
  have e : (V m c main_v19 : S2048x2048.Idx → EReal) = shapeCast S2048x2048 (a9 m c) shapeCasts_S1x2048x2048_S2048x2048 := by
    unfold_abbrev_sides
    simp only [List.flatten_cons, List.flatten_nil, List.cons_append, List.nil_append, List.append_nil]
    after_results
    rfl
  rw [e]
  exact flat_apply (a9 m c) shapeCasts_S1x2048x2048_S2048x2048 k n

theorem V_11 (k : Fin 1024) (n : Fin 4096) : V m c main_v21 (ix2 k n) = a10 m c (ix3 0 k n) := by
  have e : (V m c main_v21 : S1024x4096.Idx → EReal) = shapeCast S1024x4096 (a10 m c) shapeCasts_S1x1024x4096_S1024x4096 := by
    unfold_abbrev_sides
    simp only [List.flatten_cons, List.flatten_nil, List.cons_append, List.nil_append, List.append_nil]
    after_results
    rfl
  rw [e]
  exact flat_apply (a10 m c) shapeCasts_S1x1024x4096_S1024x4096 k n

theorem V_12 (k : Fin 10272) (n : Fin 2048) : V m c main_v24 (ix2 k n) = a11 m c (ix3 0 n k) := by
  have e : (V m c main_v24 : S10272x2048.Idx → EReal) = transpose S10272x2048 [1, 0] (shapeCast S2048x10272 (a11 m c) shapeCasts_S1x2048x10272_S2048x10272)
      transposes_S2048x10272_S10272x2048_1_0 := by
    unfold_abbrev_sides
    simp only [List.flatten_cons, List.flatten_nil, List.cons_append, List.nil_append, List.append_nil]
    after_results
    rfl
  rw [e]
  exact turn_apply (a11 m c) k n

/-! ## The blocks -/

theorem index7 : ∀ t : Fin grid0.N, win0_7.index t 0 = min (cchunk (lastC t)) 127 ∧ win0_7.index t 1 = 0 := by decide +kernel
theorem index8 : ∀ t : Fin grid0.N, win0_8.index t 0 = min (cchunk (lastC t)) 85 ∧ win0_8.index t 1 = 0 := by decide +kernel
theorem index9 : ∀ t : Fin grid0.N, win0_9.index t 0 = min (cchunk (lastC t)) 127 ∧ win0_9.index t 1 = 0 := by decide +kernel
theorem index10 : ∀ t : Fin grid0.N, win0_10.index t 0 = min (cchunk (lastC t)) 127 ∧ win0_10.index t 1 = 0 := by decide +kernel
theorem index11 : ∀ t : Fin grid0.N, win0_11.index t 0 = min (cchunk (lastC t)) 63 ∧ win0_11.index t 1 = 0 := by decide +kernel
theorem index12 : ∀ t : Fin grid0.N, win0_12.index t 0 = min (cchunk (lastC t)) 106 ∧ win0_12.index t 1 = 0 := by decide +kernel
theorem index15 : ∀ t : Fin grid0.N, win0_15.index t 0 = min (cchunk (lastC t)) 127 ∧ win0_15.index t 1 = 0 := by decide +kernel
theorem index16 : ∀ t : Fin grid0.N, win0_16.index t 0 = min (cchunk (lastC t)) 127 ∧ win0_16.index t 1 = 0 := by decide +kernel
theorem index17 : ∀ t : Fin grid0.N, win0_17.index t 0 = min (cchunk (lastC t)) 87 ∧ win0_17.index t 1 = 0 := by decide +kernel
theorem index18 : ∀ t : Fin grid0.N, win0_18.index t 0 = min (cchunk (lastC t)) 127 ∧ win0_18.index t 1 = 0 := by decide +kernel
theorem index19 : ∀ t : Fin grid0.N, win0_19.index t 0 = min (cchunk (lastC t)) 127 ∧ win0_19.index t 1 = 0 := by decide +kernel
theorem index20 : ∀ t : Fin grid0.N, win0_20.index t 0 = min (cchunk (lastC t)) 63 ∧ win0_20.index t 1 = 0 := by decide +kernel
theorem index21 : ∀ t : Fin grid0.N, win0_21.index t 0 = min (cchunk (lastC t)) 106 ∧ win0_21.index t 1 = 0 := by decide +kernel

theorem b7_apply (t : Fin grid0.N) (p : Fin 16) (n : Fin 11008) (k : Fin 2048) (hk : k.val = 16 * min (cchunk (lastC t)) 127 + p.val) :
    b7 m c (lastC t) (ix2 p n) = V m c main_v15 (ix2 k n) := by
  show V m c main_v15 ((win0_7.rect (lastC t)).emb (ix2 p n)) = _
  congr 1
  obtain ⟨h0, h1⟩ := index7 (lastC t)
  rw [lastC_lastC] at h0
  refine Spec.ext2 ?_ ?_
  · rw [Pipeline.Window.rect_emb_val_off, h0]
    show min (cchunk (lastC t)) 127 * 16 + p.val = k.val
    omega
  · rw [Pipeline.Window.rect_emb_val_off, h1]
    show 0 * 11008 + n.val = n.val
    omega

theorem b8_apply (t : Fin grid0.N) (p : Fin 64) (n : Fin 2048) (k : Fin 5504) (hk : k.val = 64 * min (cchunk (lastC t)) 85 + p.val) :
    b8 m c (lastC t) (ix2 p n) = V m c main_v16 (ix2 k n) := by
  show V m c main_v16 ((win0_8.rect (lastC t)).emb (ix2 p n)) = _
  congr 1
  obtain ⟨h0, h1⟩ := index8 (lastC t)
  rw [lastC_lastC] at h0
  refine Spec.ext2 ?_ ?_
  · rw [Pipeline.Window.rect_emb_val_off, h0]
    show min (cchunk (lastC t)) 85 * 64 + p.val = k.val
    omega
  · rw [Pipeline.Window.rect_emb_val_off, h1]
    show 0 * 2048 + n.val = n.val
    omega

theorem b9_apply (t : Fin grid0.N) (p : Fin 16) (n : Fin 2048) (k : Fin 2048) (hk : k.val = 16 * min (cchunk (lastC t)) 127 + p.val) :
    b9 m c (lastC t) (ix2 p n) = V m c main_v17 (ix2 k n) := by
  show V m c main_v17 ((win0_9.rect (lastC t)).emb (ix2 p n)) = _
  congr 1
  obtain ⟨h0, h1⟩ := index9 (lastC t)
  rw [lastC_lastC] at h0
  refine Spec.ext2 ?_ ?_
  · rw [Pipeline.Window.rect_emb_val_off, h0]
    show min (cchunk (lastC t)) 127 * 16 + p.val = k.val
    omega
  · rw [Pipeline.Window.rect_emb_val_off, h1]
    show 0 * 2048 + n.val = n.val
    omega

theorem b10_apply (t : Fin grid0.N) (p : Fin 16) (n : Fin 2048) (k : Fin 2048) (hk : k.val = 16 * min (cchunk (lastC t)) 127 + p.val) :
    b10 m c (lastC t) (ix2 p n) = V m c main_v19 (ix2 k n) := by
  show V m c main_v19 ((win0_10.rect (lastC t)).emb (ix2 p n)) = _
  congr 1
  obtain ⟨h0, h1⟩ := index10 (lastC t)
  rw [lastC_lastC] at h0
  refine Spec.ext2 ?_ ?_
  · rw [Pipeline.Window.rect_emb_val_off, h0]
    show min (cchunk (lastC t)) 127 * 16 + p.val = k.val
    omega
  · rw [Pipeline.Window.rect_emb_val_off, h1]
    show 0 * 2048 + n.val = n.val
    omega

theorem b11_apply (t : Fin grid0.N) (p : Fin 16) (n : Fin 4096) (k : Fin 1024) (hk : k.val = 16 * min (cchunk (lastC t)) 63 + p.val) :
    b11 m c (lastC t) (ix2 p n) = V m c main_v21 (ix2 k n) := by
  show V m c main_v21 ((win0_11.rect (lastC t)).emb (ix2 p n)) = _
  congr 1
  obtain ⟨h0, h1⟩ := index11 (lastC t)
  rw [lastC_lastC] at h0
  refine Spec.ext2 ?_ ?_
  · rw [Pipeline.Window.rect_emb_val_off, h0]
    show min (cchunk (lastC t)) 63 * 16 + p.val = k.val
    omega
  · rw [Pipeline.Window.rect_emb_val_off, h1]
    show 0 * 4096 + n.val = n.val
    omega

theorem b12_apply (t : Fin grid0.N) (p : Fin 96) (n : Fin 2048) (k : Fin 10272) (hk : k.val = 96 * min (cchunk (lastC t)) 106 + p.val) :
    b12 m c (lastC t) (ix2 p n) = V m c main_v24 (ix2 k n) := by
  show V m c main_v24 ((win0_12.rect (lastC t)).emb (ix2 p n)) = _
  congr 1
  obtain ⟨h0, h1⟩ := index12 (lastC t)
  rw [lastC_lastC] at h0
  refine Spec.ext2 ?_ ?_
  · rw [Pipeline.Window.rect_emb_val_off, h0]
    show min (cchunk (lastC t)) 106 * 96 + p.val = k.val
    omega
  · rw [Pipeline.Window.rect_emb_val_off, h1]
    show 0 * 2048 + n.val = n.val
    omega

/-! ## The payloads -/

theorem pay3_zero (i : S16x128.Idx) : (k0_pay3 (F := Ideal) : FVec Ideal S16x128 .bf16) i = (0 : EReal) := Ideal.ofBits_zero_bf16
theorem pay5_zero (i : S16x128.Idx) : (k0_pay5 (F := Ideal) : FVec Ideal S16x128 .bf16) i = (0 : EReal) := Ideal.ofBits_zero_bf16

theorem miss (r : Rect S16x5632) (v : r.shape.Idx → Elt Ideal .bf16) (L : List (View.Piece (Elt Ideal) S16x5632 .bf16))
    (y : S16x5632.Idx) (h : y ∉ r.set) : View.canon (⟨r, v⟩ :: L) y = View.canon L y := View.canon_cons_of_not_mem ⟨r, v⟩ L h

/-- A block of the left half with its columns of zeros. -/
theorem cast15_apply (x : FVec Ideal S16x11008 .f32) (p : Fin 16) (n : Fin 5632) :
    cast15 (F := Ideal) x (ix2 p n) = if hn : n.val < 5504 then x (ix2 p (⟨n.val, by omega⟩ : Fin 11008)) else (0 : EReal) := by
  unfold cast15
  by_cases hn : n.val < 5504
  · rw [dif_pos hn]
    have hm : (ix2 p n : S16x5632.Idx) ∉ rDR.set := by
      rw [Rect.mem_set_unit]
      intro h
      have : 5504 ≤ n.val := (h 1).1
      omega
    refine (miss rDR _ _ _ hm).trans ?_
    have e : (ix2 p n : S16x5632.Idx) = rDL.emb (ix2 p (⟨n.val, hn⟩ : Fin 5504)) := Spec.ext2
      (by show p.val = 0 + 1 * p.val; omega) (by show n.val = 0 + 1 * n.val; omega)
    rw [e]
    refine (View.canon_cons_emb rDL _ _ (ix2 p (⟨n.val, hn⟩ : Fin 5504))).trans ?_
    unfold k0_pay2
    rw [truncf_apply, shapeCast_self]
    show x (rSL.idx (ix2 p (⟨n.val, hn⟩ : Fin 5504))) = _
    refine congrArg x (Spec.ext2 ?_ ?_)
    · show 0 + 1 * p.val = p.val
      omega
    · show 0 + 1 * n.val = n.val
      omega
  · rw [dif_neg hn]
    have e : (ix2 p n : S16x5632.Idx) = rDR.emb (ix2 p (⟨n.val - 5504, by omega⟩ : Fin 128)) := Spec.ext2
      (by show p.val = 0 + 1 * p.val; omega) (by show n.val = 5504 + 1 * (n.val - 5504); omega)
    rw [e]
    exact (View.canon_cons_emb rDR _ _ (ix2 p (⟨n.val - 5504, by omega⟩ : Fin 128))).trans (pay3_zero _)

/-- A block of the right half with its columns of zeros. -/
theorem cast16_apply (x : FVec Ideal S16x11008 .f32) (p : Fin 16) (n : Fin 5632) :
    cast16 (F := Ideal) x (ix2 p n) = if hn : n.val < 5504 then x (ix2 p (⟨5504 + n.val, by omega⟩ : Fin 11008)) else (0 : EReal) := by
  unfold cast16
  by_cases hn : n.val < 5504
  · rw [dif_pos hn]
    have hm : (ix2 p n : S16x5632.Idx) ∉ rDR.set := by
      rw [Rect.mem_set_unit]
      intro h
      have : 5504 ≤ n.val := (h 1).1
      omega
    refine (miss rDR _ _ _ hm).trans ?_
    have e : (ix2 p n : S16x5632.Idx) = rDL.emb (ix2 p (⟨n.val, hn⟩ : Fin 5504)) := Spec.ext2
      (by show p.val = 0 + 1 * p.val; omega) (by show n.val = 0 + 1 * n.val; omega)
    rw [e]
    refine (View.canon_cons_emb rDL _ _ (ix2 p (⟨n.val, hn⟩ : Fin 5504))).trans ?_
    unfold k0_pay4
    rw [truncf_apply, shapeCast_self]
    show x (rSR.idx (ix2 p (⟨n.val, hn⟩ : Fin 5504))) = _
    refine congrArg x (Spec.ext2 ?_ ?_)
    · show 0 + 1 * p.val = p.val
      omega
    · show 5504 + 1 * n.val = 5504 + n.val
      omega
  · rw [dif_neg hn]
    have e : (ix2 p n : S16x5632.Idx) = rDR.emb (ix2 p (⟨n.val - 5504, by omega⟩ : Fin 128)) := Spec.ext2
      (by show p.val = 0 + 1 * p.val; omega) (by show n.val = 5504 + 1 * (n.val - 5504); omega)
    rw [e]
    exact (View.canon_cons_emb rDR _ _ (ix2 p (⟨n.val - 5504, by omega⟩ : Fin 128))).trans (pay5_zero _)

/-- The first of the 64 rows a point casts, as the kernel computes it. -/
theorem row0_eq : ∀ t : Fin grid0.N,
    Scalar.muli (Scalar.minsi (Scalar.addi (Scalar.muli (BitVec.ofNat 32 (grid0.coords t 0).val) 8#32)
      (Scalar.minsi (BitVec.ofNat 32 (grid0.coords t 1).val) 7#32)) 87#32) 64#32 = BitVec.ofNat 32 (64 * min (cchunk t) 87) := by decide +kernel

/-- The comparison of a row with the number of rows there are. -/
theorem row_lt : ∀ (q : Fin 88) (p : Fin 64),
    IntOp.cmpi .slt (IntOp.addi (BitVec.ofNat 32 p.val) (BitVec.ofNat 32 (64 * q.val))) 5504#32 = if 64 * q.val + p.val < 5504 then 1#1 else 0#1 := by
  decide +kernel

/-- A block of the output weights, zero past the last row. -/
theorem cast17_apply (t : Fin grid0.N) (x : FVec Ideal S64x2048 .f32) (p : Fin 64) (d : Fin 2048) :
    cast17 (F := Ideal) (BitVec.ofNat 32 (grid0.coords t 0).val) (BitVec.ofNat 32 (grid0.coords t 1).val) x (ix2 p d)
      = if 64 * min (cchunk t) 87 + p.val < 5504 then x (ix2 p d) else (0 : EReal) := by
  have hb : ∀ v : IVec S64x1 1, broadcastTo S64x2048 v broadcasts_S64x1_S64x2048 (ix2 p d) = v (ix2 p 0) := fun v =>
    broadcastTo_apply _ _ _ _ fun a => match a with
      | ⟨0, _⟩ => rfl
      | ⟨1, _⟩ => rfl
  unfold cast17
  rw [View.canon_unit_zero (by decide), View.ld_unit_zero (S := S64x2048) (by decide)]
  unfold k0_pay6
  dsimp only
  rw [truncf_apply, select_apply, hb, shapeCast_self, shapeCast_self, row0_eq]
  have hc := row_lt ⟨min (cchunk t) 87, by omega⟩ p
  have hi : (iota .tc S64x1 32 [0] iota_S64x1_d0_w32 : IVec S64x1 32) (ix2 p 0) = BitVec.ofNat 32 p.val := by
    show BitVec.ofNat 32 (0 * 64 + p.val) = _
    rw [Nat.zero_mul, Nat.zero_add]
  show Scalar.select (IntOp.cmpi .slt (IntOp.addi ((iota .tc S64x1 32 [0] iota_S64x1_d0_w32 : IVec S64x1 32) (ix2 p 0))
    (BitVec.ofNat 32 (64 * min (cchunk t) 87))) 5504#32) (x (ix2 p d)) (Ideal.ofBits .f32 0x00000000#32) = _
  rw [hi]
  refine (congrArg (fun z => Scalar.select z (x (ix2 p d)) (Ideal.ofBits .f32 0x00000000#32)) hc).trans ?_
  show Scalar.select (if 64 * min (cchunk t) 87 + p.val < 5504 then 1#1 else 0#1) (x (ix2 p d)) (Ideal.ofBits .f32 0x00000000#32) = _
  by_cases h : 64 * min (cchunk t) 87 + p.val < 5504
  · rw [if_pos h, if_pos h]
    rfl
  · rw [if_neg h, if_neg h]
    exact Ideal.ofBits_zero_f32

theorem cast18_apply (x : FVec Ideal S16x2048 .f32) (i : S16x2048.Idx) : cast18 (F := Ideal) x i = x i := by
  unfold cast18
  rw [View.canon_unit_zero (by decide), View.ld_unit_zero (S := S16x2048) (by decide)]
  show shapeCast S16x2048 x shapeCasts_S16x2048_S16x2048 i = _
  rw [shapeCast_self]

theorem cast19_apply (x : FVec Ideal S16x2048 .f32) (i : S16x2048.Idx) : cast19 (F := Ideal) x i = x i := by
  unfold cast19
  rw [View.canon_unit_zero (by decide), View.ld_unit_zero (S := S16x2048) (by decide)]
  show shapeCast S16x2048 x shapeCasts_S16x2048_S16x2048 i = _
  rw [shapeCast_self]

theorem cast20_apply (x : FVec Ideal S16x4096 .f32) (i : S16x4096.Idx) : cast20 (F := Ideal) x i = x i := by
  unfold cast20
  rw [View.canon_unit_zero (by decide), View.ld_unit_zero (S := S16x4096) (by decide)]
  show shapeCast S16x4096 x shapeCasts_S16x4096_S16x4096 i = _
  rw [shapeCast_self]

theorem cast21_apply (x : FVec Ideal S96x2048 .f32) (i : S96x2048.Idx) : cast21 (F := Ideal) x i = x i := by
  unfold cast21
  rw [View.canon_unit_zero (by decide), View.ld_unit_zero (S := S96x2048) (by decide)]
  show shapeCast S96x2048 x shapeCasts_S96x2048_S96x2048 i = _
  rw [shapeCast_self]

/-! ## The cast results -/

/-- For each block there is a point that writes it back. -/
theorem point (q LO : ℕ) (hLO : LO ≤ 127) (hq : q ≤ LO) : ∃ t : Fin grid0.N,
    ((t.val < 176 ∧ cchunk t < LO) ∧ (t.val % 11 < 7 ∨ t.val % 11 = 10) ∨ t.val = 186) ∧ min (cchunk (lastC t)) LO = q := by
  by_cases hl : q = LO
  · obtain ⟨t, ht⟩ : ∃ t : Fin grid0.N, t.val = 186 := ⟨⟨186, by rw [N_0]; omega⟩, rfl⟩
    have h1 : (lastC t).val = min (t.val - (t.val % 11 - 7)) 172 := rfl
    have h2 : cchunk (lastC t) = 8 * ((lastC t).val / 11) + min ((lastC t).val % 11) 7 := rfl
    exact ⟨t, .inr ht, by omega⟩
  · let s := if q % 8 < 7 then q % 8 else 10
    have hs : (s < 7 ∨ s = 10) ∧ min s 7 = q % 8 ∧ s - (s - 7) = q % 8 := by
      show ((if q % 8 < 7 then q % 8 else 10) < 7 ∨ (if q % 8 < 7 then q % 8 else 10) = 10) ∧ min (if q % 8 < 7 then q % 8 else 10) 7 = q % 8
        ∧ (if q % 8 < 7 then q % 8 else 10) - ((if q % 8 < 7 then q % 8 else 10) - 7) = q % 8
      split <;> omega
    let t : Fin grid0.N := ⟨11 * (q / 8) + s, by rw [N_0]; omega⟩
    have ht : t.val = 11 * (q / 8) + s := rfl
    have hl : (lastC t).val = min (t.val - (t.val % 11 - 7)) 172 := rfl
    have h1 : cchunk t = 8 * (t.val / 11) + min (t.val % 11) 7 := rfl
    have h2 : cchunk (lastC t) = 8 * ((lastC t).val / 11) + min ((lastC t).val % 11) 7 := rfl
    have hd : t.val / 11 = q / 8 ∧ t.val % 11 = s := by omega
    have hL : (lastC t).val = 11 * (q / 8) + q % 8 := by omega
    refine ⟨t, .inl ⟨⟨by omega, by omega⟩, by omega⟩, by omega⟩

/-- The left half of the second block's input weights, its columns padded with zeros. -/
def G15 (i : S2048x5632.Idx) : EReal := Spec.padL (a6 m c) (i 0) (i 1)
/-- The right half. -/
def G16 (i : S2048x5632.Idx) : EReal := Spec.padR (a6 m c) (i 0) (i 1)
/-- The second block's output weights, their rows padded with zeros. -/
def G17 (i : S5632x2048.Idx) : EReal := Spec.padO (a7 m c) (i 0) (i 1)
/-- The first projection's weights. -/
def G18 (i : S2048x2048.Idx) : EReal := a8 m c (ix3 0 (i 0) (i 1))
/-- The output projection's weights. -/
def G19 (i : S2048x2048.Idx) : EReal := a9 m c (ix3 0 (i 0) (i 1))
/-- The gated unit's weights. -/
def G20 (i : S1024x4096.Idx) : EReal := a10 m c (ix3 0 (i 0) (i 1))
/-- The input projection's weights, turned over. -/
def G21 (i : S10272x2048.Idx) : EReal := a11 m c (ix3 0 (i 1) (i 0))

/-- A row of the block a point leaves in the staging buffer of window 15. -/
theorem o15_apply (t : Fin grid0.N) (p : Fin 16) (n : Fin 5632) (k : Fin 2048) (hk : k.val = 16 * min (cchunk (lastC t)) 127 + p.val) :
    o15 m c t (ix2 p n) = G15 m c (ix2 k n) := by
  unfold o15
  refine (cast15_apply _ p n).trans ?_
  show _ = Spec.padL (a6 m c) k n
  refine dite_congr rfl (fun hn => ?_) (fun _ => rfl)
  rw [b7_apply m c t p _ k hk, V_7]

/-- What a point that writes back to window 15 writes is its block of the result. -/
theorem flushed15_eq (t : Fin cfg0.N) :
    (dats m 0 c).flushed 15 t = ((cfg0.win 15).blk t).view.read (Elt Ideal) (G15 m c) := by
  show (cfg0.win 15).cut (grid0.coords t) ((dats m 0 c).after 15 t) = _
  rw [after15]
  show o15 m c t = fun y => G15 m c ((win0_15.rect t).emb y)
  funext y
  obtain ⟨p, d, rfl⟩ : ∃ p d, y = ix2 p d := ⟨y 0, y 1, eq_ix2 y⟩
  obtain ⟨h0, h1⟩ := index15 t
  have e0 : ((win0_15.rect t).emb (ix2 p d) 0).val = 16 * min (cchunk (lastC t)) 127 + p.val := by
    rw [Pipeline.Window.rect_emb_val_off, h0]
    show min (cchunk (lastC t)) 127 * 16 + p.val = _
    omega
  have e1 : ((win0_15.rect t).emb (ix2 p d) 1).val = d.val := by
    rw [Pipeline.Window.rect_emb_val_off, h1]
    show 0 * 5632 + d.val = d.val
    omega
  refine (o15_apply m c t p d ((win0_15.rect t).emb (ix2 p d) 0) e0).trans ?_
  exact congrArg (G15 m c) (Spec.ext2 rfl e1.symm)

/-- The blocks written back there cover the result. -/
theorem cover15 (i : S2048x5632.Idx) : ∃ t : Fin cfg0.N, (cfg0.win 15).flush t = true ∧ i ∈ ((cfg0.win 15).blk t).view.set := by
  have hi0 : (i 0).val < 2048 := (i 0).isLt
  have hi1 : (i 1).val < 5632 := (i 1).isLt
  obtain ⟨t, hf, hq⟩ := point ((i 0).val / 16) 127 (by omega) (by omega)
  refine ⟨t, ?_, ?_⟩
  · rw [flush15]
    simp only [Bool.or_eq_true, Bool.and_eq_true, decide_eq_true_eq]
    exact hf
  · show i ∈ ((View.whole main_v27_2).slice (win0_15.rect t)).set
    rw [View.set_slice_whole, Rect.mem_set_unit]
    obtain ⟨h0, h1⟩ := index15 t
    rw [hq] at h0
    intro a
    match a with
    | ⟨0, _⟩ =>
      show win0_15.index t 0 * 16 ≤ (i 0).val ∧ (i 0).val < win0_15.index t 0 * 16 + 16
      rw [h0]; omega
    | ⟨1, _⟩ =>
      show win0_15.index t 1 * 5632 ≤ (i 1).val ∧ (i 1).val < win0_15.index t 1 * 5632 + 5632
      rw [h1]; omega

theorem final15 : (dats m 0 c).arrAt 15 cfg0.N = G15 m c :=
  (dats m 0 c).arrAt_eq_of_cover 15 (G15 m c) (fun t _ => flushed15_eq m c t) cover15

/-- A row of the block a point leaves in the staging buffer of window 16. -/
theorem o16_apply (t : Fin grid0.N) (p : Fin 16) (n : Fin 5632) (k : Fin 2048) (hk : k.val = 16 * min (cchunk (lastC t)) 127 + p.val) :
    o16 m c t (ix2 p n) = G16 m c (ix2 k n) := by
  unfold o16
  refine (cast16_apply _ p n).trans ?_
  show _ = Spec.padR (a6 m c) k n
  refine dite_congr rfl (fun hn => ?_) (fun _ => rfl)
  rw [b7_apply m c t p _ k hk, V_7]

/-- What a point that writes back to window 16 writes is its block of the result. -/
theorem flushed16_eq (t : Fin cfg0.N) :
    (dats m 0 c).flushed 16 t = ((cfg0.win 16).blk t).view.read (Elt Ideal) (G16 m c) := by
  show (cfg0.win 16).cut (grid0.coords t) ((dats m 0 c).after 16 t) = _
  rw [after16]
  show o16 m c t = fun y => G16 m c ((win0_16.rect t).emb y)
  funext y
  obtain ⟨p, d, rfl⟩ : ∃ p d, y = ix2 p d := ⟨y 0, y 1, eq_ix2 y⟩
  obtain ⟨h0, h1⟩ := index16 t
  have e0 : ((win0_16.rect t).emb (ix2 p d) 0).val = 16 * min (cchunk (lastC t)) 127 + p.val := by
    rw [Pipeline.Window.rect_emb_val_off, h0]
    show min (cchunk (lastC t)) 127 * 16 + p.val = _
    omega
  have e1 : ((win0_16.rect t).emb (ix2 p d) 1).val = d.val := by
    rw [Pipeline.Window.rect_emb_val_off, h1]
    show 0 * 5632 + d.val = d.val
    omega
  refine (o16_apply m c t p d ((win0_16.rect t).emb (ix2 p d) 0) e0).trans ?_
  exact congrArg (G16 m c) (Spec.ext2 rfl e1.symm)

/-- The blocks written back there cover the result. -/
theorem cover16 (i : S2048x5632.Idx) : ∃ t : Fin cfg0.N, (cfg0.win 16).flush t = true ∧ i ∈ ((cfg0.win 16).blk t).view.set := by
  have hi0 : (i 0).val < 2048 := (i 0).isLt
  have hi1 : (i 1).val < 5632 := (i 1).isLt
  obtain ⟨t, hf, hq⟩ := point ((i 0).val / 16) 127 (by omega) (by omega)
  refine ⟨t, ?_, ?_⟩
  · rw [flush16]
    simp only [Bool.or_eq_true, Bool.and_eq_true, decide_eq_true_eq]
    exact hf
  · show i ∈ ((View.whole main_v27_3).slice (win0_16.rect t)).set
    rw [View.set_slice_whole, Rect.mem_set_unit]
    obtain ⟨h0, h1⟩ := index16 t
    rw [hq] at h0
    intro a
    match a with
    | ⟨0, _⟩ =>
      show win0_16.index t 0 * 16 ≤ (i 0).val ∧ (i 0).val < win0_16.index t 0 * 16 + 16
      rw [h0]; omega
    | ⟨1, _⟩ =>
      show win0_16.index t 1 * 5632 ≤ (i 1).val ∧ (i 1).val < win0_16.index t 1 * 5632 + 5632
      rw [h1]; omega

theorem final16 : (dats m 0 c).arrAt 16 cfg0.N = G16 m c :=
  (dats m 0 c).arrAt_eq_of_cover 16 (G16 m c) (fun t _ => flushed16_eq m c t) cover16

/-- A row of the block a point leaves in the staging buffer of window 17. -/
theorem o17_apply (t : Fin grid0.N) (p : Fin 64) (n : Fin 2048) (k : Fin 5632) (hk : k.val = 64 * min (cchunk (lastC t)) 87 + p.val) :
    o17 m c t (ix2 p n) = G17 m c (ix2 k n) := by
  unfold o17
  refine (cast17_apply (lastC t) _ p n).trans ?_
  show _ = Spec.padO (a7 m c) k n
  unfold Spec.padO
  by_cases hn : k.val < 5504
  · rw [dif_pos hn, if_pos (by omega), b8_apply m c t p n ⟨k.val, hn⟩ (by show k.val = 64 * min (cchunk (lastC t)) 85 + p.val; omega), V_8]
  · rw [dif_neg hn, if_neg (by omega)]

/-- What a point that writes back to window 17 writes is its block of the result. -/
theorem flushed17_eq (t : Fin cfg0.N) :
    (dats m 0 c).flushed 17 t = ((cfg0.win 17).blk t).view.read (Elt Ideal) (G17 m c) := by
  show (cfg0.win 17).cut (grid0.coords t) ((dats m 0 c).after 17 t) = _
  rw [after17]
  show o17 m c t = fun y => G17 m c ((win0_17.rect t).emb y)
  funext y
  obtain ⟨p, d, rfl⟩ : ∃ p d, y = ix2 p d := ⟨y 0, y 1, eq_ix2 y⟩
  obtain ⟨h0, h1⟩ := index17 t
  have e0 : ((win0_17.rect t).emb (ix2 p d) 0).val = 64 * min (cchunk (lastC t)) 87 + p.val := by
    rw [Pipeline.Window.rect_emb_val_off, h0]
    show min (cchunk (lastC t)) 87 * 64 + p.val = _
    omega
  have e1 : ((win0_17.rect t).emb (ix2 p d) 1).val = d.val := by
    rw [Pipeline.Window.rect_emb_val_off, h1]
    show 0 * 2048 + d.val = d.val
    omega
  refine (o17_apply m c t p d ((win0_17.rect t).emb (ix2 p d) 0) e0).trans ?_
  exact congrArg (G17 m c) (Spec.ext2 rfl e1.symm)

/-- The blocks written back there cover the result. -/
theorem cover17 (i : S5632x2048.Idx) : ∃ t : Fin cfg0.N, (cfg0.win 17).flush t = true ∧ i ∈ ((cfg0.win 17).blk t).view.set := by
  have hi0 : (i 0).val < 5632 := (i 0).isLt
  have hi1 : (i 1).val < 2048 := (i 1).isLt
  obtain ⟨t, hf, hq⟩ := point ((i 0).val / 64) 87 (by omega) (by omega)
  refine ⟨t, ?_, ?_⟩
  · rw [flush17]
    simp only [Bool.or_eq_true, Bool.and_eq_true, decide_eq_true_eq]
    exact hf
  · show i ∈ ((View.whole main_v27_4).slice (win0_17.rect t)).set
    rw [View.set_slice_whole, Rect.mem_set_unit]
    obtain ⟨h0, h1⟩ := index17 t
    rw [hq] at h0
    intro a
    match a with
    | ⟨0, _⟩ =>
      show win0_17.index t 0 * 64 ≤ (i 0).val ∧ (i 0).val < win0_17.index t 0 * 64 + 64
      rw [h0]; omega
    | ⟨1, _⟩ =>
      show win0_17.index t 1 * 2048 ≤ (i 1).val ∧ (i 1).val < win0_17.index t 1 * 2048 + 2048
      rw [h1]; omega

theorem final17 : (dats m 0 c).arrAt 17 cfg0.N = G17 m c :=
  (dats m 0 c).arrAt_eq_of_cover 17 (G17 m c) (fun t _ => flushed17_eq m c t) cover17

/-- A row of the block a point leaves in the staging buffer of window 18. -/
theorem o18_apply (t : Fin grid0.N) (p : Fin 16) (n : Fin 2048) (k : Fin 2048) (hk : k.val = 16 * min (cchunk (lastC t)) 127 + p.val) :
    o18 m c t (ix2 p n) = G18 m c (ix2 k n) := by
  unfold o18
  refine (cast18_apply _ _).trans ?_
  exact (b9_apply m c t p n k hk).trans (V_9 m c k n)

/-- What a point that writes back to window 18 writes is its block of the result. -/
theorem flushed18_eq (t : Fin cfg0.N) :
    (dats m 0 c).flushed 18 t = ((cfg0.win 18).blk t).view.read (Elt Ideal) (G18 m c) := by
  show (cfg0.win 18).cut (grid0.coords t) ((dats m 0 c).after 18 t) = _
  rw [after18]
  show o18 m c t = fun y => G18 m c ((win0_18.rect t).emb y)
  funext y
  obtain ⟨p, d, rfl⟩ : ∃ p d, y = ix2 p d := ⟨y 0, y 1, eq_ix2 y⟩
  obtain ⟨h0, h1⟩ := index18 t
  have e0 : ((win0_18.rect t).emb (ix2 p d) 0).val = 16 * min (cchunk (lastC t)) 127 + p.val := by
    rw [Pipeline.Window.rect_emb_val_off, h0]
    show min (cchunk (lastC t)) 127 * 16 + p.val = _
    omega
  have e1 : ((win0_18.rect t).emb (ix2 p d) 1).val = d.val := by
    rw [Pipeline.Window.rect_emb_val_off, h1]
    show 0 * 2048 + d.val = d.val
    omega
  refine (o18_apply m c t p d ((win0_18.rect t).emb (ix2 p d) 0) e0).trans ?_
  exact congrArg (G18 m c) (Spec.ext2 rfl e1.symm)

/-- The blocks written back there cover the result. -/
theorem cover18 (i : S2048x2048.Idx) : ∃ t : Fin cfg0.N, (cfg0.win 18).flush t = true ∧ i ∈ ((cfg0.win 18).blk t).view.set := by
  have hi0 : (i 0).val < 2048 := (i 0).isLt
  have hi1 : (i 1).val < 2048 := (i 1).isLt
  obtain ⟨t, hf, hq⟩ := point ((i 0).val / 16) 127 (by omega) (by omega)
  refine ⟨t, ?_, ?_⟩
  · rw [flush18]
    simp only [Bool.or_eq_true, Bool.and_eq_true, decide_eq_true_eq]
    exact hf
  · show i ∈ ((View.whole main_v27_5).slice (win0_18.rect t)).set
    rw [View.set_slice_whole, Rect.mem_set_unit]
    obtain ⟨h0, h1⟩ := index18 t
    rw [hq] at h0
    intro a
    match a with
    | ⟨0, _⟩ =>
      show win0_18.index t 0 * 16 ≤ (i 0).val ∧ (i 0).val < win0_18.index t 0 * 16 + 16
      rw [h0]; omega
    | ⟨1, _⟩ =>
      show win0_18.index t 1 * 2048 ≤ (i 1).val ∧ (i 1).val < win0_18.index t 1 * 2048 + 2048
      rw [h1]; omega

theorem final18 : (dats m 0 c).arrAt 18 cfg0.N = G18 m c :=
  (dats m 0 c).arrAt_eq_of_cover 18 (G18 m c) (fun t _ => flushed18_eq m c t) cover18

/-- A row of the block a point leaves in the staging buffer of window 19. -/
theorem o19_apply (t : Fin grid0.N) (p : Fin 16) (n : Fin 2048) (k : Fin 2048) (hk : k.val = 16 * min (cchunk (lastC t)) 127 + p.val) :
    o19 m c t (ix2 p n) = G19 m c (ix2 k n) := by
  unfold o19
  refine (cast19_apply _ _).trans ?_
  exact (b10_apply m c t p n k hk).trans (V_10 m c k n)

/-- What a point that writes back to window 19 writes is its block of the result. -/
theorem flushed19_eq (t : Fin cfg0.N) :
    (dats m 0 c).flushed 19 t = ((cfg0.win 19).blk t).view.read (Elt Ideal) (G19 m c) := by
  show (cfg0.win 19).cut (grid0.coords t) ((dats m 0 c).after 19 t) = _
  rw [after19]
  show o19 m c t = fun y => G19 m c ((win0_19.rect t).emb y)
  funext y
  obtain ⟨p, d, rfl⟩ : ∃ p d, y = ix2 p d := ⟨y 0, y 1, eq_ix2 y⟩
  obtain ⟨h0, h1⟩ := index19 t
  have e0 : ((win0_19.rect t).emb (ix2 p d) 0).val = 16 * min (cchunk (lastC t)) 127 + p.val := by
    rw [Pipeline.Window.rect_emb_val_off, h0]
    show min (cchunk (lastC t)) 127 * 16 + p.val = _
    omega
  have e1 : ((win0_19.rect t).emb (ix2 p d) 1).val = d.val := by
    rw [Pipeline.Window.rect_emb_val_off, h1]
    show 0 * 2048 + d.val = d.val
    omega
  refine (o19_apply m c t p d ((win0_19.rect t).emb (ix2 p d) 0) e0).trans ?_
  exact congrArg (G19 m c) (Spec.ext2 rfl e1.symm)

/-- The blocks written back there cover the result. -/
theorem cover19 (i : S2048x2048.Idx) : ∃ t : Fin cfg0.N, (cfg0.win 19).flush t = true ∧ i ∈ ((cfg0.win 19).blk t).view.set := by
  have hi0 : (i 0).val < 2048 := (i 0).isLt
  have hi1 : (i 1).val < 2048 := (i 1).isLt
  obtain ⟨t, hf, hq⟩ := point ((i 0).val / 16) 127 (by omega) (by omega)
  refine ⟨t, ?_, ?_⟩
  · rw [flush19]
    simp only [Bool.or_eq_true, Bool.and_eq_true, decide_eq_true_eq]
    exact hf
  · show i ∈ ((View.whole main_v27_6).slice (win0_19.rect t)).set
    rw [View.set_slice_whole, Rect.mem_set_unit]
    obtain ⟨h0, h1⟩ := index19 t
    rw [hq] at h0
    intro a
    match a with
    | ⟨0, _⟩ =>
      show win0_19.index t 0 * 16 ≤ (i 0).val ∧ (i 0).val < win0_19.index t 0 * 16 + 16
      rw [h0]; omega
    | ⟨1, _⟩ =>
      show win0_19.index t 1 * 2048 ≤ (i 1).val ∧ (i 1).val < win0_19.index t 1 * 2048 + 2048
      rw [h1]; omega

theorem final19 : (dats m 0 c).arrAt 19 cfg0.N = G19 m c :=
  (dats m 0 c).arrAt_eq_of_cover 19 (G19 m c) (fun t _ => flushed19_eq m c t) cover19

/-- A row of the block a point leaves in the staging buffer of window 20. -/
theorem o20_apply (t : Fin grid0.N) (p : Fin 16) (n : Fin 4096) (k : Fin 1024) (hk : k.val = 16 * min (cchunk (lastC t)) 63 + p.val) :
    o20 m c t (ix2 p n) = G20 m c (ix2 k n) := by
  unfold o20
  refine (cast20_apply _ _).trans ?_
  exact (b11_apply m c t p n k hk).trans (V_11 m c k n)

/-- What a point that writes back to window 20 writes is its block of the result. -/
theorem flushed20_eq (t : Fin cfg0.N) :
    (dats m 0 c).flushed 20 t = ((cfg0.win 20).blk t).view.read (Elt Ideal) (G20 m c) := by
  show (cfg0.win 20).cut (grid0.coords t) ((dats m 0 c).after 20 t) = _
  rw [after20]
  show o20 m c t = fun y => G20 m c ((win0_20.rect t).emb y)
  funext y
  obtain ⟨p, d, rfl⟩ : ∃ p d, y = ix2 p d := ⟨y 0, y 1, eq_ix2 y⟩
  obtain ⟨h0, h1⟩ := index20 t
  have e0 : ((win0_20.rect t).emb (ix2 p d) 0).val = 16 * min (cchunk (lastC t)) 63 + p.val := by
    rw [Pipeline.Window.rect_emb_val_off, h0]
    show min (cchunk (lastC t)) 63 * 16 + p.val = _
    omega
  have e1 : ((win0_20.rect t).emb (ix2 p d) 1).val = d.val := by
    rw [Pipeline.Window.rect_emb_val_off, h1]
    show 0 * 4096 + d.val = d.val
    omega
  refine (o20_apply m c t p d ((win0_20.rect t).emb (ix2 p d) 0) e0).trans ?_
  exact congrArg (G20 m c) (Spec.ext2 rfl e1.symm)

/-- The blocks written back there cover the result. -/
theorem cover20 (i : S1024x4096.Idx) : ∃ t : Fin cfg0.N, (cfg0.win 20).flush t = true ∧ i ∈ ((cfg0.win 20).blk t).view.set := by
  have hi0 : (i 0).val < 1024 := (i 0).isLt
  have hi1 : (i 1).val < 4096 := (i 1).isLt
  obtain ⟨t, hf, hq⟩ := point ((i 0).val / 16) 63 (by omega) (by omega)
  refine ⟨t, ?_, ?_⟩
  · rw [flush20]
    simp only [Bool.or_eq_true, Bool.and_eq_true, decide_eq_true_eq]
    exact hf
  · show i ∈ ((View.whole main_v27_7).slice (win0_20.rect t)).set
    rw [View.set_slice_whole, Rect.mem_set_unit]
    obtain ⟨h0, h1⟩ := index20 t
    rw [hq] at h0
    intro a
    match a with
    | ⟨0, _⟩ =>
      show win0_20.index t 0 * 16 ≤ (i 0).val ∧ (i 0).val < win0_20.index t 0 * 16 + 16
      rw [h0]; omega
    | ⟨1, _⟩ =>
      show win0_20.index t 1 * 4096 ≤ (i 1).val ∧ (i 1).val < win0_20.index t 1 * 4096 + 4096
      rw [h1]; omega

theorem final20 : (dats m 0 c).arrAt 20 cfg0.N = G20 m c :=
  (dats m 0 c).arrAt_eq_of_cover 20 (G20 m c) (fun t _ => flushed20_eq m c t) cover20

/-- A row of the block a point leaves in the staging buffer of window 21. -/
theorem o21_apply (t : Fin grid0.N) (p : Fin 96) (n : Fin 2048) (k : Fin 10272) (hk : k.val = 96 * min (cchunk (lastC t)) 106 + p.val) :
    o21 m c t (ix2 p n) = G21 m c (ix2 k n) := by
  unfold o21
  refine (cast21_apply _ _).trans ?_
  exact (b12_apply m c t p n k hk).trans (V_12 m c k n)

/-- What a point that writes back to window 21 writes is its block of the result. -/
theorem flushed21_eq (t : Fin cfg0.N) :
    (dats m 0 c).flushed 21 t = ((cfg0.win 21).blk t).view.read (Elt Ideal) (G21 m c) := by
  show (cfg0.win 21).cut (grid0.coords t) ((dats m 0 c).after 21 t) = _
  rw [after21]
  show o21 m c t = fun y => G21 m c ((win0_21.rect t).emb y)
  funext y
  obtain ⟨p, d, rfl⟩ : ∃ p d, y = ix2 p d := ⟨y 0, y 1, eq_ix2 y⟩
  obtain ⟨h0, h1⟩ := index21 t
  have e0 : ((win0_21.rect t).emb (ix2 p d) 0).val = 96 * min (cchunk (lastC t)) 106 + p.val := by
    rw [Pipeline.Window.rect_emb_val_off, h0]
    show min (cchunk (lastC t)) 106 * 96 + p.val = _
    omega
  have e1 : ((win0_21.rect t).emb (ix2 p d) 1).val = d.val := by
    rw [Pipeline.Window.rect_emb_val_off, h1]
    show 0 * 2048 + d.val = d.val
    omega
  refine (o21_apply m c t p d ((win0_21.rect t).emb (ix2 p d) 0) e0).trans ?_
  exact congrArg (G21 m c) (Spec.ext2 rfl e1.symm)

/-- The blocks written back there cover the result. -/
theorem cover21 (i : S10272x2048.Idx) : ∃ t : Fin cfg0.N, (cfg0.win 21).flush t = true ∧ i ∈ ((cfg0.win 21).blk t).view.set := by
  have hi0 : (i 0).val < 10272 := (i 0).isLt
  have hi1 : (i 1).val < 2048 := (i 1).isLt
  obtain ⟨t, hf, hq⟩ := point ((i 0).val / 96) 106 (by omega) (by omega)
  refine ⟨t, ?_, ?_⟩
  · rw [flush21]
    simp only [Bool.or_eq_true, Bool.and_eq_true, decide_eq_true_eq]
    exact hf
  · show i ∈ ((View.whole main_v27_8).slice (win0_21.rect t)).set
    rw [View.set_slice_whole, Rect.mem_set_unit]
    obtain ⟨h0, h1⟩ := index21 t
    rw [hq] at h0
    intro a
    match a with
    | ⟨0, _⟩ =>
      show win0_21.index t 0 * 96 ≤ (i 0).val ∧ (i 0).val < win0_21.index t 0 * 96 + 96
      rw [h0]; omega
    | ⟨1, _⟩ =>
      show win0_21.index t 1 * 2048 ≤ (i 1).val ∧ (i 1).val < win0_21.index t 1 * 2048 + 2048
      rw [h1]; omega

theorem final21 : (dats m 0 c).arrAt 21 cfg0.N = G21 m c :=
  (dats m 0 c).arrAt_eq_of_cover 21 (G21 m c) (fun t _ => flushed21_eq m c t) cover21

end Cert.Kernel7Ideal.Hand

end
-- ==== Proof.Ffn1Ref.lean ====
/- The opening feed-forward block, its modulated norm and the cast weights: the reference's run leaves what the kernel's run leaves. -/
module

public import proofs.«01_k».proof.Defs
public import proofs.«01_k».proof.Proof.Ffn1Cast
public import proofs.«01_k».proof.Proof.Gen.Reference7Ideal.Read
public import proofs.«01_k».proof.Proof.Gen.Reference7Ideal.Run
public import Idealize.ShloMosaic.Lib.Quiescent

@[expose] public section

noncomputable section

namespace Cert.Reference7Ideal.Hand

open Cert.Reference7Ideal Idealize.ShloMosaic.ValueIdx
open Idealize.ShloMosaic hiding ix1 ix2 ix3 eq_ix2 addf_apply mulf_apply truncf_apply constant_apply

variable (x0 x1 : (⟨3, ![2, 8192, 2048]⟩ : Shape).Idx → EReal) (x2 : (⟨3, ![1, 2048, 11008]⟩ : Shape).Idx → EReal)
  (x3 : (⟨3, ![1, 5504, 2048]⟩ : Shape).Idx → EReal) (x4 : (⟨2, ![2, 18432]⟩ : Shape).Idx → EReal)
  (x5 : (⟨2, ![1, 2048]⟩ : Shape).Idx → EReal)

/-- The hidden features. -/
theorem v6_eq (i : S2x8192x11008.Idx) (r : Fin 16384) (n : Fin 11008) (h0 : (i 0).val * 8192 + (i 1).val = r.val) (h1 : (i 2).val = n.val) :
    Read.val_main_v6 (F := Ideal) x0 x2 i = Spec.ffnHid x0 x2 r n := by
  have hi : (i 1).val < 8192 := (i 1).isLt
  rw [Read.val_main_v6_apply]
  unfold Spec.ffnHid
  refine Finset.sum_congr rfl fun k _ => ?_
  rw [Read.val_main_v5_apply]
  have := k.isLt
  have := n.isLt
  congr 2
  · refine Spec.ext3 ?_ ?_ ?_
    · show (i 0).val = r.val / 8192
      omega
    · show (i 1).val = r.val % 8192
      omega
    · rfl
  · refine Spec.ext3 ?_ ?_ ?_
    · rfl
    · show (k.val * 11008 + (i 2).val) / 11008 % 2048 = k.val
      omega
    · show (k.val * 11008 + (i 2).val) % 11008 = n.val
      omega

/-- The activations. -/
theorem v12_eq (i : S2x8192x5504.Idx) (r : Fin 16384) (n : Fin 5504) (h0 : (i 0).val * 8192 + (i 1).val = r.val) (h1 : (i 2).val = n.val) :
    Read.val_main_v12 (F := Ideal) x0 x2 i = Spec.ffnAct x0 x2 r n := by
  have ea : Read.val_main_v7 (F := Ideal) x0 x2 i = Spec.ffnHid x0 x2 r ⟨n.val, by omega⟩ := by
    rw [Read.val_main_v7_apply]
    exact v6_eq x0 x2 _ r _ h0 h1
  have eb : Read.val_main_v8 (F := Ideal) x0 x2 i = Spec.ffnHid x0 x2 r ⟨5504 + n.val, by omega⟩ := by
    rw [Read.val_main_v8_apply]
    refine v6_eq x0 x2 _ r _ h0 ?_
    show 5504 + (i 2).val = 5504 + n.val
    omega
  rw [Read.val_main_v12_apply, Read.val_main_v11_apply, Read.val_main_call0_v5_apply, Read.val_main_call0_v4_apply, Read.val_main_call0_cst_0_apply,
    Read.val_main_call0_v3_apply, Read.val_main_call0_v2_apply, Read.val_main_call0_cst_apply, Read.val_main_call0_v1_apply,
    Read.val_main_call0_v0_apply, ea, eb]
  unfold Spec.ffnAct Spec.gated
  rw [← Spec.div_exp]
  rfl

/-- The activations times the output weights. -/
theorem v14_eq (i : S2x8192x2048.Idx) (r : Fin 16384) (d : Fin 2048) (h0 : (i 0).val * 8192 + (i 1).val = r.val) (h1 : (i 2).val = d.val) :
    Read.val_main_v14 (F := Ideal) x0 x2 x3 i = Spec.ffnSum x0 x2 x3 r d := by
  rw [Read.val_main_v14_apply]
  unfold Spec.ffnSum
  refine Finset.sum_congr rfl fun n _ => ?_
  rw [Read.val_main_v13_apply]
  have := n.isLt
  have := d.isLt
  refine congrArg₂ (· * ·) (v12_eq x0 x2 _ r n h0 rfl) (congrArg x3 ?_)
  refine Spec.ext3 ?_ ?_ ?_
  · rfl
  · show (n.val * 2048 + (i 2).val) / 2048 % 5504 = n.val
    omega
  · show (n.val * 2048 + (i 2).val) % 2048 = d.val
    omega

/-- A slab of the modulation as the reference cuts it out of its three. -/
theorem v2_eq (i : S2x1x2048.Idx) (r : Fin 16384) (d : Fin 2048) (h0 : (i 0).val = r.val / 8192) (h1 : (i 2).val = d.val) :
    Read.val_main_v2 (F := Ideal) x4 i = Spec.slab x4 2 r d := by
  rw [Read.val_main_v2_apply, Read.val_main_v1_apply, Read.val_main_v0_apply]
  unfold Spec.slab
  refine congrArg x4 (Spec.ext2 h0 ?_)
  show 4096 + (i 2).val = 2048 * 2 + d.val
  omega
theorem v3_eq (i : S2x1x2048.Idx) (r : Fin 16384) (d : Fin 2048) (h0 : (i 0).val = r.val / 8192) (h1 : (i 2).val = d.val) :
    Read.val_main_v3 (F := Ideal) x4 i = Spec.slab x4 3 r d := by
  rw [Read.val_main_v3_apply, Read.val_main_v1_apply, Read.val_main_v0_apply]
  unfold Spec.slab
  refine congrArg x4 (Spec.ext2 h0 ?_)
  show 4096 + (2048 + (i 2).val) = 2048 * 3 + d.val
  omega
theorem v4_eq (i : S2x1x2048.Idx) (r : Fin 16384) (d : Fin 2048) (h0 : (i 0).val = r.val / 8192) (h1 : (i 2).val = d.val) :
    Read.val_main_v4 (F := Ideal) x4 i = Spec.slab x4 4 r d := by
  rw [Read.val_main_v4_apply, Read.val_main_v1_apply, Read.val_main_v0_apply]
  unfold Spec.slab
  refine congrArg x4 (Spec.ext2 h0 ?_)
  show 4096 + (4096 + (i 2).val) = 2048 * 4 + d.val
  omega

/-- The rows with half the gate times the block added. -/
theorem v17_eq (i : S2x8192x2048.Idx) (r : Fin 16384) (d : Fin 2048) (h0 : (i 0).val * 8192 + (i 1).val = r.val) (h1 : (i 2).val = d.val) :
    Read.val_main_v17 (F := Ideal) x0 x1 x2 x3 x4 i = Spec.ffn1Res x0 x1 x2 x3 x4 r d := by
  have hi : (i 1).val < 8192 := (i 1).isLt
  rw [Read.val_main_v17_apply, Read.val_main_v16_apply, v14_eq x0 x2 x3 i r d h0 h1, Read.val_main_v15_apply, Read.val_main_v10_apply,
    Read.val_main_v9_apply, Read.val_main_cst_apply,
    v2_eq x4 (Read.idx_main_v15 i) r d (by show (i 0).val = r.val / 8192; omega) h1]
  unfold Spec.ffn1Res
  refine congrArg₂ (· + ·) (congrArg x1 ?_) rfl
  refine Spec.ext3 ?_ ?_ h1
  · show (i 0).val = r.val / 8192
    omega
  · show (i 1).val = r.val % 8192
    omega

/-- The squares of a row, summed. -/
theorem v19_eq (i : S2x8192.Idx) (r : Fin 16384) (h0 : (i 0).val * 8192 + (i 1).val = r.val) :
    Read.val_main_v19 (F := Ideal) x0 x1 x2 x3 x4 i
      = ∑ k : Fin 2048, Spec.ffn1Res x0 x1 x2 x3 x4 r k * Spec.ffn1Res x0 x1 x2 x3 x4 r k := by
  rw [Read.val_main_v19_apply, Read.val_main_cst_0_apply]
  refine (congrArg (· + _) Spec.zero_bits).trans ((zero_add _).trans ?_)
  refine Finset.sum_congr rfl fun k _ => ?_
  rw [Read.val_main_v18_apply, v17_eq x0 x1 x2 x3 x4 (Read.idx_main_v19 i k) r k h0 rfl]
  rfl

/-- The modulated norm of a row. -/
theorem v37_eq (y : S2x8192x2048.Idx) (r : Fin 16384) (d : Fin 2048) (e0 : (y 0).val * 8192 + (y 1).val = r.val) (e1 : (y 2).val = d.val) :
    Read.val_main_v37 (F := Ideal) x0 x1 x2 x3 x4 x5 y = Spec.ffn1Out x0 x1 x2 x3 x4 x5 r d := by
  have hy : (y 1).val < 8192 := (y 1).isLt
  have hd := d.isLt
  rw [Read.val_main_v37_apply, Read.val_main_v36_apply, v3_eq x4 (Read.idx_main_v36 y) r d (by show (y 0).val = r.val / 8192; omega) e1,
    Read.val_main_v35_apply, Read.val_main_v34_apply, Read.val_main_v33_apply, Read.val_main_v32_apply, Read.val_main_cst_3_apply,
    v4_eq x4 (Read.idx_main_v34 y) r d (by show (y 0).val = r.val / 8192; omega) e1,
    Read.val_main_v31_apply, Read.val_main_v30_apply, Read.val_main_v29_apply, Read.val_main_v28_apply, Read.val_main_v27_apply,
    Read.val_main_v26_apply, Read.val_main_v25_apply, Read.val_main_v24_apply, Read.val_main_v23_apply, Read.val_main_cst_2_apply,
    Read.val_main_v22_apply, Read.val_main_v21_apply, Read.val_main_cst_1_apply, Read.val_main_v20_apply,
    v19_eq x0 x1 x2 x3 x4 (Read.idx_main_v20 (Read.idx_main_v26 y)) r e0, v17_eq x0 x1 x2 x3 x4 y r d e0 e1]
  unfold Spec.ffn1Out Spec.modulated Spec.rms
  refine congrArg₂ (· + ·) (congrArg₂ (· * ·) (congrArg₂ (· * ·) rfl (congrArg x5 ?_)) rfl) rfl
  refine Spec.ext2 rfl ?_
  show (y 2).val % 2048 = d.val
  omega

section
variable (i : S16384x2048.Idx) (r : Fin 16384) (d : Fin 2048) (h0 : (i 0).val = r.val) (h1 : (i 1).val = d.val)
include h0 h1

/-- The reference's first result at an index, -/
theorem v38_eq : Read.val_main_v38 (F := Ideal) x0 x1 x2 x3 x4 i = Spec.ffn1Res x0 x1 x2 x3 x4 r d := by
  have := d.isLt
  rw [Read.val_main_v38_apply]
  refine v17_eq x0 x1 x2 x3 x4 _ r d ?_ ?_
  · show ((i 0).val * 2048 + (i 1).val) / 16777216 * 8192 + ((i 0).val * 2048 + (i 1).val) / 2048 % 8192 = r.val
    omega
  · show ((i 0).val * 2048 + (i 1).val) % 2048 = d.val
    omega

/-- and its second. -/
theorem v40_eq : Read.val_main_v40 (F := Ideal) x0 x1 x2 x3 x4 x5 i = Spec.ffn1Out x0 x1 x2 x3 x4 x5 r d := by
  have := d.isLt
  rw [Read.val_main_v40_apply, Read.val_main_v39_apply]
  refine v37_eq x0 x1 x2 x3 x4 x5 _ r d ?_ ?_
  · show ((i 0).val * 2048 + (i 1).val) / 16777216 * 8192 + ((i 0).val * 2048 + (i 1).val) / 2048 % 8192 = r.val
    omega
  · show ((i 0).val * 2048 + (i 1).val) % 2048 = d.val
    omega

end

end Cert.Reference7Ideal.Hand

namespace Cert.Kernel7Ideal.Hand

open Cert.Kernel7Ideal Cert.Kernel7Ideal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The run with the result arrays named and the arguments unchanged. -/
theorem run_result : θ_run defs (onTc (τ := τ) (main (F := F))) ⟨m, fun _ => 0, ρ⟩ fun r => ∀ c : Dev nD,
      r.2.mem ((c : Thread nD τ).loc main_v27_0) = (dats m 0 c).arrAt 13 cfg0.N
      ∧ r.2.mem ((c : Thread nD τ).loc main_v27_1) = (dats m 0 c).arrAt 14 cfg0.N
      ∧ r.2.mem ((c : Thread nD τ).loc main_v27_2) = (dats m 0 c).arrAt 15 cfg0.N
      ∧ r.2.mem ((c : Thread nD τ).loc main_v27_3) = (dats m 0 c).arrAt 16 cfg0.N
      ∧ r.2.mem ((c : Thread nD τ).loc main_v27_4) = (dats m 0 c).arrAt 17 cfg0.N
      ∧ r.2.mem ((c : Thread nD τ).loc main_v27_5) = (dats m 0 c).arrAt 18 cfg0.N
      ∧ r.2.mem ((c : Thread nD τ).loc main_v27_6) = (dats m 0 c).arrAt 19 cfg0.N
      ∧ r.2.mem ((c : Thread nD τ).loc main_v27_7) = (dats m 0 c).arrAt 20 cfg0.N
      ∧ r.2.mem ((c : Thread nD τ).loc main_v27_8) = (dats m 0 c).arrAt 21 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h.1 c).1 13, (h.1 c).1 14, (h.1 c).1 15, (h.1 c).1 16, (h.1 c).1 17, (h.1 c).1 18, (h.1 c).1 19, (h.1 c).1 20, (h.1 c).1 21, h.2 c⟩) (θ_run_and (run_main m ρ) (frame_of m ρ (dats m) (A_eq m) (run_main m ρ)))

end Cert.Kernel7Ideal.Hand

namespace Cert.Proof

open Idealize.ShloMosaic Idealize.SL.Sem

/-- The reference's run ends, leaves its arguments alone and every counter at zero. -/
theorem frame_Reference7Ideal : Cert.quiescent_Reference7Ideal := fun m ρ _ =>
  (θ_run Cert.Reference7Ideal.defs _ _).mono (fun r h => ⟨fun c => (h c).2.2.2.2.2.2.2.2.2, sem_eq_zero_of_no_sems rfl r.2⟩) (Cert.Reference7Ideal.Value.run (F := Ideal) m ρ)

/-- The kernel and the reference leave the same rows, with the opening block added, the same modulated norms of them, and the same cast weights. -/
theorem algebraic_7 : Cert.algebraic_Kernel7Ideal_Reference7Ideal := fun m g m' g' _ hargs =>
  ⟨fun c => Cert.Kernel7Ideal.Hand.G13 m c, fun c => Cert.Kernel7Ideal.Hand.G14 m c, fun c => Cert.Kernel7Ideal.Hand.G15 m c, fun c => Cert.Kernel7Ideal.Hand.G16 m c, fun c => Cert.Kernel7Ideal.Hand.G17 m c, fun c => Cert.Kernel7Ideal.Hand.G18 m c, fun c => Cert.Kernel7Ideal.Hand.G19 m c, fun c => Cert.Kernel7Ideal.Hand.G20 m c, fun c => Cert.Kernel7Ideal.Hand.G21 m c,
    (θ_run Cert.Kernel7Ideal.defs _ _).mono
      (fun _ h c => by
        obtain ⟨h0, h1, h2, h3, h4, h5, h6, h7, h8, hr⟩ := h c
        exact ⟨h0.trans (Cert.Kernel7Ideal.Hand.final13 m c), h1.trans (Cert.Kernel7Ideal.Hand.final14 m c), h2.trans (Cert.Kernel7Ideal.Hand.final15 m c), h3.trans (Cert.Kernel7Ideal.Hand.final16 m c), h4.trans (Cert.Kernel7Ideal.Hand.final17 m c), h5.trans (Cert.Kernel7Ideal.Hand.final18 m c), h6.trans (Cert.Kernel7Ideal.Hand.final19 m c), h7.trans (Cert.Kernel7Ideal.Hand.final20 m c), h8.trans (Cert.Kernel7Ideal.Hand.final21 m c), hr⟩)
      (Cert.Kernel7Ideal.Hand.run_result (F := Ideal) m g),
    (θ_run Cert.Reference7Ideal.defs _ _).mono
      (fun _ h c => by
        obtain ⟨e0, e1, e2, e3, e4, e5, e6, e7, e8, e9, e10, e11⟩ := hargs c
        obtain ⟨h0, h1, h2, h3, h4, h5, h6, h7, h8, hr⟩ := h c
        refine ⟨h0.trans ?_, h1.trans ?_, h2.trans ?_, h3.trans ?_, h4.trans ?_, h5.trans ?_, h6.trans ?_, h7.trans ?_, h8.trans ?_, hr⟩
        · rw [Cert.Reference7Ideal.Read.val_main_v38_eq]
          funext i
          rw [e0, e1, e2, e3, e4]
          exact Cert.Reference7Ideal.Hand.v38_eq _ _ _ _ _ i (i 0) (i 1) rfl rfl
        · rw [Cert.Reference7Ideal.Read.val_main_v40_eq]
          funext i
          rw [e0, e1, e2, e3, e4, e5]
          exact Cert.Reference7Ideal.Hand.v40_eq _ _ _ _ _ _ i (i 0) (i 1) rfl rfl
        · rw [e6]
          refine Cert.Kernel7Ideal.Hand.ext_pair fun k n => ?_
          exact Cert.Kernel7Ideal.Hand.castL_apply _ k n
        · rw [e6]
          refine Cert.Kernel7Ideal.Hand.ext_pair fun k n => ?_
          exact Cert.Kernel7Ideal.Hand.castR_apply _ k n
        · rw [e7]
          refine Cert.Kernel7Ideal.Hand.ext_pair fun k n => ?_
          exact Cert.Kernel7Ideal.Hand.castO_apply _ k n
        · rw [e8]
          refine Cert.Kernel7Ideal.Hand.ext_pair fun k n => ?_
          exact Cert.Kernel7Ideal.Hand.flat_apply _ _ k n
        · rw [e9]
          refine Cert.Kernel7Ideal.Hand.ext_pair fun k n => ?_
          exact Cert.Kernel7Ideal.Hand.flat_apply _ _ k n
        · rw [e10]
          refine Cert.Kernel7Ideal.Hand.ext_pair fun k n => ?_
          exact Cert.Kernel7Ideal.Hand.flat_apply _ _ k n
        · rw [e11]
          refine Cert.Kernel7Ideal.Hand.ext_pair fun k n => ?_
          exact Cert.Kernel7Ideal.Hand.turn_apply _ k n) (Cert.Reference7Ideal.Value.run (F := Ideal) m' g')⟩

end Cert.Proof

end
-- ==== Proof.lean ====
module

public import proofs.«01_k».proof.Defs
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel3Ideal.Value
public import proofs.«01_k».proof.Proof.Gen.Kernel5Ideal.Value
public import proofs.«01_k».proof.Proof.Gen.Reference3Ideal.Read
public import proofs.«01_k».proof.Proof.Gen.Reference5Ideal.Read
public import proofs.«01_k».proof.Proof.Gen.Reference3Ideal.Run
public import proofs.«01_k».proof.Proof.Gen.Reference5Ideal.Run
public import proofs.«01_k».proof.Proof.Proj3
public import proofs.«01_k».proof.Proof.Proj5
public import proofs.«01_k».proof.Proof.Gen.Kernel6
public import proofs.«01_k».proof.Proof.Gen.Kernel6Ideal
public import proofs.«01_k».proof.Proof.Gen.Reference6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal.Read
public import proofs.«01_k».proof.Proof.Gen.Reference6Ideal.Run
public import proofs.«01_k».proof.Proof.FfnFrame
public import proofs.«01_k».proof.Proof.FfnRef
public import proofs.«01_k».proof.Proof.Ffn1Frame
public import proofs.«01_k».proof.Proof.Ffn1Ref
public import proofs.«01_k».proof.Proof.Gen.Kernel7
public import proofs.«01_k».proof.Proof.Gen.Kernel7Ideal
public import proofs.«01_k».proof.Proof.Gen.Reference7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal.Read
public import proofs.«01_k».proof.Proof.Gen.Reference7Ideal.Run
public import Idealize.ShloMosaic.Adequacy
public import Idealize.ShloMosaic.Init

@[expose] public section

noncomputable section

namespace Cert.Proof

open Idealize.ShloMosaic Idealize.SL.Sem Cert.Kernel3

/-- The claim: for each of the two projections and for the two feed-forward blocks with the norms that follow them, the three programs
    run and leave their arguments alone, and the kernel and the reference compute the same results. -/
theorem claim : Cert.Claim := ⟨Cert.Kernel3.Gen.facts, Cert.Kernel3Ideal.Gen.facts, Cert.Reference3Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  fun m ρ _ => Cert.Kernel3.Gen.frame m ρ,
  fun m ρ _ => Cert.Kernel3Ideal.Gen.frame m ρ,
  frame_Reference3Ideal,
  fun m ρ _ => Cert.Kernel5.Gen.frame m ρ,
  fun m ρ _ => Cert.Kernel5Ideal.Gen.frame m ρ,
  frame_Reference5Ideal,
  Cert.Ffn.frame_Kernel6,
  Cert.Ffn.frame_Kernel6Ideal,
  frame_Reference6Ideal,
  Cert.Ffn1.frame_Kernel7,
  Cert.Ffn1.frame_Kernel7Ideal,
  frame_Reference7Ideal,
  trivial, algebraic_3, trivial, algebraic_5, trivial, algebraic_6, trivial, algebraic_7⟩

end Cert.Proof

end
